-- ==== Defs.lean ====
def Pre_KThree (m : (ℓ : Loc Cert.KThree.nD Cert.KThree.τ Cert.KThree.sig) → Buf (Elt Bits) ℓ) : Prop :=
  True

def Pre_KThreeIdeal (m : (ℓ : Loc Cert.KThreeIdeal.nD Cert.KThreeIdeal.τ Cert.KThreeIdeal.sig) → Buf (Elt Ideal) ℓ) : Prop :=
  True

def Pre_KThreeIdeal_finite [hPre_finite : Cert.Pre_finite.Facts] (m : (ℓ : Loc Cert.KThreeIdeal.nD Cert.KThreeIdeal.τ Cert.KThreeIdeal.sig) → Buf (Elt Ideal) ℓ) : Prop :=
  ∀ c : Dev Cert.KThreeIdeal.nD,
    (Cert.Pre_finite.fn (F := Ideal) (m ((c.tc : Thread Cert.KThreeIdeal.nD Cert.KThreeIdeal.τ).loc Cert.KThreeIdeal.main_arg0)) (m ((c.tc : Thread Cert.KThreeIdeal.nD Cert.KThreeIdeal.τ).loc Cert.KThreeIdeal.main_arg1))) = (fun _ => 1#1)

def Pre_RThreeIdeal (m : (ℓ : Loc Cert.RThreeIdeal.nD Cert.RThreeIdeal.τ Cert.RThreeIdeal.sig) → Buf (Elt Ideal) ℓ) : Prop :=
  True

def Pre_RThreeIdeal_finite [hPre_finite : Cert.Pre_finite.Facts] (m : (ℓ : Loc Cert.RThreeIdeal.nD Cert.RThreeIdeal.τ Cert.RThreeIdeal.sig) → Buf (Elt Ideal) ℓ) : Prop :=
  ∀ c : Dev Cert.RThreeIdeal.nD,
    (Cert.Pre_finite.fn (F := Ideal) (m ((c.tc : Thread Cert.RThreeIdeal.nD Cert.RThreeIdeal.τ).loc Cert.RThreeIdeal.main_arg0)) (m ((c.tc : Thread Cert.RThreeIdeal.nD Cert.RThreeIdeal.τ).loc Cert.RThreeIdeal.main_arg1))) = (fun _ => 1#1)

def Pre_KTwo (m : (ℓ : Loc Cert.KTwo.nD Cert.KTwo.τ Cert.KTwo.sig) → Buf (Elt Bits) ℓ) : Prop :=
  True

def Pre_KTwoIdeal (m : (ℓ : Loc Cert.KTwoIdeal.nD Cert.KTwoIdeal.τ Cert.KTwoIdeal.sig) → Buf (Elt Ideal) ℓ) : Prop :=
  True

def Pre_KTwoIdeal_finite2 [hPre_finite2 : Cert.Pre_finite2.Facts] (m : (ℓ : Loc Cert.KTwoIdeal.nD Cert.KTwoIdeal.τ Cert.KTwoIdeal.sig) → Buf (Elt Ideal) ℓ) : Prop :=
  ∀ c : Dev Cert.KTwoIdeal.nD,
    (Cert.Pre_finite2.fn (F := Ideal) (m ((c.tc : Thread Cert.KTwoIdeal.nD Cert.KTwoIdeal.τ).loc Cert.KTwoIdeal.main_arg0)) (m ((c.tc : Thread Cert.KTwoIdeal.nD Cert.KTwoIdeal.τ).loc Cert.KTwoIdeal.main_arg1))) = (fun _ => 1#1)

def Pre_RTwoIdeal (m : (ℓ : Loc Cert.RTwoIdeal.nD Cert.RTwoIdeal.τ Cert.RTwoIdeal.sig) → Buf (Elt Ideal) ℓ) : Prop :=
  True

def Pre_RTwoIdeal_finite2 [hPre_finite2 : Cert.Pre_finite2.Facts] (m : (ℓ : Loc Cert.RTwoIdeal.nD Cert.RTwoIdeal.τ Cert.RTwoIdeal.sig) → Buf (Elt Ideal) ℓ) : Prop :=
  ∀ c : Dev Cert.RTwoIdeal.nD,
    (Cert.Pre_finite2.fn (F := Ideal) (m ((c.tc : Thread Cert.RTwoIdeal.nD Cert.RTwoIdeal.τ).loc Cert.RTwoIdeal.main_arg0)) (m ((c.tc : Thread Cert.RTwoIdeal.nD Cert.RTwoIdeal.τ).loc Cert.RTwoIdeal.main_arg1))) = (fun _ => 1#1)

def Pre_KOne (m : (ℓ : Loc Cert.KOne.nD Cert.KOne.τ Cert.KOne.sig) → Buf (Elt Bits) ℓ) : Prop :=
  True

def Pre_KOneIdeal (m : (ℓ : Loc Cert.KOneIdeal.nD Cert.KOneIdeal.τ Cert.KOneIdeal.sig) → Buf (Elt Ideal) ℓ) : Prop :=
  True

def Pre_ROneIdeal (m : (ℓ : Loc Cert.ROneIdeal.nD Cert.ROneIdeal.τ Cert.ROneIdeal.sig) → Buf (Elt Ideal) ℓ) : Prop :=
  True

def quiescent_KThree [hKThree : Cert.KThree.Facts] : Prop :=
  ∀ (m : (ℓ : Loc Cert.KThree.nD Cert.KThree.τ Cert.KThree.sig) → Buf (Elt Bits) ℓ) (g : Dev Cert.KThree.nD → PrngReg), Pre_KThree m →
    θ_run (Cert.KThree.defs (F := Bits)) (onTc (τ := Cert.KThree.τ) (Cert.KThree.main (F := Bits))) ⟨m, fun _ => 0, g⟩ (fun r => (∀ c : Dev Cert.KThree.nD,
      r.2.mem ((c.tc : Thread Cert.KThree.nD Cert.KThree.τ).loc Cert.KThree.main_arg0) = m ((c.tc : Thread Cert.KThree.nD Cert.KThree.τ).loc Cert.KThree.main_arg0)
      ∧ r.2.mem ((c.tc : Thread Cert.KThree.nD Cert.KThree.τ).loc Cert.KThree.main_arg1) = m ((c.tc : Thread Cert.KThree.nD Cert.KThree.τ).loc Cert.KThree.main_arg1))
      ∧ r.2.sem = fun _ => 0)

def quiescent_KThreeIdeal [hKThreeIdeal : Cert.KThreeIdeal.Facts] : Prop :=
  ∀ (m : (ℓ : Loc Cert.KThreeIdeal.nD Cert.KThreeIdeal.τ Cert.KThreeIdeal.sig) → Buf (Elt Ideal) ℓ) (g : Dev Cert.KThreeIdeal.nD → PrngReg), Pre_KThreeIdeal m →
    θ_run (Cert.KThreeIdeal.defs (F := Ideal)) (onTc (τ := Cert.KThreeIdeal.τ) (Cert.KThreeIdeal.main (F := Ideal))) ⟨m, fun _ => 0, g⟩ (fun r => (∀ c : Dev Cert.KThreeIdeal.nD,
      r.2.mem ((c.tc : Thread Cert.KThreeIdeal.nD Cert.KThreeIdeal.τ).loc Cert.KThreeIdeal.main_arg0) = m ((c.tc : Thread Cert.KThreeIdeal.nD Cert.KThreeIdeal.τ).loc Cert.KThreeIdeal.main_arg0)
      ∧ r.2.mem ((c.tc : Thread Cert.KThreeIdeal.nD Cert.KThreeIdeal.τ).loc Cert.KThreeIdeal.main_arg1) = m ((c.tc : Thread Cert.KThreeIdeal.nD Cert.KThreeIdeal.τ).loc Cert.KThreeIdeal.main_arg1))
      ∧ r.2.sem = fun _ => 0)

def quiescent_KThreeIdeal_pre_finite [hKThreeIdeal : Cert.KThreeIdeal.Facts] [hPre_finite : Cert.Pre_finite.Facts] : Prop :=
  ∀ (m : (ℓ : Loc Cert.KThreeIdeal.nD Cert.KThreeIdeal.τ Cert.KThreeIdeal.sig) → Buf (Elt Ideal) ℓ) (g : Dev Cert.KThreeIdeal.nD → PrngReg), Pre_KThreeIdeal_finite m →
    θ_run (Cert.KThreeIdeal.defs (F := Ideal)) (onTc (τ := Cert.KThreeIdeal.τ) (Cert.KThreeIdeal.main (F := Ideal))) ⟨m, fun _ => 0, g⟩ (fun r => (∀ c : Dev Cert.KThreeIdeal.nD,
      r.2.mem ((c.tc : Thread Cert.KThreeIdeal.nD Cert.KThreeIdeal.τ).loc Cert.KThreeIdeal.main_arg0) = m ((c.tc : Thread Cert.KThreeIdeal.nD Cert.KThreeIdeal.τ).loc Cert.KThreeIdeal.main_arg0)
      ∧ r.2.mem ((c.tc : Thread Cert.KThreeIdeal.nD Cert.KThreeIdeal.τ).loc Cert.KThreeIdeal.main_arg1) = m ((c.tc : Thread Cert.KThreeIdeal.nD Cert.KThreeIdeal.τ).loc Cert.KThreeIdeal.main_arg1))
      ∧ r.2.sem = fun _ => 0)

def quiescent_RThreeIdeal [hRThreeIdeal : Cert.RThreeIdeal.Facts] : Prop :=
  ∀ (m : (ℓ : Loc Cert.RThreeIdeal.nD Cert.RThreeIdeal.τ Cert.RThreeIdeal.sig) → Buf (Elt Ideal) ℓ) (g : Dev Cert.RThreeIdeal.nD → PrngReg), Pre_RThreeIdeal m →
    θ_run (Cert.RThreeIdeal.defs (F := Ideal)) (onTc (τ := Cert.RThreeIdeal.τ) (Cert.RThreeIdeal.main (F := Ideal))) ⟨m, fun _ => 0, g⟩ (fun r => (∀ c : Dev Cert.RThreeIdeal.nD,
      r.2.mem ((c.tc : Thread Cert.RThreeIdeal.nD Cert.RThreeIdeal.τ).loc Cert.RThreeIdeal.main_arg0) = m ((c.tc : Thread Cert.RThreeIdeal.nD Cert.RThreeIdeal.τ).loc Cert.RThreeIdeal.main_arg0)
      ∧ r.2.mem ((c.tc : Thread Cert.RThreeIdeal.nD Cert.RThreeIdeal.τ).loc Cert.RThreeIdeal.main_arg1) = m ((c.tc : Thread Cert.RThreeIdeal.nD Cert.RThreeIdeal.τ).loc Cert.RThreeIdeal.main_arg1))
      ∧ r.2.sem = fun _ => 0)

def quiescent_RThreeIdeal_pre_finite [hRThreeIdeal : Cert.RThreeIdeal.Facts] [hPre_finite : Cert.Pre_finite.Facts] : Prop :=
  ∀ (m : (ℓ : Loc Cert.RThreeIdeal.nD Cert.RThreeIdeal.τ Cert.RThreeIdeal.sig) → Buf (Elt Ideal) ℓ) (g : Dev Cert.RThreeIdeal.nD → PrngReg), Pre_RThreeIdeal_finite m →
    θ_run (Cert.RThreeIdeal.defs (F := Ideal)) (onTc (τ := Cert.RThreeIdeal.τ) (Cert.RThreeIdeal.main (F := Ideal))) ⟨m, fun _ => 0, g⟩ (fun r => (∀ c : Dev Cert.RThreeIdeal.nD,
      r.2.mem ((c.tc : Thread Cert.RThreeIdeal.nD Cert.RThreeIdeal.τ).loc Cert.RThreeIdeal.main_arg0) = m ((c.tc : Thread Cert.RThreeIdeal.nD Cert.RThreeIdeal.τ).loc Cert.RThreeIdeal.main_arg0)
      ∧ r.2.mem ((c.tc : Thread Cert.RThreeIdeal.nD Cert.RThreeIdeal.τ).loc Cert.RThreeIdeal.main_arg1) = m ((c.tc : Thread Cert.RThreeIdeal.nD Cert.RThreeIdeal.τ).loc Cert.RThreeIdeal.main_arg1))
      ∧ r.2.sem = fun _ => 0)

def quiescent_KTwo [hKTwo : Cert.KTwo.Facts] : Prop :=
  ∀ (m : (ℓ : Loc Cert.KTwo.nD Cert.KTwo.τ Cert.KTwo.sig) → Buf (Elt Bits) ℓ) (g : Dev Cert.KTwo.nD → PrngReg), Pre_KTwo m →
    θ_run (Cert.KTwo.defs (F := Bits)) (onTc (τ := Cert.KTwo.τ) (Cert.KTwo.main (F := Bits))) ⟨m, fun _ => 0, g⟩ (fun r => (∀ c : Dev Cert.KTwo.nD,
      r.2.mem ((c.tc : Thread Cert.KTwo.nD Cert.KTwo.τ).loc Cert.KTwo.main_arg0) = m ((c.tc : Thread Cert.KTwo.nD Cert.KTwo.τ).loc Cert.KTwo.main_arg0)
      ∧ r.2.mem ((c.tc : Thread Cert.KTwo.nD Cert.KTwo.τ).loc Cert.KTwo.main_arg1) = m ((c.tc : Thread Cert.KTwo.nD Cert.KTwo.τ).loc Cert.KTwo.main_arg1))
      ∧ r.2.sem = fun _ => 0)

def quiescent_KTwoIdeal [hKTwoIdeal : Cert.KTwoIdeal.Facts] : Prop :=
  ∀ (m : (ℓ : Loc Cert.KTwoIdeal.nD Cert.KTwoIdeal.τ Cert.KTwoIdeal.sig) → Buf (Elt Ideal) ℓ) (g : Dev Cert.KTwoIdeal.nD → PrngReg), Pre_KTwoIdeal m →
    θ_run (Cert.KTwoIdeal.defs (F := Ideal)) (onTc (τ := Cert.KTwoIdeal.τ) (Cert.KTwoIdeal.main (F := Ideal))) ⟨m, fun _ => 0, g⟩ (fun r => (∀ c : Dev Cert.KTwoIdeal.nD,
      r.2.mem ((c.tc : Thread Cert.KTwoIdeal.nD Cert.KTwoIdeal.τ).loc Cert.KTwoIdeal.main_arg0) = m ((c.tc : Thread Cert.KTwoIdeal.nD Cert.KTwoIdeal.τ).loc Cert.KTwoIdeal.main_arg0)
      ∧ r.2.mem ((c.tc : Thread Cert.KTwoIdeal.nD Cert.KTwoIdeal.τ).loc Cert.KTwoIdeal.main_arg1) = m ((c.tc : Thread Cert.KTwoIdeal.nD Cert.KTwoIdeal.τ).loc Cert.KTwoIdeal.main_arg1))
      ∧ r.2.sem = fun _ => 0)

def quiescent_KTwoIdeal_pre_finite2 [hKTwoIdeal : Cert.KTwoIdeal.Facts] [hPre_finite2 : Cert.Pre_finite2.Facts] : Prop :=
  ∀ (m : (ℓ : Loc Cert.KTwoIdeal.nD Cert.KTwoIdeal.τ Cert.KTwoIdeal.sig) → Buf (Elt Ideal) ℓ) (g : Dev Cert.KTwoIdeal.nD → PrngReg), Pre_KTwoIdeal_finite2 m →
    θ_run (Cert.KTwoIdeal.defs (F := Ideal)) (onTc (τ := Cert.KTwoIdeal.τ) (Cert.KTwoIdeal.main (F := Ideal))) ⟨m, fun _ => 0, g⟩ (fun r => (∀ c : Dev Cert.KTwoIdeal.nD,
      r.2.mem ((c.tc : Thread Cert.KTwoIdeal.nD Cert.KTwoIdeal.τ).loc Cert.KTwoIdeal.main_arg0) = m ((c.tc : Thread Cert.KTwoIdeal.nD Cert.KTwoIdeal.τ).loc Cert.KTwoIdeal.main_arg0)
      ∧ r.2.mem ((c.tc : Thread Cert.KTwoIdeal.nD Cert.KTwoIdeal.τ).loc Cert.KTwoIdeal.main_arg1) = m ((c.tc : Thread Cert.KTwoIdeal.nD Cert.KTwoIdeal.τ).loc Cert.KTwoIdeal.main_arg1))
      ∧ r.2.sem = fun _ => 0)

def quiescent_RTwoIdeal [hRTwoIdeal : Cert.RTwoIdeal.Facts] : Prop :=
  ∀ (m : (ℓ : Loc Cert.RTwoIdeal.nD Cert.RTwoIdeal.τ Cert.RTwoIdeal.sig) → Buf (Elt Ideal) ℓ) (g : Dev Cert.RTwoIdeal.nD → PrngReg), Pre_RTwoIdeal m →
    θ_run (Cert.RTwoIdeal.defs (F := Ideal)) (onTc (τ := Cert.RTwoIdeal.τ) (Cert.RTwoIdeal.main (F := Ideal))) ⟨m, fun _ => 0, g⟩ (fun r => (∀ c : Dev Cert.RTwoIdeal.nD,
      r.2.mem ((c.tc : Thread Cert.RTwoIdeal.nD Cert.RTwoIdeal.τ).loc Cert.RTwoIdeal.main_arg0) = m ((c.tc : Thread Cert.RTwoIdeal.nD Cert.RTwoIdeal.τ).loc Cert.RTwoIdeal.main_arg0)
      ∧ r.2.mem ((c.tc : Thread Cert.RTwoIdeal.nD Cert.RTwoIdeal.τ).loc Cert.RTwoIdeal.main_arg1) = m ((c.tc : Thread Cert.RTwoIdeal.nD Cert.RTwoIdeal.τ).loc Cert.RTwoIdeal.main_arg1))
      ∧ r.2.sem = fun _ => 0)

def quiescent_RTwoIdeal_pre_finite2 [hRTwoIdeal : Cert.RTwoIdeal.Facts] [hPre_finite2 : Cert.Pre_finite2.Facts] : Prop :=
  ∀ (m : (ℓ : Loc Cert.RTwoIdeal.nD Cert.RTwoIdeal.τ Cert.RTwoIdeal.sig) → Buf (Elt Ideal) ℓ) (g : Dev Cert.RTwoIdeal.nD → PrngReg), Pre_RTwoIdeal_finite2 m →
    θ_run (Cert.RTwoIdeal.defs (F := Ideal)) (onTc (τ := Cert.RTwoIdeal.τ) (Cert.RTwoIdeal.main (F := Ideal))) ⟨m, fun _ => 0, g⟩ (fun r => (∀ c : Dev Cert.RTwoIdeal.nD,
      r.2.mem ((c.tc : Thread Cert.RTwoIdeal.nD Cert.RTwoIdeal.τ).loc Cert.RTwoIdeal.main_arg0) = m ((c.tc : Thread Cert.RTwoIdeal.nD Cert.RTwoIdeal.τ).loc Cert.RTwoIdeal.main_arg0)
      ∧ r.2.mem ((c.tc : Thread Cert.RTwoIdeal.nD Cert.RTwoIdeal.τ).loc Cert.RTwoIdeal.main_arg1) = m ((c.tc : Thread Cert.RTwoIdeal.nD Cert.RTwoIdeal.τ).loc Cert.RTwoIdeal.main_arg1))
      ∧ r.2.sem = fun _ => 0)

def quiescent_KOne [hKOne : Cert.KOne.Facts] : Prop :=
  ∀ (m : (ℓ : Loc Cert.KOne.nD Cert.KOne.τ Cert.KOne.sig) → Buf (Elt Bits) ℓ) (g : Dev Cert.KOne.nD → PrngReg), Pre_KOne m →
    θ_run (Cert.KOne.defs (F := Bits)) (onTc (τ := Cert.KOne.τ) (Cert.KOne.main (F := Bits))) ⟨m, fun _ => 0, g⟩ (fun r => (∀ c : Dev Cert.KOne.nD,
      r.2.mem ((c.tc : Thread Cert.KOne.nD Cert.KOne.τ).loc Cert.KOne.main_arg0) = m ((c.tc : Thread Cert.KOne.nD Cert.KOne.τ).loc Cert.KOne.main_arg0))
      ∧ r.2.sem = fun _ => 0)

def quiescent_KOneIdeal [hKOneIdeal : Cert.KOneIdeal.Facts] : Prop :=
  ∀ (m : (ℓ : Loc Cert.KOneIdeal.nD Cert.KOneIdeal.τ Cert.KOneIdeal.sig) → Buf (Elt Ideal) ℓ) (g : Dev Cert.KOneIdeal.nD → PrngReg), Pre_KOneIdeal m →
    θ_run (Cert.KOneIdeal.defs (F := Ideal)) (onTc (τ := Cert.KOneIdeal.τ) (Cert.KOneIdeal.main (F := Ideal))) ⟨m, fun _ => 0, g⟩ (fun r => (∀ c : Dev Cert.KOneIdeal.nD,
      r.2.mem ((c.tc : Thread Cert.KOneIdeal.nD Cert.KOneIdeal.τ).loc Cert.KOneIdeal.main_arg0) = m ((c.tc : Thread Cert.KOneIdeal.nD Cert.KOneIdeal.τ).loc Cert.KOneIdeal.main_arg0))
      ∧ r.2.sem = fun _ => 0)

def quiescent_ROneIdeal [hROneIdeal : Cert.ROneIdeal.Facts] : Prop :=
  ∀ (m : (ℓ : Loc Cert.ROneIdeal.nD Cert.ROneIdeal.τ Cert.ROneIdeal.sig) → Buf (Elt Ideal) ℓ) (g : Dev Cert.ROneIdeal.nD → PrngReg), Pre_ROneIdeal m →
    θ_run (Cert.ROneIdeal.defs (F := Ideal)) (onTc (τ := Cert.ROneIdeal.τ) (Cert.ROneIdeal.main (F := Ideal))) ⟨m, fun _ => 0, g⟩ (fun r => (∀ c : Dev Cert.ROneIdeal.nD,
      r.2.mem ((c.tc : Thread Cert.ROneIdeal.nD Cert.ROneIdeal.τ).loc Cert.ROneIdeal.main_arg0) = m ((c.tc : Thread Cert.ROneIdeal.nD Cert.ROneIdeal.τ).loc Cert.ROneIdeal.main_arg0))
      ∧ r.2.sem = fun _ => 0)

def preserves_KThree_KThreeIdeal : Prop :=
  True

def algebraic_KThreeIdeal_RThreeIdeal_pre_finite [hKThreeIdeal : Cert.KThreeIdeal.Facts] [hRThreeIdeal : Cert.RThreeIdeal.Facts] [hPre_finite : Cert.Pre_finite.Facts] : Prop :=
  ∀ (m : (ℓ : Loc Cert.KThreeIdeal.nD Cert.KThreeIdeal.τ Cert.KThreeIdeal.sig) → Buf (Elt Ideal) ℓ) (g : Dev Cert.KThreeIdeal.nD → PrngReg)
    (m' : (ℓ : Loc Cert.RThreeIdeal.nD Cert.RThreeIdeal.τ Cert.RThreeIdeal.sig) → Buf (Elt Ideal) ℓ) (g' : Dev Cert.RThreeIdeal.nD → PrngReg), Pre_KThreeIdeal_finite m →
    (∀ c : Dev Cert.KThreeIdeal.nD,
      m' ((c.tc : Thread Cert.RThreeIdeal.nD Cert.RThreeIdeal.τ).loc Cert.RThreeIdeal.main_arg0) = m ((c.tc : Thread Cert.KThreeIdeal.nD Cert.KThreeIdeal.τ).loc Cert.KThreeIdeal.main_arg0)
      ∧ m' ((c.tc : Thread Cert.RThreeIdeal.nD Cert.RThreeIdeal.τ).loc Cert.RThreeIdeal.main_arg1) = m ((c.tc : Thread Cert.KThreeIdeal.nD Cert.KThreeIdeal.τ).loc Cert.KThreeIdeal.main_arg1)) →
    ∃ (v0 : (c : Dev Cert.KThreeIdeal.nD) → Buf (Elt Ideal) ((c.tc : Thread Cert.KThreeIdeal.nD Cert.KThreeIdeal.τ).loc Cert.KThreeIdeal.main_v0_0)) (v1 : (c : Dev Cert.KThreeIdeal.nD) → Buf (Elt Ideal) ((c.tc : Thread Cert.KThreeIdeal.nD Cert.KThreeIdeal.τ).loc Cert.KThreeIdeal.main_v0_1)) (v2 : (c : Dev Cert.KThreeIdeal.nD) → Buf (Elt Ideal) ((c.tc : Thread Cert.KThreeIdeal.nD Cert.KThreeIdeal.τ).loc Cert.KThreeIdeal.main_v0_2)),
      θ_run (Cert.KThreeIdeal.defs (F := Ideal)) (onTc (τ := Cert.KThreeIdeal.τ) (Cert.KThreeIdeal.main (F := Ideal))) ⟨m, fun _ => 0, g⟩ (fun r => ∀ c : Dev Cert.KThreeIdeal.nD,
          r.2.mem ((c.tc : Thread Cert.KThreeIdeal.nD Cert.KThreeIdeal.τ).loc Cert.KThreeIdeal.main_v0_0) = v0 c
          ∧ r.2.mem ((c.tc : Thread Cert.KThreeIdeal.nD Cert.KThreeIdeal.τ).loc Cert.KThreeIdeal.main_v0_1) = v1 c
          ∧ r.2.mem ((c.tc : Thread Cert.KThreeIdeal.nD Cert.KThreeIdeal.τ).loc Cert.KThreeIdeal.main_v0_2) = v2 c
          ∧ r.2.mem ((c.tc : Thread Cert.KThreeIdeal.nD Cert.KThreeIdeal.τ).loc Cert.KThreeIdeal.main_arg0) = m ((c.tc : Thread Cert.KThreeIdeal.nD Cert.KThreeIdeal.τ).loc Cert.KThreeIdeal.main_arg0)
          ∧ r.2.mem ((c.tc : Thread Cert.KThreeIdeal.nD Cert.KThreeIdeal.τ).loc Cert.KThreeIdeal.main_arg1) = m ((c.tc : Thread Cert.KThreeIdeal.nD Cert.KThreeIdeal.τ).loc Cert.KThreeIdeal.main_arg1))
      ∧ θ_run (Cert.RThreeIdeal.defs (F := Ideal)) (onTc (τ := Cert.RThreeIdeal.τ) (Cert.RThreeIdeal.main (F := Ideal))) ⟨m', fun _ => 0, g'⟩ (fun r => ∀ c : Dev Cert.RThreeIdeal.nD,
          r.2.mem ((c.tc : Thread Cert.RThreeIdeal.nD Cert.RThreeIdeal.τ).loc Cert.RThreeIdeal.main_v118) = v0 c
          ∧ r.2.mem ((c.tc : Thread Cert.RThreeIdeal.nD Cert.RThreeIdeal.τ).loc Cert.RThreeIdeal.main_v119) = v1 c
          ∧ r.2.mem ((c.tc : Thread Cert.RThreeIdeal.nD Cert.RThreeIdeal.τ).loc Cert.RThreeIdeal.main_v5) = v2 c
          ∧ r.2.mem ((c.tc : Thread Cert.RThreeIdeal.nD Cert.RThreeIdeal.τ).loc Cert.RThreeIdeal.main_arg0) = m' ((c.tc : Thread Cert.RThreeIdeal.nD Cert.RThreeIdeal.τ).loc Cert.RThreeIdeal.main_arg0)
          ∧ r.2.mem ((c.tc : Thread Cert.RThreeIdeal.nD Cert.RThreeIdeal.τ).loc Cert.RThreeIdeal.main_arg1) = m' ((c.tc : Thread Cert.RThreeIdeal.nD Cert.RThreeIdeal.τ).loc Cert.RThreeIdeal.main_arg1))

def preserves_KTwo_KTwoIdeal : Prop :=
  True

def algebraic_KTwoIdeal_RTwoIdeal_pre_finite2 [hKTwoIdeal : Cert.KTwoIdeal.Facts] [hRTwoIdeal : Cert.RTwoIdeal.Facts] [hPre_finite2 : Cert.Pre_finite2.Facts] : Prop :=
  ∀ (m : (ℓ : Loc Cert.KTwoIdeal.nD Cert.KTwoIdeal.τ Cert.KTwoIdeal.sig) → Buf (Elt Ideal) ℓ) (g : Dev Cert.KTwoIdeal.nD → PrngReg)
    (m' : (ℓ : Loc Cert.RTwoIdeal.nD Cert.RTwoIdeal.τ Cert.RTwoIdeal.sig) → Buf (Elt Ideal) ℓ) (g' : Dev Cert.RTwoIdeal.nD → PrngReg), Pre_KTwoIdeal_finite2 m →
    (∀ c : Dev Cert.KTwoIdeal.nD,
      m' ((c.tc : Thread Cert.RTwoIdeal.nD Cert.RTwoIdeal.τ).loc Cert.RTwoIdeal.main_arg0) = m ((c.tc : Thread Cert.KTwoIdeal.nD Cert.KTwoIdeal.τ).loc Cert.KTwoIdeal.main_arg0)
      ∧ m' ((c.tc : Thread Cert.RTwoIdeal.nD Cert.RTwoIdeal.τ).loc Cert.RTwoIdeal.main_arg1) = m ((c.tc : Thread Cert.KTwoIdeal.nD Cert.KTwoIdeal.τ).loc Cert.KTwoIdeal.main_arg1)) →
    ∃ (v0 : (c : Dev Cert.KTwoIdeal.nD) → Buf (Elt Ideal) ((c.tc : Thread Cert.KTwoIdeal.nD Cert.KTwoIdeal.τ).loc Cert.KTwoIdeal.main_v0)),
      θ_run (Cert.KTwoIdeal.defs (F := Ideal)) (onTc (τ := Cert.KTwoIdeal.τ) (Cert.KTwoIdeal.main (F := Ideal))) ⟨m, fun _ => 0, g⟩ (fun r => ∀ c : Dev Cert.KTwoIdeal.nD,
          r.2.mem ((c.tc : Thread Cert.KTwoIdeal.nD Cert.KTwoIdeal.τ).loc Cert.KTwoIdeal.main_v0) = v0 c
          ∧ r.2.mem ((c.tc : Thread Cert.KTwoIdeal.nD Cert.KTwoIdeal.τ).loc Cert.KTwoIdeal.main_arg0) = m ((c.tc : Thread Cert.KTwoIdeal.nD Cert.KTwoIdeal.τ).loc Cert.KTwoIdeal.main_arg0)
          ∧ r.2.mem ((c.tc : Thread Cert.KTwoIdeal.nD Cert.KTwoIdeal.τ).loc Cert.KTwoIdeal.main_arg1) = m ((c.tc : Thread Cert.KTwoIdeal.nD Cert.KTwoIdeal.τ).loc Cert.KTwoIdeal.main_arg1))
      ∧ θ_run (Cert.RTwoIdeal.defs (F := Ideal)) (onTc (τ := Cert.RTwoIdeal.τ) (Cert.RTwoIdeal.main (F := Ideal))) ⟨m', fun _ => 0, g'⟩ (fun r => ∀ c : Dev Cert.RTwoIdeal.nD,
          r.2.mem ((c.tc : Thread Cert.RTwoIdeal.nD Cert.RTwoIdeal.τ).loc Cert.RTwoIdeal.main_v78) = v0 c
          ∧ r.2.mem ((c.tc : Thread Cert.RTwoIdeal.nD Cert.RTwoIdeal.τ).loc Cert.RTwoIdeal.main_arg0) = m' ((c.tc : Thread Cert.RTwoIdeal.nD Cert.RTwoIdeal.τ).loc Cert.RTwoIdeal.main_arg0)
          ∧ r.2.mem ((c.tc : Thread Cert.RTwoIdeal.nD Cert.RTwoIdeal.τ).loc Cert.RTwoIdeal.main_arg1) = m' ((c.tc : Thread Cert.RTwoIdeal.nD Cert.RTwoIdeal.τ).loc Cert.RTwoIdeal.main_arg1))

def preserves_KOne_KOneIdeal : Prop :=
  True

def algebraic_KOneIdeal_ROneIdeal [hKOneIdeal : Cert.KOneIdeal.Facts] [hROneIdeal : Cert.ROneIdeal.Facts] : Prop :=
  ∀ (m : (ℓ : Loc Cert.KOneIdeal.nD Cert.KOneIdeal.τ Cert.KOneIdeal.sig) → Buf (Elt Ideal) ℓ) (g : Dev Cert.KOneIdeal.nD → PrngReg)
    (m' : (ℓ : Loc Cert.ROneIdeal.nD Cert.ROneIdeal.τ Cert.ROneIdeal.sig) → Buf (Elt Ideal) ℓ) (g' : Dev Cert.ROneIdeal.nD → PrngReg), Pre_KOneIdeal m →
    (∀ c : Dev Cert.KOneIdeal.nD,
      m' ((c.tc : Thread Cert.ROneIdeal.nD Cert.ROneIdeal.τ).loc Cert.ROneIdeal.main_arg0) = m ((c.tc : Thread Cert.KOneIdeal.nD Cert.KOneIdeal.τ).loc Cert.KOneIdeal.main_arg0)) →
    ∃ (v0 : (c : Dev Cert.KOneIdeal.nD) → Buf (Elt Ideal) ((c.tc : Thread Cert.KOneIdeal.nD Cert.KOneIdeal.τ).loc Cert.KOneIdeal.main_v0_0)) (v1 : (c : Dev Cert.KOneIdeal.nD) → Buf (Elt Ideal) ((c.tc : Thread Cert.KOneIdeal.nD Cert.KOneIdeal.τ).loc Cert.KOneIdeal.main_v0_1)),
      θ_run (Cert.KOneIdeal.defs (F := Ideal)) (onTc (τ := Cert.KOneIdeal.τ) (Cert.KOneIdeal.main (F := Ideal))) ⟨m, fun _ => 0, g⟩ (fun r => ∀ c : Dev Cert.KOneIdeal.nD,
          r.2.mem ((c.tc : Thread Cert.KOneIdeal.nD Cert.KOneIdeal.τ).loc Cert.KOneIdeal.main_v0_0) = v0 c
          ∧ r.2.mem ((c.tc : Thread Cert.KOneIdeal.nD Cert.KOneIdeal.τ).loc Cert.KOneIdeal.main_v0_1) = v1 c
          ∧ r.2.mem ((c.tc : Thread Cert.KOneIdeal.nD Cert.KOneIdeal.τ).loc Cert.KOneIdeal.main_arg0) = m ((c.tc : Thread Cert.KOneIdeal.nD Cert.KOneIdeal.τ).loc Cert.KOneIdeal.main_arg0))
      ∧ θ_run (Cert.ROneIdeal.defs (F := Ideal)) (onTc (τ := Cert.ROneIdeal.τ) (Cert.ROneIdeal.main (F := Ideal))) ⟨m', fun _ => 0, g'⟩ (fun r => ∀ c : Dev Cert.ROneIdeal.nD,
          r.2.mem ((c.tc : Thread Cert.ROneIdeal.nD Cert.ROneIdeal.τ).loc Cert.ROneIdeal.main_v39) = v0 c
          ∧ r.2.mem ((c.tc : Thread Cert.ROneIdeal.nD Cert.ROneIdeal.τ).loc Cert.ROneIdeal.main_v41) = v1 c
          ∧ r.2.mem ((c.tc : Thread Cert.ROneIdeal.nD Cert.ROneIdeal.τ).loc Cert.ROneIdeal.main_arg0) = m' ((c.tc : Thread Cert.ROneIdeal.nD Cert.ROneIdeal.τ).loc Cert.ROneIdeal.main_arg0))

def Claim : Prop :=
  ∃ (hKThree : Cert.KThree.Facts) (hKThreeIdeal : Cert.KThreeIdeal.Facts) (hRThreeIdeal : Cert.RThreeIdeal.Facts) (hKTwo : Cert.KTwo.Facts) (hKTwoIdeal : Cert.KTwoIdeal.Facts) (hRTwoIdeal : Cert.RTwoIdeal.Facts) (hKOne : Cert.KOne.Facts) (hKOneIdeal : Cert.KOneIdeal.Facts) (hROneIdeal : Cert.ROneIdeal.Facts) (hPre_finite : Cert.Pre_finite.Facts) (hPre_finite2 : Cert.Pre_finite2.Facts),
    quiescent_KThree (hKThree := hKThree)
    ∧ quiescent_KThreeIdeal (hKThreeIdeal := hKThreeIdeal)
    ∧ quiescent_KThreeIdeal_pre_finite (hKThreeIdeal := hKThreeIdeal) (hPre_finite := hPre_finite)
    ∧ quiescent_RThreeIdeal (hRThreeIdeal := hRThreeIdeal)
    ∧ quiescent_RThreeIdeal_pre_finite (hRThreeIdeal := hRThreeIdeal) (hPre_finite := hPre_finite)
    ∧ quiescent_KTwo (hKTwo := hKTwo)
    ∧ quiescent_KTwoIdeal (hKTwoIdeal := hKTwoIdeal)
    ∧ quiescent_KTwoIdeal_pre_finite2 (hKTwoIdeal := hKTwoIdeal) (hPre_finite2 := hPre_finite2)
    ∧ quiescent_RTwoIdeal (hRTwoIdeal := hRTwoIdeal)
    ∧ quiescent_RTwoIdeal_pre_finite2 (hRTwoIdeal := hRTwoIdeal) (hPre_finite2 := hPre_finite2)
    ∧ quiescent_KOne (hKOne := hKOne)
    ∧ quiescent_KOneIdeal (hKOneIdeal := hKOneIdeal)
    ∧ quiescent_ROneIdeal (hROneIdeal := hROneIdeal)
    ∧ preserves_KThree_KThreeIdeal
    ∧ algebraic_KThreeIdeal_RThreeIdeal_pre_finite (hKThreeIdeal := hKThreeIdeal) (hRThreeIdeal := hRThreeIdeal) (hPre_finite := hPre_finite)
    ∧ preserves_KTwo_KTwoIdeal
    ∧ algebraic_KTwoIdeal_RTwoIdeal_pre_finite2 (hKTwoIdeal := hKTwoIdeal) (hRTwoIdeal := hRTwoIdeal) (hPre_finite2 := hPre_finite2)
    ∧ preserves_KOne_KOneIdeal
    ∧ algebraic_KOneIdeal_ROneIdeal (hKOneIdeal := hKOneIdeal) (hROneIdeal := hROneIdeal)
-- ==== Pre_finite.lean ====
abbrev S1x6x8x256x256 : Shape := ⟨5, ![1, 6, 8, 256, 256]⟩
abbrev S128x8x32 : Shape := ⟨3, ![128, 8, 32]⟩
abbrev S128x6x32 : Shape := ⟨3, ![128, 6, 32]⟩
abbrev S128x1x32 : Shape := ⟨3, ![128, 1, 32]⟩
abbrev S_ : Shape := ⟨0, ![]⟩

class Facts : Prop where
  slices_S128x8x32_S128x6x32_0_0_0 : S128x8x32.Slices ![0, 0, 0] S128x6x32
  slices_S128x8x32_S128x1x32_0_6_0 : S128x8x32.Slices ![0, 6, 0] S128x1x32
  bcast_S_S128x1x32 : S_.BroadcastsInDim S128x1x32 (![] : Fin 0 → Fin S128x1x32.rank)
  bcast_S128x1x32_S128x6x32_0_1_2 : S128x1x32.BroadcastsInDim S128x6x32 (![0, 1, 2] : Fin 3 → Fin S128x6x32.rank)
  bcast_S_S1x6x8x256x256 : S_.BroadcastsInDim S1x6x8x256x256 (![] : Fin 0 → Fin S1x6x8x256x256.rank)
  reducesTo_S1x6x8x256x256_S_d0_1_2_3_4 : S1x6x8x256x256.ReducesTo [0, 1, 2, 3, 4] S_
  h_S_ : 0 < S_.numel
  bcast_S_S128x6x32 : S_.BroadcastsInDim S128x6x32 (![] : Fin 0 → Fin S128x6x32.rank)
  reducesTo_S128x6x32_S_d0_1_2 : S128x6x32.ReducesTo [0, 1, 2] S_

variable [Facts]

def fn {F : FTy → Type} [FloatOps F] (main_arg0 : FVec F S1x6x8x256x256 .f32) (main_arg1 : FVec F S128x8x32 .f32) : IVec S_ 1 :=
  let main_v0 : FVec F S128x6x32 .f32 := (extractStridedSlice S128x6x32 ![0, 0, 0] · slices_S128x8x32_S128x6x32_0_0_0) main_arg1
  let main_v1 : FVec F S128x1x32 .f32 := (extractStridedSlice S128x1x32 ![0, 6, 0] · slices_S128x8x32_S128x1x32_0_6_0) main_arg1
  let main_cst : FVec F S_ .f32 := constant S_ .f32 0x2EDBE6FF#32
  let main_v2 : FVec F S128x1x32 .f32 := broadcastInDim S128x1x32 ![] bcast_S_S128x1x32 main_cst
  let main_v3 : FVec F S128x1x32 .f32 := addf main_v1 main_v2
  let main_v4 : FVec F S128x6x32 .f32 := broadcastInDim S128x6x32 ![0, 1, 2] bcast_S128x1x32_S128x6x32_0_1_2 main_v3
  let main_v5 : FVec F S128x6x32 .f32 := Host.divf main_v0 main_v4
  let main_v6 : FVec F S1x6x8x256x256 .f32 := Host.absf main_arg0
  let main_cst_0 : FVec F S_ .f32 := constant S_ .f32 0x7F800000#32
  let main_v7 : FVec F S1x6x8x256x256 .f32 := broadcastInDim S1x6x8x256x256 ![] bcast_S_S1x6x8x256x256 main_cst_0
  let main_v8 : IVec S1x6x8x256x256 1 := cmpf .olt main_v6 main_v7
  let main_c : IVec S_ 1 := constantI S_ 1 1#1
  let main_v9 : IVec S_ 1 := (fun x v => Host.reduce IntOp.andi x v reducesTo_S1x6x8x256x256_S_d0_1_2_3_4 h_S_) main_v8 main_c
  let main_v10 : FVec F S128x6x32 .f32 := Host.absf main_v5
  let main_cst_1 : FVec F S_ .f32 := constant S_ .f32 0x7F800000#32
  let main_v11 : FVec F S128x6x32 .f32 := broadcastInDim S128x6x32 ![] bcast_S_S128x6x32 main_cst_1
  let main_v12 : IVec S128x6x32 1 := cmpf .olt main_v10 main_v11
  let main_c_2 : IVec S_ 1 := constantI S_ 1 1#1
  let main_v13 : IVec S_ 1 := (fun x v => Host.reduce IntOp.andi x v reducesTo_S128x6x32_S_d0_1_2 h_S_) main_v12 main_c_2
  let main_v14 : IVec S_ 1 := andi main_v9 main_v13
  main_v14
-- ==== Pre_finite2.lean ====
abbrev S1x6x8x256x256 : Shape := ⟨5, ![1, 6, 8, 256, 256]⟩
abbrev S128x6x32 : Shape := ⟨3, ![128, 6, 32]⟩
abbrev S_ : Shape := ⟨0, ![]⟩

class Facts : Prop where
  bcast_S_S1x6x8x256x256 : S_.BroadcastsInDim S1x6x8x256x256 (![] : Fin 0 → Fin S1x6x8x256x256.rank)
  reducesTo_S1x6x8x256x256_S_d0_1_2_3_4 : S1x6x8x256x256.ReducesTo [0, 1, 2, 3, 4] S_
  h_S_ : 0 < S_.numel
  bcast_S_S128x6x32 : S_.BroadcastsInDim S128x6x32 (![] : Fin 0 → Fin S128x6x32.rank)
  reducesTo_S128x6x32_S_d0_1_2 : S128x6x32.ReducesTo [0, 1, 2] S_

variable [Facts]

def fn {F : FTy → Type} [FloatOps F] (main_arg0 : FVec F S1x6x8x256x256 .f32) (main_arg1 : FVec F S128x6x32 .f32) : IVec S_ 1 :=
  let main_v0 : FVec F S1x6x8x256x256 .f32 := Host.absf main_arg0
  let main_cst : FVec F S_ .f32 := constant S_ .f32 0x7F800000#32
  let main_v1 : FVec F S1x6x8x256x256 .f32 := broadcastInDim S1x6x8x256x256 ![] bcast_S_S1x6x8x256x256 main_cst
  let main_v2 : IVec S1x6x8x256x256 1 := cmpf .olt main_v0 main_v1
  let main_c : IVec S_ 1 := constantI S_ 1 1#1
  let main_v3 : IVec S_ 1 := (fun x v => Host.reduce IntOp.andi x v reducesTo_S1x6x8x256x256_S_d0_1_2_3_4 h_S_) main_v2 main_c
  let main_v4 : FVec F S128x6x32 .f32 := Host.absf main_arg1
  let main_cst_0 : FVec F S_ .f32 := constant S_ .f32 0x7F800000#32
  let main_v5 : FVec F S128x6x32 .f32 := broadcastInDim S128x6x32 ![] bcast_S_S128x6x32 main_cst_0
  let main_v6 : IVec S128x6x32 1 := cmpf .olt main_v4 main_v5
  let main_c_1 : IVec S_ 1 := constantI S_ 1 1#1
  let main_v7 : IVec S_ 1 := (fun x v => Host.reduce IntOp.andi x v reducesTo_S128x6x32_S_d0_1_2 h_S_) main_v6 main_c_1
  let main_v8 : IVec S_ 1 := andi main_v3 main_v7
  main_v8
-- ==== KThree.lean ====
abbrev S1x6x8x256x256 : Shape := ⟨5, ![1, 6, 8, 256, 256]⟩
abbrev S128x8x32 : Shape := ⟨3, ![128, 8, 32]⟩
abbrev S1x27x8x256x256 : Shape := ⟨5, ![1, 27, 8, 256, 256]⟩
abbrev S1x1x8x256x256 : Shape := ⟨5, ![1, 1, 8, 256, 256]⟩
abbrev S128x6x32 : Shape := ⟨3, ![128, 6, 32]⟩
abbrev S1x6x2x8x256 : Shape := ⟨5, ![1, 6, 2, 8, 256]⟩
abbrev S1x27x2x8x256 : Shape := ⟨5, ![1, 27, 2, 8, 256]⟩
abbrev S1x1x2x8x256 : Shape := ⟨5, ![1, 1, 2, 8, 256]⟩
abbrev S27x16x256 : Shape := ⟨3, ![27, 16, 256]⟩
abbrev S128x1x32 : Shape := ⟨3, ![128, 1, 32]⟩
abbrev S6x2x8x256 : Shape := ⟨4, ![6, 2, 8, 256]⟩
abbrev S6x16x256 : Shape := ⟨3, ![6, 16, 256]⟩
abbrev S16x256 : Shape := ⟨2, ![16, 256]⟩
abbrev S32x256 : Shape := ⟨2, ![32, 256]⟩
abbrev S1x6x32 : Shape := ⟨3, ![1, 6, 32]⟩
abbrev S6x32 : Shape := ⟨2, ![6, 32]⟩
abbrev S32 : Shape := ⟨1, ![32]⟩
abbrev S1x32 : Shape := ⟨2, ![1, 32]⟩
abbrev S7x32 : Shape := ⟨2, ![7, 32]⟩
abbrev S7x256 : Shape := ⟨2, ![7, 256]⟩
abbrev S7x8 : Shape := ⟨2, ![7, 8]⟩
abbrev S7x248 : Shape := ⟨2, ![7, 248]⟩
abbrev S1x256 : Shape := ⟨2, ![1, 256]⟩
abbrev S256 : Shape := ⟨1, ![256]⟩
abbrev S1x16x256 : Shape := ⟨3, ![1, 16, 256]⟩
abbrev S2x8x256 : Shape := ⟨3, ![2, 8, 256]⟩

abbrev nBuf : Space → Nat
  | .hbm => 5
  | .vmem => 10
  | .smem => 0
  | _ => 0

abbrev bufTy : (tb : Table) → Fin (tcTables nBuf tb) → BufTy
  | .hbm, ⟨0, _⟩ => ⟨S1x6x8x256x256, .f32⟩
  | .hbm, ⟨1, _⟩ => ⟨S128x8x32, .f32⟩
  | .hbm, ⟨2, _⟩ => ⟨S1x27x8x256x256, .f32⟩
  | .hbm, ⟨3, _⟩ => ⟨S1x1x8x256x256, .f32⟩
  | .hbm, ⟨4, _⟩ => ⟨S128x6x32, .f32⟩
  | .local _ .vmem, ⟨0, _⟩ => ⟨S1x6x2x8x256, .f32⟩
  | .local _ .vmem, ⟨1, _⟩ => ⟨S1x6x2x8x256, .f32⟩
  | .local _ .vmem, ⟨2, _⟩ => ⟨S128x8x32, .f32⟩
  | .local _ .vmem, ⟨3, _⟩ => ⟨S1x27x2x8x256, .f32⟩
  | .local _ .vmem, ⟨4, _⟩ => ⟨S1x27x2x8x256, .f32⟩
  | .local _ .vmem, ⟨5, _⟩ => ⟨S1x1x2x8x256, .f32⟩
  | .local _ .vmem, ⟨6, _⟩ => ⟨S1x1x2x8x256, .f32⟩
  | .local _ .vmem, ⟨7, _⟩ => ⟨S128x6x32, .f32⟩
  | .local _ .vmem, ⟨8, _⟩ => ⟨S27x16x256, .f32⟩
  | .local _ .vmem, ⟨9, _⟩ => ⟨S128x6x32, .f32⟩
  | _, _ => ⟨S1x6x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 32], ![false, false]⟩

def k0_off1 (i : grid0.Coords) (c_m1_i32 : BitVec 32) (c_m1_i32_13 : BitVec 32) : Fin 3 → Nat :=
  let c3_i32 : BitVec 32 := 3#32
  let c0_i32_12 : BitVec 32 := 0#32
  let arg0 : BitVec 32 := BitVec.ofNat 32 (i 0).val
  let v40 : BitVec 32 := Scalar.addi arg0 c_m1_i32
  let v41 : BitVec 32 := Scalar.maxsi c0_i32_12 v40
  let v42 : BitVec 32 := Scalar.minsi c3_i32 v41
  let c32_i32 : BitVec 32 := 32#32
  let v43 : BitVec 32 := Scalar.muli v42 c32_i32
  let c31_i32 : BitVec 32 := 31#32
  let c0_i32_14 : BitVec 32 := 0#32
  let arg1 : BitVec 32 := BitVec.ofNat 32 (i 1).val
  let v44 : BitVec 32 := Scalar.addi arg1 c_m1_i32_13
  let v45 : BitVec 32 := Scalar.maxsi c0_i32_14 v44
  let v46 : BitVec 32 := Scalar.minsi c31_i32 v45
  let v47 : BitVec 32 := Scalar.addi v43 v46
  let v48 : Index := Scalar.indexCast v47
  let c0_15 : Index := 0#32
  let c0_16 : Index := 0#32
  ![v48.toNat, 0, 0]
def k0_off1_at (r : Fin 9) : BitVec 32 × BitVec 32 :=
  if r.val < 4 then
    if r.val < 2 then
      if r.val < 1 then
        (4294967295#32, 4294967295#32)
      else
        (4294967295#32, 0#32)
    else
      if r.val < 3 then
        (4294967295#32, 1#32)
      else
        (0#32, 4294967295#32)
  else
    if r.val < 6 then
      if r.val < 5 then
        (0#32, 0#32)
      else
        (0#32, 1#32)
    else
      if r.val < 7 then
        (1#32, 4294967295#32)
      else
        if r.val < 8 then
          (1#32, 0#32)
        else
          (1#32, 1#32)
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x6x2x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x27x2x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x6x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== RThreeIdeal.lean ====
abbrev S1x6x8x256x256 : Shape := ⟨5, ![1, 6, 8, 256, 256]⟩
abbrev S128x8x32 : Shape := ⟨3, ![128, 8, 32]⟩
abbrev S128x6x32 : Shape := ⟨3, ![128, 6, 32]⟩
abbrev S128x1x32 : Shape := ⟨3, ![128, 1, 32]⟩
abbrev S_ : Shape := ⟨0, ![]⟩
abbrev S27x8x256x256 : Shape := ⟨4, ![27, 8, 256, 256]⟩
abbrev S6x128x32 : Shape := ⟨3, ![6, 128, 32]⟩
abbrev S6x4096 : Shape := ⟨2, ![6, 4096]⟩
abbrev S27x8x256x256x1 : Shape := ⟨5, ![27, 8, 256, 256, 1]⟩
abbrev S6x27x8x256x256 : Shape := ⟨5, ![6, 27, 8, 256, 256]⟩
abbrev S6x8x256x256 : Shape := ⟨4, ![6, 8, 256, 256]⟩
abbrev S6x1x8x256x256 : Shape := ⟨5, ![6, 1, 8, 256, 256]⟩
abbrev S8x256x256 : Shape := ⟨3, ![8, 256, 256]⟩
abbrev S1x8x256x256 : Shape := ⟨4, ![1, 8, 256, 256]⟩
abbrev S1x27x8x256x256 : Shape := ⟨5, ![1, 27, 8, 256, 256]⟩
abbrev S1x1x8x256x256 : Shape := ⟨5, ![1, 1, 8, 256, 256]⟩

abbrev nBuf : Space → Nat
  | .hbm => 168
  | .vmem => 0
  | .smem => 0
  | _ => 0

abbrev hbmTy0_0 (i : Nat) : BufTy := match i % 128 with
  | 0 => ⟨S1x6x8x256x256, .f32⟩
  | 1 => ⟨S128x8x32, .f32⟩
  | 2 => ⟨S128x6x32, .f32⟩
  | 3 => ⟨S128x1x32, .f32⟩
  | 4 => ⟨S_, .f32⟩
  | 5 => ⟨S128x1x32, .f32⟩
  | 6 => ⟨S128x1x32, .f32⟩
  | 7 => ⟨S128x6x32, .f32⟩
  | 8 => ⟨S128x6x32, .f32⟩
  | 9 => ⟨S27x8x256x256, .i32⟩
  | 10 => ⟨S27x8x256x256, .i32⟩
  | 11 => ⟨S_, .i32⟩
  | 12 => ⟨S27x8x256x256, .i32⟩
  | 13 => ⟨S27x8x256x256, .i32⟩
  | 14 => ⟨S27x8x256x256, .i32⟩
  | 15 => ⟨S_, .i32⟩
  | 16 => ⟨S27x8x256x256, .i32⟩
  | 17 => ⟨S27x8x256x256, .i32⟩
  | 18 => ⟨S27x8x256x256, .i32⟩
  | 19 => ⟨S_, .i32⟩
  | 20 => ⟨S27x8x256x256, .i32⟩
  | 21 => ⟨S27x8x256x256, .i32⟩
  | 22 => ⟨S_, .i32⟩
  | 23 => ⟨S27x8x256x256, .i32⟩
  | 24 => ⟨S27x8x256x256, .i32⟩
  | 25 => ⟨S_, .i32⟩
  | 26 => ⟨S27x8x256x256, .i32⟩
  | 27 => ⟨S27x8x256x256, .i32⟩
  | 28 => ⟨S_, .i32⟩
  | 29 => ⟨S27x8x256x256, .i32⟩
  | 30 => ⟨S27x8x256x256, .i32⟩
  | 31 => ⟨S_, .i32⟩
  | 32 => ⟨S27x8x256x256, .i32⟩
  | 33 => ⟨S27x8x256x256, .i32⟩
  | 34 => ⟨S_, .i32⟩
  | 35 => ⟨S27x8x256x256, .i32⟩
  | 36 => ⟨S27x8x256x256, .i32⟩
  | 37 => ⟨S_, .i32⟩
  | 38 => ⟨S27x8x256x256, .i32⟩
  | 39 => ⟨S27x8x256x256, .i32⟩
  | 40 => ⟨S_, .i32⟩
  | 41 => ⟨S27x8x256x256, .i32⟩
  | 42 => ⟨S27x8x256x256, .i32⟩
  | 43 => ⟨S27x8x256x256, .i32⟩
  | 44 => ⟨S_, .i32⟩
  | 45 => ⟨S_, .i32⟩
  | 46 => ⟨S27x8x256x256, .i32⟩
  | 47 => ⟨S27x8x256x256, .i32⟩
  | 48 => ⟨S27x8x256x256, .i32⟩
  | 49 => ⟨S27x8x256x256, .i32⟩
  | 50 => ⟨S_, .i32⟩
  | 51 => ⟨S_, .i32⟩
  | 52 => ⟨S27x8x256x256, .i32⟩
  | 53 => ⟨S27x8x256x256, .i32⟩
  | 54 => ⟨S27x8x256x256, .i32⟩
  | 55 => ⟨S27x8x256x256, .i32⟩
  | 56 => ⟨S_, .i32⟩
  | 57 => ⟨S_, .i32⟩
  | 58 => ⟨S27x8x256x256, .i32⟩
  | 59 => ⟨S27x8x256x256, .i32⟩
  | 60 => ⟨S27x8x256x256, .i32⟩
  | 61 => ⟨S_, .i32⟩
  | 62 => ⟨S27x8x256x256, .i32⟩
  | 63 => ⟨S27x8x256x256, .i32⟩
  | 64 => ⟨S_, .i32⟩
  | 65 => ⟨S27x8x256x256, .i32⟩
  | 66 => ⟨S27x8x256x256, .i32⟩
  | 67 => ⟨S27x8x256x256, .i32⟩
  | 68 => ⟨S27x8x256x256, .i32⟩
  | 69 => ⟨S6x128x32, .f32⟩
  | 70 => ⟨S6x4096, .f32⟩
  | 71 => ⟨S27x8x256x256x1, .i32⟩
  | 72 => ⟨S6x27x8x256x256, .f32⟩
  | 73 => ⟨S6x8x256x256, .f32⟩
  | 74 => ⟨S6x1x8x256x256, .f32⟩
  | 75 => ⟨S6x27x8x256x256, .f32⟩
  | 76 => ⟨S6x27x8x256x256, .f32⟩
  | 77 => ⟨S6x27x8x256x256, .f32⟩
  | 78 => ⟨S_, .f32⟩
  | 79 => ⟨S27x8x256x256, .f32⟩
  | 80 => ⟨S27x8x256x256, .f32⟩
  | 81 => ⟨S_, .f32⟩
  | 82 => ⟨S8x256x256, .f32⟩
  | 83 => ⟨S_, .f32⟩
  | 84 => ⟨S8x256x256, .f32⟩
  | 85 => ⟨S8x256x256, .f32⟩
  | 86 => ⟨S1x8x256x256, .f32⟩
  | 87 => ⟨S27x8x256x256, .f32⟩
  | 88 => ⟨S27x8x256x256, .f32⟩
  | 89 => ⟨S27x8x256x256, .f32⟩
  | 90 => ⟨S_, .f32⟩
  | 91 => ⟨S8x256x256, .f32⟩
  | 92 => ⟨S1x8x256x256, .f32⟩
  | 93 => ⟨S27x8x256x256, .f32⟩
  | 94 => ⟨S27x8x256x256, .f32⟩
  | 95 => ⟨S_, .f32⟩
  | 96 => ⟨S8x256x256, .f32⟩
  | 97 => ⟨S1x8x256x256, .f32⟩
  | 98 => ⟨S27x8x256x256, .f32⟩
  | 99 => ⟨S27x8x256x256, .i1⟩
  | 100 => ⟨S_, .i32⟩
  | 101 => ⟨S_, .i32⟩
  | 102 => ⟨S27x8x256x256, .i32⟩
  | 103 => ⟨S27x8x256x256, .i32⟩
  | 104 => ⟨S_, .i32⟩
  | 105 => ⟨S8x256x256, .i32⟩
  | 106 => ⟨S8x256x256, .i32⟩
  | 107 => ⟨S_, .i32⟩
  | 108 => ⟨S8x256x256, .i32⟩
  | 109 => ⟨S8x256x256, .i32⟩
  | 110 => ⟨S8x256x256, .i32⟩
  | 111 => ⟨S_, .i32⟩
  | 112 => ⟨S8x256x256, .i32⟩
  | 113 => ⟨S8x256x256, .i32⟩
  | 114 => ⟨S8x256x256, .i32⟩
  | 115 => ⟨S_, .i32⟩
  | 116 => ⟨S8x256x256, .i32⟩
  | 117 => ⟨S8x256x256, .i32⟩
  | 118 => ⟨S_, .i32⟩
  | 119 => ⟨S8x256x256, .i32⟩
  | 120 => ⟨S8x256x256, .i32⟩
  | 121 => ⟨S_, .i32⟩
  | 122 => ⟨S8x256x256, .i32⟩
  | 123 => ⟨S8x256x256, .i32⟩
  | 124 => ⟨S_, .i32⟩
  | 125 => ⟨S8x256x256, .i32⟩
  | 126 => ⟨S8x256x256, .i32⟩
  | 127 => ⟨S_, .i32⟩
  | _ => ⟨S1x6x8x256x256, .f32⟩

abbrev hbmTy0_1 (i : Nat) : BufTy := match i % 128 with
  | 0 => ⟨S8x256x256, .i32⟩
  | 1 => ⟨S8x256x256, .i32⟩
  | 2 => ⟨S_, .i32⟩
  | 3 => ⟨S8x256x256, .i32⟩
  | 4 => ⟨S8x256x256, .i32⟩
  | 5 => ⟨S_, .i32⟩
  | 6 => ⟨S8x256x256, .i32⟩
  | 7 => ⟨S8x256x256, .i32⟩
  | 8 => ⟨S_, .i32⟩
  | 9 => ⟨S8x256x256, .i32⟩
  | 10 => ⟨S8x256x256, .i32⟩
  | 11 => ⟨S8x256x256, .i32⟩
  | 12 => ⟨S_, .i32⟩
  | 13 => ⟨S_, .i32⟩
  | 14 => ⟨S8x256x256, .i32⟩
  | 15 => ⟨S8x256x256, .i32⟩
  | 16 => ⟨S8x256x256, .i32⟩
  | 17 => ⟨S8x256x256, .i32⟩
  | 18 => ⟨S_, .i32⟩
  | 19 => ⟨S_, .i32⟩
  | 20 => ⟨S8x256x256, .i32⟩
  | 21 => ⟨S8x256x256, .i32⟩
  | 22 => ⟨S8x256x256, .i32⟩
  | 23 => ⟨S8x256x256, .i32⟩
  | 24 => ⟨S_, .i32⟩
  | 25 => ⟨S_, .i32⟩
  | 26 => ⟨S8x256x256, .i32⟩
  | 27 => ⟨S8x256x256, .i32⟩
  | 28 => ⟨S8x256x256, .i32⟩
  | 29 => ⟨S_, .i32⟩
  | 30 => ⟨S8x256x256, .i32⟩
  | 31 => ⟨S8x256x256, .i32⟩
  | 32 => ⟨S_, .i32⟩
  | 33 => ⟨S8x256x256, .i32⟩
  | 34 => ⟨S8x256x256, .i32⟩
  | 35 => ⟨S8x256x256, .i32⟩
  | 36 => ⟨S8x256x256, .i32⟩
  | 37 => ⟨S8x256x256, .f32⟩
  | 38 => ⟨S1x27x8x256x256, .f32⟩
  | 39 => ⟨S1x1x8x256x256, .f32⟩
  | _ => ⟨S1x6x8x256x256, .f32⟩

abbrev hbmTy (i : Nat) : BufTy := match i / 128 with
  | 0 => hbmTy0_0 i
  | 1 => hbmTy0_1 i
  | _ => ⟨S1x6x8x256x256, .f32⟩

abbrev bufTy : (tb : Table) → Fin (tcTables nBuf tb) → BufTy
  | .hbm, ⟨i, _⟩ => hbmTy i
  | _, _ => ⟨S1x6x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_c_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_c_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_13 : Ref sig .tc := ⟨.hbm, 56, rfl⟩
abbrev main_c_14 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_15 : Ref sig .tc := ⟨.hbm, 61, rfl⟩
abbrev main_v42 : Ref sig .tc := ⟨.hbm, 62, rfl⟩
abbrev main_v43 : Ref sig .tc := ⟨.hbm, 63, rfl⟩
abbrev main_c_16 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_v58 : Ref sig .tc := ⟨.hbm, 80, rfl⟩
abbrev main_cst_18 : Ref sig .tc := ⟨.hbm, 81, rfl⟩
abbrev main_v59 : Ref sig .tc := ⟨.hbm, 82, rfl⟩
abbrev main_cst_19 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_20 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_21 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_22 : Ref sig .tc := ⟨.hbm, 100, rfl⟩
abbrev main_call0_v0 : Ref sig .tc := ⟨.hbm, 101, rfl⟩
abbrev main_call0_v1 : Ref sig .tc := ⟨.hbm, 102, rfl⟩
abbrev main_v74 : Ref sig .tc := ⟨.hbm, 103, rfl⟩
abbrev main_c_23 : Ref sig .tc := ⟨.hbm, 104, rfl⟩
abbrev main_v75 : Ref sig .tc := ⟨.hbm, 105, rfl⟩
abbrev main_v76 : Ref sig .tc := ⟨.hbm, 106, rfl⟩
abbrev main_c_24 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_25 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_26 : Ref sig .tc := ⟨.hbm, 115, rfl⟩
abbrev main_v83 : Ref sig .tc := ⟨.hbm, 116, rfl⟩
abbrev main_v84 : Ref sig .tc := ⟨.hbm, 117, rfl⟩
abbrev main_c_27 : Ref sig .tc := ⟨.hbm, 118, rfl⟩
abbrev main_v85 : Ref sig .tc := ⟨.hbm, 119, rfl⟩
abbrev main_v86 : Ref sig .tc := ⟨.hbm, 120, rfl⟩
abbrev main_c_28 : Ref sig .tc := ⟨.hbm, 121, rfl⟩
abbrev main_v87 : Ref sig .tc := ⟨.hbm, 122, rfl⟩
abbrev main_v88 : Ref sig .tc := ⟨.hbm, 123, rfl⟩
abbrev main_c_29 : Ref sig .tc := ⟨.hbm, 124, rfl⟩
abbrev main_v89 : Ref sig .tc := ⟨.hbm, 125, rfl⟩
abbrev main_v90 : Ref sig .tc := ⟨.hbm, 126, rfl⟩
abbrev main_c_30 : Ref sig .tc := ⟨.hbm, 127, rfl⟩
abbrev main_v91 : Ref sig .tc := ⟨.hbm, 128, rfl⟩
abbrev main_v92 : Ref sig .tc := ⟨.hbm, 129, rfl⟩
abbrev main_c_31 : Ref sig .tc := ⟨.hbm, 130, rfl⟩
abbrev main_v93 : Ref sig .tc := ⟨.hbm, 131, rfl⟩
abbrev main_v94 : Ref sig .tc := ⟨.hbm, 132, rfl⟩
abbrev main_c_32 : Ref sig .tc := ⟨.hbm, 133, rfl⟩
abbrev main_v95 : Ref sig .tc := ⟨.hbm, 134, rfl⟩
abbrev main_v96 : Ref sig .tc := ⟨.hbm, 135, rfl⟩
abbrev main_c_33 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_34 : Ref sig .tc := ⟨.hbm, 140, rfl⟩
abbrev main_c_35 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_36 : Ref sig .tc := ⟨.hbm, 146, rfl⟩
abbrev main_c_37 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_38 : Ref sig .tc := ⟨.hbm, 152, rfl⟩
abbrev main_c_39 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_40 : Ref sig .tc := ⟨.hbm, 157, rfl⟩
abbrev main_v111 : Ref sig .tc := ⟨.hbm, 158, rfl⟩
abbrev main_v112 : Ref sig .tc := ⟨.hbm, 159, rfl⟩
abbrev main_c_41 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩

abbrev nD : Nat := 1
abbrev τ : Topo := Topo.v7x

variable {F : FTy → Type} [FloatOps F]
-- ==== KTwo.lean ====
abbrev S1x6x8x256x256 : Shape := ⟨5, ![1, 6, 8, 256, 256]⟩
abbrev S128x6x32 : Shape := ⟨3, ![128, 6, 32]⟩
abbrev S128x8x32 : Shape := ⟨3, ![128, 8, 32]⟩
abbrev S1x6x2x8x256 : Shape := ⟨5, ![1, 6, 2, 8, 256]⟩
abbrev S27x16x256 : Shape := ⟨3, ![27, 16, 256]⟩
abbrev S6x2x8x256 : Shape := ⟨4, ![6, 2, 8, 256]⟩
abbrev S6x16x256 : Shape := ⟨3, ![6, 16, 256]⟩
abbrev S16x256 : Shape := ⟨2, ![16, 256]⟩
abbrev S32x256 : Shape := ⟨2, ![32, 256]⟩
abbrev S1x6x32 : Shape := ⟨3, ![1, 6, 32]⟩
abbrev S6x32 : Shape := ⟨2, ![6, 32]⟩
abbrev S32 : Shape := ⟨1, ![32]⟩
abbrev S1x32 : Shape := ⟨2, ![1, 32]⟩
abbrev S7x32 : Shape := ⟨2, ![7, 32]⟩
abbrev S7x256 : Shape := ⟨2, ![7, 256]⟩
abbrev S7x8 : Shape := ⟨2, ![7, 8]⟩
abbrev S7x248 : Shape := ⟨2, ![7, 248]⟩
abbrev S1x256 : Shape := ⟨2, ![1, 256]⟩
abbrev S256 : Shape := ⟨1, ![256]⟩
abbrev S1x16x256 : Shape := ⟨3, ![1, 16, 256]⟩
abbrev S7x16x256 : Shape := ⟨3, ![7, 16, 256]⟩
abbrev S256x32 : Shape := ⟨2, ![256, 32]⟩
abbrev S21x256 : Shape := ⟨2, ![21, 256]⟩
abbrev S21x32 : Shape := ⟨2, ![21, 32]⟩
abbrev S7x1 : Shape := ⟨2, ![7, 1]⟩
abbrev S7x30 : Shape := ⟨2, ![7, 30]⟩
abbrev S8x32 : Shape := ⟨2, ![8, 32]⟩
abbrev S1x8x32 : Shape := ⟨3, ![1, 8, 32]⟩

abbrev nBuf : Space → Nat
  | .hbm => 3
  | .vmem => 5
  | .smem => 0
  | _ => 0

abbrev bufTy : (tb : Table) → Fin (tcTables nBuf tb) → BufTy
  | .hbm, ⟨0, _⟩ => ⟨S1x6x8x256x256, .f32⟩
  | .hbm, ⟨1, _⟩ => ⟨S128x6x32, .f32⟩
  | .hbm, ⟨2, _⟩ => ⟨S128x8x32, .f32⟩
  | .local _ .vmem, ⟨0, _⟩ => ⟨S1x6x2x8x256, .f32⟩
  | .local _ .vmem, ⟨1, _⟩ => ⟨S1x6x2x8x256, .f32⟩
  | .local _ .vmem, ⟨2, _⟩ => ⟨S128x6x32, .f32⟩
  | .local _ .vmem, ⟨3, _⟩ => ⟨S128x8x32, .f32⟩
  | .local _ .vmem, ⟨4, _⟩ => ⟨S27x16x256, .f32⟩
  | _, _ => ⟨S1x6x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨2, ![4, 32], ![false, false]⟩

def k0_off1 (i : grid0.Coords) (c_m1_i32 : BitVec 32) (c_m1_i32_13 : BitVec 32) : Fin 3 → Nat :=
  let c3_i32 : BitVec 32 := 3#32
  let c0_i32_12 : BitVec 32 := 0#32
  let arg0 : BitVec 32 := BitVec.ofNat 32 (i 0).val
  let v40 : BitVec 32 := Scalar.addi arg0 c_m1_i32
  let v41 : BitVec 32 := Scalar.maxsi c0_i32_12 v40
  let v42 : BitVec 32 := Scalar.minsi c3_i32 v41
  let c32_i32 : BitVec 32 := 32#32
  let v43 : BitVec 32 := Scalar.muli v42 c32_i32
  let c31_i32 : BitVec 32 := 31#32
  let c0_i32_14 : BitVec 32 := 0#32
  let arg1 : BitVec 32 := BitVec.ofNat 32 (i 1).val
  let v44 : BitVec 32 := Scalar.addi arg1 c_m1_i32_13
  let v45 : BitVec 32 := Scalar.maxsi c0_i32_14 v44
  let v46 : BitVec 32 := Scalar.minsi c31_i32 v45
  let v47 : BitVec 32 := Scalar.addi v43 v46
  let v48 : Index := Scalar.indexCast v47
  let c0_15 : Index := 0#32
  let c0_16 : Index := 0#32
  ![v48.toNat, 0, 0]
def k0_off1_at (r : Fin 9) : BitVec 32 × BitVec 32 :=
  if r.val < 4 then
    if r.val < 2 then
      if r.val < 1 then
        (4294967295#32, 4294967295#32)
      else
        (4294967295#32, 0#32)
    else
      if r.val < 3 then
        (4294967295#32, 1#32)
      else
        (0#32, 4294967295#32)
  else
    if r.val < 6 then
      if r.val < 5 then
        (0#32, 0#32)
      else
        (0#32, 1#32)
    else
      if r.val < 7 then
        (1#32, 4294967295#32)
      else
        if r.val < 8 then
          (1#32, 0#32)
        else
          (1#32, 1#32)
def k0_off2 (i : grid0.Coords) (c_m1_i32_195 : BitVec 32) (c_m1_i32_199 : BitVec 32) : Fin 3 → Nat :=
  let c3_i32_197 : BitVec 32 := 3#32
  let c0_i32_196 : BitVec 32 := 0#32
  let arg0 : BitVec 32 := BitVec.ofNat 32 (i 0).val
  let v1906 : BitVec 32 := Scalar.addi arg0 c_m1_i32_195
  let v1907 : BitVec 32 := Scalar.maxsi c0_i32_196 v1906
  let v1908 : BitVec 32 := Scalar.minsi c3_i32_197 v1907
  let c32_i32_198 : BitVec 32 := 32#32
  let v1909 : BitVec 32 := Scalar.muli v1908 c32_i32_198
  let c31_i32_201 : BitVec 32 := 31#32
  let c0_i32_200 : BitVec 32 := 0#32
  let arg1 : BitVec 32 := BitVec.ofNat 32 (i 1).val
  let v1910 : BitVec 32 := Scalar.addi arg1 c_m1_i32_199
  let v1911 : BitVec 32 := Scalar.maxsi c0_i32_200 v1910
  let v1912 : BitVec 32 := Scalar.minsi c31_i32_201 v1911
  let v1913 : BitVec 32 := Scalar.addi v1909 v1912
  let v1914 : Index := Scalar.indexCast v1913
  let c0_202 : Index := 0#32
  let c0_203 : Index := 0#32
  ![v1914.toNat, 0, 0]
def k0_off2_at (r : Fin 9) : BitVec 32 × BitVec 32 :=
  if r.val < 4 then
    if r.val < 2 then
      if r.val < 1 then
        (4294967295#32, 4294967295#32)
      else
        (4294967295#32, 0#32)
    else
      if r.val < 3 then
        (4294967295#32, 1#32)
      else
        (0#32, 4294967295#32)
  else
    if r.val < 6 then
      if r.val < 5 then
        (0#32, 0#32)
      else
        (0#32, 1#32)
    else
      if r.val < 7 then
        (1#32, 4294967295#32)
      else
        if r.val < 8 then
          (1#32, 0#32)
        else
          (1#32, 1#32)
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x6x2x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== RTwoIdeal.lean ====
abbrev S1x6x8x256x256 : Shape := ⟨5, ![1, 6, 8, 256, 256]⟩
abbrev S128x6x32 : Shape := ⟨3, ![128, 6, 32]⟩
abbrev S27x8x256x256 : Shape := ⟨4, ![27, 8, 256, 256]⟩
abbrev S_ : Shape := ⟨0, ![]⟩
abbrev S6x128x32 : Shape := ⟨3, ![6, 128, 32]⟩
abbrev S6x4096 : Shape := ⟨2, ![6, 4096]⟩
abbrev S27x8x256x256x1 : Shape := ⟨5, ![27, 8, 256, 256, 1]⟩
abbrev S6x27x8x256x256 : Shape := ⟨5, ![6, 27, 8, 256, 256]⟩
abbrev S6x8x256x256 : Shape := ⟨4, ![6, 8, 256, 256]⟩
abbrev S6x1x8x256x256 : Shape := ⟨5, ![6, 1, 8, 256, 256]⟩
abbrev S8x256x256 : Shape := ⟨3, ![8, 256, 256]⟩
abbrev S1x8x256x256 : Shape := ⟨4, ![1, 8, 256, 256]⟩
abbrev S7x8x256x256 : Shape := ⟨4, ![7, 8, 256, 256]⟩
abbrev S7x4096 : Shape := ⟨2, ![7, 4096]⟩
abbrev S1x27x8x256x256 : Shape := ⟨5, ![1, 27, 8, 256, 256]⟩
abbrev S7x1x8x256x256 : Shape := ⟨5, ![7, 1, 8, 256, 256]⟩
abbrev S7x27x8x256x256 : Shape := ⟨5, ![7, 27, 8, 256, 256]⟩
abbrev S7x128x32 : Shape := ⟨3, ![7, 128, 32]⟩
abbrev S128x7x32 : Shape := ⟨3, ![128, 7, 32]⟩
abbrev S128x1x32 : Shape := ⟨3, ![128, 1, 32]⟩
abbrev S128x8x32 : Shape := ⟨3, ![128, 8, 32]⟩

abbrev nBuf : Space → Nat
  | .hbm => 106
  | .vmem => 0
  | .smem => 0
  | _ => 0

abbrev bufTy : (tb : Table) → Fin (tcTables nBuf tb) → BufTy
  | .hbm, ⟨0, _⟩ => ⟨S1x6x8x256x256, .f32⟩
  | .hbm, ⟨1, _⟩ => ⟨S128x6x32, .f32⟩
  | .hbm, ⟨2, _⟩ => ⟨S27x8x256x256, .i32⟩
  | .hbm, ⟨3, _⟩ => ⟨S27x8x256x256, .i32⟩
  | .hbm, ⟨4, _⟩ => ⟨S_, .i32⟩
  | .hbm, ⟨5, _⟩ => ⟨S27x8x256x256, .i32⟩
  | .hbm, ⟨6, _⟩ => ⟨S27x8x256x256, .i32⟩
  | .hbm, ⟨7, _⟩ => ⟨S27x8x256x256, .i32⟩
  | .hbm, ⟨8, _⟩ => ⟨S_, .i32⟩
  | .hbm, ⟨9, _⟩ => ⟨S27x8x256x256, .i32⟩
  | .hbm, ⟨10, _⟩ => ⟨S27x8x256x256, .i32⟩
  | .hbm, ⟨11, _⟩ => ⟨S27x8x256x256, .i32⟩
  | .hbm, ⟨12, _⟩ => ⟨S_, .i32⟩
  | .hbm, ⟨13, _⟩ => ⟨S27x8x256x256, .i32⟩
  | .hbm, ⟨14, _⟩ => ⟨S27x8x256x256, .i32⟩
  | .hbm, ⟨15, _⟩ => ⟨S_, .i32⟩
  | .hbm, ⟨16, _⟩ => ⟨S27x8x256x256, .i32⟩
  | .hbm, ⟨17, _⟩ => ⟨S27x8x256x256, .i32⟩
  | .hbm, ⟨18, _⟩ => ⟨S_, .i32⟩
  | .hbm, ⟨19, _⟩ => ⟨S27x8x256x256, .i32⟩
  | .hbm, ⟨20, _⟩ => ⟨S27x8x256x256, .i32⟩
  | .hbm, ⟨21, _⟩ => ⟨S_, .i32⟩
  | .hbm, ⟨22, _⟩ => ⟨S27x8x256x256, .i32⟩
  | .hbm, ⟨23, _⟩ => ⟨S27x8x256x256, .i32⟩
  | .hbm, ⟨24, _⟩ => ⟨S_, .i32⟩
  | .hbm, ⟨25, _⟩ => ⟨S27x8x256x256, .i32⟩
  | .hbm, ⟨26, _⟩ => ⟨S27x8x256x256, .i32⟩
  | .hbm, ⟨27, _⟩ => ⟨S_, .i32⟩
  | .hbm, ⟨28, _⟩ => ⟨S27x8x256x256, .i32⟩
  | .hbm, ⟨29, _⟩ => ⟨S27x8x256x256, .i32⟩
  | .hbm, ⟨30, _⟩ => ⟨S_, .i32⟩
  | .hbm, ⟨31, _⟩ => ⟨S27x8x256x256, .i32⟩
  | .hbm, ⟨32, _⟩ => ⟨S27x8x256x256, .i32⟩
  | .hbm, ⟨33, _⟩ => ⟨S_, .i32⟩
  | .hbm, ⟨34, _⟩ => ⟨S27x8x256x256, .i32⟩
  | .hbm, ⟨35, _⟩ => ⟨S27x8x256x256, .i32⟩
  | .hbm, ⟨36, _⟩ => ⟨S27x8x256x256, .i32⟩
  | .hbm, ⟨37, _⟩ => ⟨S_, .i32⟩
  | .hbm, ⟨38, _⟩ => ⟨S_, .i32⟩
  | .hbm, ⟨39, _⟩ => ⟨S27x8x256x256, .i32⟩
  | .hbm, ⟨40, _⟩ => ⟨S27x8x256x256, .i32⟩
  | .hbm, ⟨41, _⟩ => ⟨S27x8x256x256, .i32⟩
  | .hbm, ⟨42, _⟩ => ⟨S27x8x256x256, .i32⟩
  | .hbm, ⟨43, _⟩ => ⟨S_, .i32⟩
  | .hbm, ⟨44, _⟩ => ⟨S_, .i32⟩
  | .hbm, ⟨45, _⟩ => ⟨S27x8x256x256, .i32⟩
  | .hbm, ⟨46, _⟩ => ⟨S27x8x256x256, .i32⟩
  | .hbm, ⟨47, _⟩ => ⟨S27x8x256x256, .i32⟩
  | .hbm, ⟨48, _⟩ => ⟨S27x8x256x256, .i32⟩
  | .hbm, ⟨49, _⟩ => ⟨S_, .i32⟩
  | .hbm, ⟨50, _⟩ => ⟨S_, .i32⟩
  | .hbm, ⟨51, _⟩ => ⟨S27x8x256x256, .i32⟩
  | .hbm, ⟨52, _⟩ => ⟨S27x8x256x256, .i32⟩
  | .hbm, ⟨53, _⟩ => ⟨S27x8x256x256, .i32⟩
  | .hbm, ⟨54, _⟩ => ⟨S_, .i32⟩
  | .hbm, ⟨55, _⟩ => ⟨S27x8x256x256, .i32⟩
  | .hbm, ⟨56, _⟩ => ⟨S27x8x256x256, .i32⟩
  | .hbm, ⟨57, _⟩ => ⟨S_, .i32⟩
  | .hbm, ⟨58, _⟩ => ⟨S27x8x256x256, .i32⟩
  | .hbm, ⟨59, _⟩ => ⟨S27x8x256x256, .i32⟩
  | .hbm, ⟨60, _⟩ => ⟨S27x8x256x256, .i32⟩
  | .hbm, ⟨61, _⟩ => ⟨S27x8x256x256, .i32⟩
  | .hbm, ⟨62, _⟩ => ⟨S6x128x32, .f32⟩
  | .hbm, ⟨63, _⟩ => ⟨S6x4096, .f32⟩
  | .hbm, ⟨64, _⟩ => ⟨S27x8x256x256x1, .i32⟩
  | .hbm, ⟨65, _⟩ => ⟨S6x27x8x256x256, .f32⟩
  | .hbm, ⟨66, _⟩ => ⟨S6x8x256x256, .f32⟩
  | .hbm, ⟨67, _⟩ => ⟨S6x1x8x256x256, .f32⟩
  | .hbm, ⟨68, _⟩ => ⟨S6x27x8x256x256, .f32⟩
  | .hbm, ⟨69, _⟩ => ⟨S6x27x8x256x256, .f32⟩
  | .hbm, ⟨70, _⟩ => ⟨S6x27x8x256x256, .f32⟩
  | .hbm, ⟨71, _⟩ => ⟨S_, .f32⟩
  | .hbm, ⟨72, _⟩ => ⟨S27x8x256x256, .f32⟩
  | .hbm, ⟨73, _⟩ => ⟨S27x8x256x256, .f32⟩
  | .hbm, ⟨74, _⟩ => ⟨S_, .f32⟩
  | .hbm, ⟨75, _⟩ => ⟨S8x256x256, .f32⟩
  | .hbm, ⟨76, _⟩ => ⟨S_, .f32⟩
  | .hbm, ⟨77, _⟩ => ⟨S8x256x256, .f32⟩
  | .hbm, ⟨78, _⟩ => ⟨S8x256x256, .f32⟩
  | .hbm, ⟨79, _⟩ => ⟨S1x8x256x256, .f32⟩
  | .hbm, ⟨80, _⟩ => ⟨S27x8x256x256, .f32⟩
  | .hbm, ⟨81, _⟩ => ⟨S27x8x256x256, .f32⟩
  | .hbm, ⟨82, _⟩ => ⟨S27x8x256x256, .f32⟩
  | .hbm, ⟨83, _⟩ => ⟨S_, .f32⟩
  | .hbm, ⟨84, _⟩ => ⟨S8x256x256, .f32⟩
  | .hbm, ⟨85, _⟩ => ⟨S1x8x256x256, .f32⟩
  | .hbm, ⟨86, _⟩ => ⟨S27x8x256x256, .f32⟩
  | .hbm, ⟨87, _⟩ => ⟨S27x8x256x256, .f32⟩
  | .hbm, ⟨88, _⟩ => ⟨S6x8x256x256, .f32⟩
  | .hbm, ⟨89, _⟩ => ⟨S_, .f32⟩
  | .hbm, ⟨90, _⟩ => ⟨S1x8x256x256, .f32⟩
  | .hbm, ⟨91, _⟩ => ⟨S7x8x256x256, .f32⟩
  | .hbm, ⟨92, _⟩ => ⟨S_, .f32⟩
  | .hbm, ⟨93, _⟩ => ⟨S7x4096, .f32⟩
  | .hbm, ⟨94, _⟩ => ⟨S1x27x8x256x256, .f32⟩
  | .hbm, ⟨95, _⟩ => ⟨S7x1x8x256x256, .f32⟩
  | .hbm, ⟨96, _⟩ => ⟨S7x27x8x256x256, .f32⟩
  | .hbm, ⟨97, _⟩ => ⟨S7x27x8x256x256, .f32⟩
  | .hbm, ⟨98, _⟩ => ⟨S7x27x8x256x256, .f32⟩
  | .hbm, ⟨99, _⟩ => ⟨S27x8x256x256x1, .i32⟩
  | .hbm, ⟨100, _⟩ => ⟨S7x4096, .f32⟩
  | .hbm, ⟨101, _⟩ => ⟨S7x128x32, .f32⟩
  | .hbm, ⟨102, _⟩ => ⟨S128x7x32, .f32⟩
  | .hbm, ⟨103, _⟩ => ⟨S_, .f32⟩
  | .hbm, ⟨104, _⟩ => ⟨S128x1x32, .f32⟩
  | .hbm, ⟨105, _⟩ => ⟨S128x8x32, .f32⟩
  | _, _ => ⟨S1x6x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_c_6 : Ref sig .tc := ⟨.hbm, 27, rfl⟩
abbrev main_v18 : Ref sig .tc := ⟨.hbm, 28, rfl⟩
abbrev main_v19 : Ref sig .tc := ⟨.hbm, 29, rfl⟩
abbrev main_c_7 : Ref sig .tc := ⟨.hbm, 30, rfl⟩
abbrev main_v20 : Ref sig .tc := ⟨.hbm, 31, rfl⟩
abbrev main_v21 : Ref sig .tc := ⟨.hbm, 32, rfl⟩
abbrev main_c_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_9 : Ref sig .tc := ⟨.hbm, 37, rfl⟩
abbrev main_c_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_11 : Ref sig .tc := ⟨.hbm, 43, rfl⟩
abbrev main_c_12 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_13 : Ref sig .tc := ⟨.hbm, 49, rfl⟩
abbrev main_c_14 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_15 : Ref sig .tc := ⟨.hbm, 54, rfl⟩
abbrev main_v36 : Ref sig .tc := ⟨.hbm, 55, rfl⟩
abbrev main_v37 : Ref sig .tc := ⟨.hbm, 56, rfl⟩
abbrev main_c_16 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_cst_18 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_19 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_20 : Ref sig .tc := ⟨.hbm, 89, rfl⟩
abbrev main_v65 : Ref sig .tc := ⟨.hbm, 90, rfl⟩
abbrev main_v66 : Ref sig .tc := ⟨.hbm, 91, rfl⟩
abbrev main_cst_21 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_22 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== KOne.lean ====
abbrev S1x3x8x256x256 : Shape := ⟨5, ![1, 3, 8, 256, 256]⟩
abbrev S1x6x8x256x256 : Shape := ⟨5, ![1, 6, 8, 256, 256]⟩
abbrev S128x6x32 : Shape := ⟨3, ![128, 6, 32]⟩
abbrev S1x3x2x8x256 : Shape := ⟨5, ![1, 3, 2, 8, 256]⟩
abbrev S1x6x2x8x256 : Shape := ⟨5, ![1, 6, 2, 8, 256]⟩
abbrev S3x2x8x256 : Shape := ⟨4, ![3, 2, 8, 256]⟩
abbrev S2x8x256 : Shape := ⟨3, ![2, 8, 256]⟩
abbrev S1x2x8x256 : Shape := ⟨4, ![1, 2, 8, 256]⟩
abbrev S6x2x8x256 : Shape := ⟨4, ![6, 2, 8, 256]⟩
abbrev S6x16x256 : Shape := ⟨3, ![6, 16, 256]⟩
abbrev S6x256 : Shape := ⟨2, ![6, 256]⟩
abbrev S256x32 : Shape := ⟨2, ![256, 32]⟩
abbrev S6x32 : Shape := ⟨2, ![6, 32]⟩
abbrev S1x6x32 : Shape := ⟨3, ![1, 6, 32]⟩

abbrev nBuf : Space → Nat
  | .hbm => 3
  | .vmem => 5
  | .smem => 0
  | _ => 0

abbrev bufTy : (tb : Table) → Fin (tcTables nBuf tb) → BufTy
  | .hbm, ⟨0, _⟩ => ⟨S1x3x8x256x256, .f32⟩
  | .hbm, ⟨1, _⟩ => ⟨S1x6x8x256x256, .f32⟩
  | .hbm, ⟨2, _⟩ => ⟨S128x6x32, .f32⟩
  | .local _ .vmem, ⟨0, _⟩ => ⟨S1x3x2x8x256, .f32⟩
  | .local _ .vmem, ⟨1, _⟩ => ⟨S1x3x2x8x256, .f32⟩
  | .local _ .vmem, ⟨2, _⟩ => ⟨S1x6x2x8x256, .f32⟩
  | .local _ .vmem, ⟨3, _⟩ => ⟨S1x6x2x8x256, .f32⟩
  | .local _ .vmem, ⟨4, _⟩ => ⟨S128x6x32, .f32⟩
  | _, _ => ⟨S1x3x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 32], ![false, false]⟩

def k0_off1 (i : grid0.Coords) : Fin 3 → Nat :=
  let arg0 : BitVec 32 := BitVec.ofNat 32 (i 0).val
  let c32_i32 : BitVec 32 := 32#32
  let v63 : BitVec 32 := Scalar.muli arg0 c32_i32
  let arg1 : BitVec 32 := BitVec.ofNat 32 (i 1).val
  let v64 : BitVec 32 := Scalar.addi v63 arg1
  let v68 : Index := Scalar.indexCast v64
  let c0_21 : Index := 0#32
  let c0_22 : Index := 0#32
  ![v68.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x3x2x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x6x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ROneIdeal.lean ====
abbrev S1x3x8x256x256 : Shape := ⟨5, ![1, 3, 8, 256, 256]⟩
abbrev S1x8x256x256 : Shape := ⟨4, ![1, 8, 256, 256]⟩
abbrev S_ : Shape := ⟨0, ![]⟩
abbrev S3x8x256x256 : Shape := ⟨4, ![3, 8, 256, 256]⟩
abbrev S6x8x256x256 : Shape := ⟨4, ![6, 8, 256, 256]⟩
abbrev S8x256x256 : Shape := ⟨3, ![8, 256, 256]⟩
abbrev S7x8x256x256 : Shape := ⟨4, ![7, 8, 256, 256]⟩
abbrev S7x4096 : Shape := ⟨2, ![7, 4096]⟩
abbrev S8x256x256x1 : Shape := ⟨4, ![8, 256, 256, 1]⟩
abbrev S6x4096 : Shape := ⟨2, ![6, 4096]⟩
abbrev S1x4096 : Shape := ⟨2, ![1, 4096]⟩
abbrev S1x6x8x256x256 : Shape := ⟨5, ![1, 6, 8, 256, 256]⟩
abbrev S6x128x32 : Shape := ⟨3, ![6, 128, 32]⟩
abbrev S128x6x32 : Shape := ⟨3, ![128, 6, 32]⟩

abbrev nBuf : Space → Nat
  | .hbm => 55
  | .vmem => 0
  | .smem => 0
  | _ => 0

abbrev bufTy : (tb : Table) → Fin (tcTables nBuf tb) → BufTy
  | .hbm, ⟨0, _⟩ => ⟨S1x3x8x256x256, .f32⟩
  | .hbm, ⟨1, _⟩ => ⟨S1x8x256x256, .f32⟩
  | .hbm, ⟨2, _⟩ => ⟨S1x8x256x256, .f32⟩
  | .hbm, ⟨3, _⟩ => ⟨S1x8x256x256, .f32⟩
  | .hbm, ⟨4, _⟩ => ⟨S_, .f32⟩
  | .hbm, ⟨5, _⟩ => ⟨S1x8x256x256, .f32⟩
  | .hbm, ⟨6, _⟩ => ⟨S1x8x256x256, .f32⟩
  | .hbm, ⟨7, _⟩ => ⟨S_, .f32⟩
  | .hbm, ⟨8, _⟩ => ⟨S1x8x256x256, .f32⟩
  | .hbm, ⟨9, _⟩ => ⟨S1x8x256x256, .f32⟩
  | .hbm, ⟨10, _⟩ => ⟨S_, .f32⟩
  | .hbm, ⟨11, _⟩ => ⟨S1x8x256x256, .f32⟩
  | .hbm, ⟨12, _⟩ => ⟨S1x8x256x256, .f32⟩
  | .hbm, ⟨13, _⟩ => ⟨S3x8x256x256, .f32⟩
  | .hbm, ⟨14, _⟩ => ⟨S_, .f32⟩
  | .hbm, ⟨15, _⟩ => ⟨S3x8x256x256, .f32⟩
  | .hbm, ⟨16, _⟩ => ⟨S3x8x256x256, .f32⟩
  | .hbm, ⟨17, _⟩ => ⟨S6x8x256x256, .f32⟩
  | .hbm, ⟨18, _⟩ => ⟨S8x256x256, .i32⟩
  | .hbm, ⟨19, _⟩ => ⟨S_, .i32⟩
  | .hbm, ⟨20, _⟩ => ⟨S8x256x256, .i32⟩
  | .hbm, ⟨21, _⟩ => ⟨S8x256x256, .i32⟩
  | .hbm, ⟨22, _⟩ => ⟨S8x256x256, .i32⟩
  | .hbm, ⟨23, _⟩ => ⟨S_, .i32⟩
  | .hbm, ⟨24, _⟩ => ⟨S8x256x256, .i32⟩
  | .hbm, ⟨25, _⟩ => ⟨S8x256x256, .i32⟩
  | .hbm, ⟨26, _⟩ => ⟨S8x256x256, .i32⟩
  | .hbm, ⟨27, _⟩ => ⟨S_, .i32⟩
  | .hbm, ⟨28, _⟩ => ⟨S8x256x256, .i32⟩
  | .hbm, ⟨29, _⟩ => ⟨S8x256x256, .i32⟩
  | .hbm, ⟨30, _⟩ => ⟨S_, .i32⟩
  | .hbm, ⟨31, _⟩ => ⟨S8x256x256, .i32⟩
  | .hbm, ⟨32, _⟩ => ⟨S8x256x256, .i32⟩
  | .hbm, ⟨33, _⟩ => ⟨S_, .i32⟩
  | .hbm, ⟨34, _⟩ => ⟨S8x256x256, .i32⟩
  | .hbm, ⟨35, _⟩ => ⟨S8x256x256, .i32⟩
  | .hbm, ⟨36, _⟩ => ⟨S8x256x256, .i32⟩
  | .hbm, ⟨37, _⟩ => ⟨S8x256x256, .i32⟩
  | .hbm, ⟨38, _⟩ => ⟨S_, .f32⟩
  | .hbm, ⟨39, _⟩ => ⟨S1x8x256x256, .f32⟩
  | .hbm, ⟨40, _⟩ => ⟨S7x8x256x256, .f32⟩
  | .hbm, ⟨41, _⟩ => ⟨S_, .f32⟩
  | .hbm, ⟨42, _⟩ => ⟨S7x4096, .f32⟩
  | .hbm, ⟨43, _⟩ => ⟨S8x256x256x1, .i32⟩
  | .hbm, ⟨44, _⟩ => ⟨S7x4096, .f32⟩
  | .hbm, ⟨45, _⟩ => ⟨S6x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S6x4096, .f32⟩
  | .hbm, ⟨51, _⟩ => ⟨S6x4096, .f32⟩
  | .hbm, ⟨52, _⟩ => ⟨S1x6x8x256x256, .f32⟩
  | .hbm, ⟨53, _⟩ => ⟨S6x128x32, .f32⟩
  | .hbm, ⟨54, _⟩ => ⟨S128x6x32, .f32⟩
  | _, _ => ⟨S1x3x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Proof.Run.lean ====
module

public import Idealize.ShloMosaic.Lib.Pipeline.FrameBody
public import Idealize.ShloMosaic.Lib.Ring
public import Idealize.ShloMosaic.Lib.Tactic
public import Idealize.ShloMosaic.Lib.VecWindow
public import Idealize.ShloMosaic.Lib.WritesUnit

@[expose] public section

set_option maxRecDepth 16384

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {nD : ℕ} {τ : Topo} {sig : RefSig} {Λ : Labels}

local notation "𝕄" => MT nD τ sig Unit (Elt F) ℕ (UR sig nD τ) ℕ

/-! Loops of programs, the equations that run them out, and their triples: for any call. -/

/-- The index after `j`. -/
def nxt {n : ℕ} (j : Fin n) : Fin (n + 1) := ⟨j.val + 1, Nat.succ_lt_succ j.isLt⟩

/-- The first index. -/
def fst0 (n : ℕ) : Fin (n + 1) := ⟨0, Nat.succ_pos n⟩

/-- `a`, then what `v` lists. -/
def consF {α : Type} {n : ℕ} (a : α) (v : Fin n → α) : Fin (n + 1) → α
  | ⟨0, _⟩ => a
  | ⟨k + 1, h⟩ => v ⟨k, Nat.lt_of_succ_lt_succ h⟩

/-- Run `f 0`, …, `f (n-1)`, passing a state along. -/
def loopSt {σ : Type} : (n : ℕ) → (Fin n → σ → Prog (TpuEff nD τ sig (Elt F) Λ .tc) σ) → σ → Prog (TpuEff nD τ sig (Elt F) Λ .tc) σ
  | 0, _, s => pure s
  | n + 1, f, s => do
    let s' ← f (fst0 n) s
    loopSt n (fun j => f (nxt j)) s'

/-- Run `f 0`, …, `f (n-1)`, and go on with what each returned. -/
def collect {α β : Type} : (n : ℕ) → (Fin n → Prog (TpuEff nD τ sig (Elt F) Λ .tc) α) → ((Fin n → α) → Prog (TpuEff nD τ sig (Elt F) Λ .tc) β) → Prog (TpuEff nD τ sig (Elt F) Λ .tc) β
  | 0, _, K => K Fin.elim0
  | n + 1, f, K => do
    let a ← f (fst0 n)
    collect n (fun j => f (nxt j)) (fun v => K (consF a v))

/-! ## Running a loop out -/

section
variable {α β γ : Type}
theorem st_assoc {p : Prog (TpuEff nD τ sig (Elt F) Λ .tc) α} {f : α → Prog (TpuEff nD τ sig (Elt F) Λ .tc) β} {K : β → Prog (TpuEff nD τ sig (Elt F) Λ .tc) γ} {q : Prog (TpuEff nD τ sig (Elt F) Λ .tc) γ} (h : p >>= (fun x => f x >>= K) = q) : (p >>= f) >>= K = q :=
  (Prog.bind_assoc p f K).trans h
theorem st_pure {a : α} {K : α → Prog (TpuEff nD τ sig (Elt F) Λ .tc) γ} {q : Prog (TpuEff nD τ sig (Elt F) Λ .tc) γ} (h : K a = q) : (pure a : Prog (TpuEff nD τ sig (Elt F) Λ .tc) α) >>= K = q := h
theorem rt_assoc {p : Prog (TpuEff nD τ sig (Elt F) Λ .tc) α} {f : α → Prog (TpuEff nD τ sig (Elt F) Λ .tc) β} {K : β → Prog (TpuEff nD τ sig (Elt F) Λ .tc) γ} {q : Prog (TpuEff nD τ sig (Elt F) Λ .tc) γ} (h : q = p >>= (fun x => f x >>= K)) : q = (p >>= f) >>= K :=
  h.trans (Prog.bind_assoc p f K).symm
theorem rt_pure {a : α} {K : α → Prog (TpuEff nD τ sig (Elt F) Λ .tc) γ} {q : Prog (TpuEff nD τ sig (Elt F) Λ .tc) γ} (h : q = K a) : q = (pure a : Prog (TpuEff nD τ sig (Elt F) Λ .tc) α) >>= K := h
theorem st_lift {e : TpuEff nD τ sig (Elt F) Λ .tc α} {K K' : α → Prog (TpuEff nD τ sig (Elt F) Λ .tc) γ} (h : ∀ x, K x = K' x) : (Prog.lift e >>= K : Prog (TpuEff nD τ sig (Elt F) Λ .tc) γ) = Prog.lift e >>= K' := by
  rw [show K = K' from funext h]
theorem rt_loop0 {f : Fin 0 → α → Prog (TpuEff nD τ sig (Elt F) Λ .tc) α} {s : α} {K : α → Prog (TpuEff nD τ sig (Elt F) Λ .tc) γ} {q : Prog (TpuEff nD τ sig (Elt F) Λ .tc) γ} (h : q = K s) : q = loopSt 0 f s >>= K := h
theorem rt_loop {n : ℕ} {f : Fin (n + 1) → α → Prog (TpuEff nD τ sig (Elt F) Λ .tc) α} {s : α} {K : α → Prog (TpuEff nD τ sig (Elt F) Λ .tc) γ} {q : Prog (TpuEff nD τ sig (Elt F) Λ .tc) γ} (h : q = f (fst0 n) s >>= fun s' => loopSt n (fun j => f (nxt j)) s' >>= K) : q = loopSt (n + 1) f s >>= K :=
  h.trans (Prog.bind_assoc _ _ K).symm
theorem rt_collect0 {f : Fin 0 → Prog (TpuEff nD τ sig (Elt F) Λ .tc) α} {K : (Fin 0 → α) → Prog (TpuEff nD τ sig (Elt F) Λ .tc) γ} {q : Prog (TpuEff nD τ sig (Elt F) Λ .tc) γ} (h : q = K Fin.elim0) : q = collect 0 f K := h
theorem rt_collect {n : ℕ} {f : Fin (n + 1) → Prog (TpuEff nD τ sig (Elt F) Λ .tc) α} {K : (Fin (n + 1) → α) → Prog (TpuEff nD τ sig (Elt F) Λ .tc) γ} {q : Prog (TpuEff nD τ sig (Elt F) Λ .tc) γ} (h : q = f (fst0 n) >>= fun a => collect n (fun j => f (nxt j)) (fun v => K (consF a v))) : q = collect (n + 1) f K := h
theorem rt_collectK0 {f : Fin 0 → Prog (TpuEff nD τ sig (Elt F) Λ .tc) α} {K : (Fin 0 → α) → Prog (TpuEff nD τ sig (Elt F) Λ .tc) β} {K' : β → Prog (TpuEff nD τ sig (Elt F) Λ .tc) γ} {q : Prog (TpuEff nD τ sig (Elt F) Λ .tc) γ} (h : q = K Fin.elim0 >>= K') : q = collect 0 f K >>= K' := h
theorem rt_collectK {n : ℕ} {f : Fin (n + 1) → Prog (TpuEff nD τ sig (Elt F) Λ .tc) α} {K : (Fin (n + 1) → α) → Prog (TpuEff nD τ sig (Elt F) Λ .tc) β} {K' : β → Prog (TpuEff nD τ sig (Elt F) Λ .tc) γ} {q : Prog (TpuEff nD τ sig (Elt F) Λ .tc) γ} (h : q = f (fst0 n) >>= fun a => collect n (fun j => f (nxt j)) (fun v => K (consF a v)) >>= K') : q = collect (n + 1) f K >>= K' :=
  h.trans (Prog.bind_assoc _ _ K').symm
end

/-! ## Triples -/

/-- The weakest precondition of a program of the body on core `c`. -/
abbrev wpB (D : Defs nD τ sig (Elt F) Λ) (c : Dev nD) (E : Set ℕ) {α : Type} (p : Prog (TpuEff nD τ sig (Elt F) Λ .tc) α) (Q : α → sProp 𝕄) : sProp 𝕄 :=
  wp frame (wpE D Variants.none c none) E p Q

variable {D : Defs nD τ sig (Elt F) Λ} (c : Dev nD) (E : Set ℕ)

theorem wpB_bind {α β : Type} (p : Prog (TpuEff nD τ sig (Elt F) Λ .tc) α) (k : α → Prog (TpuEff nD τ sig (Elt F) Λ .tc) β) (Q : β → sProp 𝕄) :
    wpB D c E (p >>= k) Q = wpB D c E p (fun a => wpB D c E (k a) Q) := wp_bind _ _ _ _ _ _

theorem wpB_pure {α : Type} (a : α) (Q : α → sProp 𝕄) : Q a ⊢ wpB D c E (pure a) Q := by
  unfold wpB; rw [wp_pure]; exact fupd_intro (PROP := sProp 𝕄)

/-- A load of a rectangle of a memref owned at `x` returns that window of `x`. -/
theorem own_load {s : Shape} {e : EltTy} {M : Memref sig .tc .vmem s e} {off size : Fin s.rank → ℕ} {inb : ∀ a, off a + size a ≤ s.size a}
    {hl : M.view.LoadsAt (Rect.unit off size inb).toLoadRect} (x : s.Idx → Elt F e) {Q : ((Rect.unit off size inb).shape.Idx → Elt F e) → sProp 𝕄} :
    (owns (c : Thread nD τ) M fullShare x : sProp 𝕄)
      ⊢ iprop((owns (c : Thread nD τ) M fullShare x -∗ Q (VecWindow.window x off size inb)) -∗ wpB D c E (Prog.lift (.load M (Rect.unit off size inb).toLoadRect hl)) Q) := by
  unfold owns
  iintro ⟨%f, %hf, H⟩ Hk
  iapply (wp_load Variants.none (c : Thread nD τ) none E (m := M) (r := (Rect.unit off size inb).toLoadRect) (hl := hl) (k := fun v => pure v) (Q := Q) (S := M.view.set) (f := f) (M.view.setOn_subset_set _)) $$ H
  iintro H
  iapply (wpB_pure c E)
  rw [View.readAt_unit M.view f inb rfl inb, hf]
  iapply Hk
  iexists f
  isplitr
  · ipureintro; exact hf
  iexact H

/-- A store of a rectangle of a memref owned at `x` leaves it at `x` with the payload put there. -/
theorem own_store {s : Shape} {e : EltTy} {M : Memref sig .tc .vmem s e} {off size : Fin s.rank → ℕ} {inb : ∀ a, off a + size a ≤ s.size a}
    {w : (Rect.unit off size inb).shape.Idx → Elt F e} {hx : (M.access (Rect.unit off size inb)).Stores Finset.univ} {hm : Finset.univ = Finset.univ ∨ ∀ a, (Rect.unit off size inb).stride a = 1} (x : s.Idx → Elt F e) {Q : PUnit → sProp 𝕄} :
    (owns (c : Thread nD τ) M fullShare x : sProp 𝕄)
      ⊢ iprop((owns (c : Thread nD τ) M fullShare (VecWindow.put x off size w) -∗ Q ⟨⟩) -∗ wpB D c E (Prog.lift (.store M (Rect.unit off size inb) w Finset.univ hx hm)) Q) := by
  unfold owns
  iintro ⟨%f, %hf, H⟩ Hk
  iapply (wp_store_writes₀ Variants.none (c : Thread nD τ) none E (m := M) (r := Rect.unit off size inb) (w := w) (hx := hx) (hm := hm) (k := fun v => pure v) (Q := Q) (S := M.view.set) (f := f) (M.setOn_access_subset _ _)) $$ H
  iintro H
  iapply (wpB_pure c E)
  iapply Hk
  iexists _
  isplitr
  swap
  · iexact H
  ipureintro
  rw [View.read_writes_cons_put M.view f inb w [] rfl]
  exact congrArg (fun y => VecWindow.put y off size w) hf

/-- A loop that passes the states `st` along and keeps `I`. -/
theorem own_loop {σ : Type} {n : ℕ} {f : Fin n → σ → Prog (TpuEff nD τ sig (Elt F) Λ .tc) σ} (st : ℕ → σ) (I : ℕ → sProp 𝕄)
    (h : ∀ j : Fin n, I j.val ⊢ wpB D c E (f j (st j.val)) (fun s => iprop(⌜s = st (j.val + 1)⌝ ∗ I (j.val + 1)))) :
    I 0 ⊢ wpB D c E (loopSt n f (st 0)) (fun s => iprop(⌜s = st n⌝ ∗ I n)) := by
  induction n generalizing st I with
  | zero =>
    refine .trans ?_ (wpB_pure c E _ _)
    iintro H
    isplitr
    · ipureintro; rfl
    iexact H
  | succ n ih =>
    unfold loopSt
    rw [wpB_bind]
    refine (h (fst0 n)).trans (wp_mono _ _ _ fun s => ?_)
    iintro ⟨%hs, H⟩
    subst hs
    iapply (show I ((fst0 n).val + 1) ⊢ _ from ih (f := fun j => f (nxt j)) (fun k => st (k + 1)) (fun k => I (k + 1)) (fun j => h (nxt j))) $$ H

/-- A list of programs, the `j`th returning `a j`, that keeps `I`. -/
theorem own_collect {α β : Type} {n : ℕ} {f : Fin n → Prog (TpuEff nD τ sig (Elt F) Λ .tc) α} {K : (Fin n → α) → Prog (TpuEff nD τ sig (Elt F) Λ .tc) β} (a : Fin n → α) (I : ℕ → sProp 𝕄) {Q : β → sProp 𝕄}
    (h : ∀ j : Fin n, I j.val ⊢ wpB D c E (f j) (fun s => iprop(⌜s = a j⌝ ∗ I (j.val + 1))))
    (hK : I n ⊢ wpB D c E (K a) Q) :
    I 0 ⊢ wpB D c E (collect n f K) Q := by
  induction n generalizing I with
  | zero =>
    unfold collect
    rw [show (Fin.elim0 : Fin 0 → α) = a from funext fun j => j.elim0]
    exact hK
  | succ n ih =>
    unfold collect
    rw [wpB_bind]
    refine (h (fst0 n)).trans (wp_mono _ _ _ fun s => ?_)
    iintro ⟨%hs, H⟩
    subst hs
    have hK' : I (n + 1) ⊢ wpB D c E (K (consF (a (fst0 n)) (fun j => a (nxt j)))) Q := by
      rw [show consF (a (fst0 n)) (fun j => a (nxt j)) = a from funext fun j => by
        match j with
        | ⟨0, _⟩ => rfl
        | ⟨k + 1, hk⟩ => rfl]
      exact hK
    iapply (show I ((fst0 n).val + 1) ⊢ _ from ih (f := fun j => f (nxt j)) (K := fun v => K (consF (a (fst0 n)) v)) (fun j => a (nxt j)) (fun k => I (k + 1)) (fun j => h (nxt j)) hK') $$ H

end Cert.Run
-- ==== Proof.Loops.lean ====
module

public import proofs.«01_k».proof.Proof.Gen.KThreeIdeal.Frame
public import proofs.«01_k».proof.Proof.Run

@[expose] public section

set_option maxRecDepth 16384

noncomputable section

namespace Cert.KThreeIdeal.Gen

open Idealize.ShloMosaic Idealize.SL.Sem Cert.Run

variable {F : FTy → Type} [FloatOps F]

/-! The kernel's body written with loops: the printed body is these loops run out. -/

variable (F) in
/-- Programs of the kernel's body. -/
abbrev PP (α : Type) := Prog (TpuEff nD τ sig (Elt F) Λ₀ .tc) α

/-! ## The pure pieces -/

/-- The matrix that repeats each column eight times. -/
def expMat : FVec F S32x256 .f32 :=
  let v10 : IVec S32x256 32 := iota .tc S32x256 32 [1] iota_S32x256_d1_w32
  let c8_i32 : BitVec 32 := 8#32
  let v11 : IVec S32x256 32 := broadcast S32x256 c8_i32
  let v12 : IVec S32x256 32 := divsi v10 v11
  let c0_i32_6 : BitVec 32 := 0#32
  let v13 : IVec S32x256 32 := broadcast S32x256 c0_i32_6
  let v14 : IVec S32x256 1 := cmpi .sgt v10 v13
  let v15 : IVec S32x256 32 := extui 32 v14 natLt_1_32
  let c0_i32_7 : BitVec 32 := 0#32
  let v16 : IVec S32x256 32 := broadcast S32x256 c0_i32_7
  let v17 : IVec S32x256 1 := cmpi .slt v10 v16
  let v18 : IVec S32x256 32 := extui 32 v17 natLt_1_32
  let v19 : IVec S32x256 32 := subi v15 v18
  let c0_i32_8 : BitVec 32 := 0#32
  let v20 : BitVec 1 := Scalar.cmpi .sgt c8_i32 c0_i32_8
  let v21 : BitVec 32 := Scalar.extui v20
  let c0_i32_9 : BitVec 32 := 0#32
  let v22 : BitVec 1 := Scalar.cmpi .slt c8_i32 c0_i32_9
  let v23 : BitVec 32 := Scalar.extui v22
  let v24 : BitVec 32 := Scalar.subi v21 v23
  let v25 : IVec S32x256 32 := broadcast S32x256 v24
  let v26 : IVec S32x256 1 := cmpi .ne v19 v25
  let v27 : IVec S32x256 32 := broadcast S32x256 c8_i32
  let v28 : IVec S32x256 32 := remsi v10 v27
  let c0_i32_10 : BitVec 32 := 0#32
  let v29 : IVec S32x256 32 := broadcast S32x256 c0_i32_10
  let v30 : IVec S32x256 1 := cmpi .ne v28 v29
  let v31 : IVec S32x256 1 := andi v26 v30
  let c1_i32 : BitVec 32 := 1#32
  let v32 : IVec S32x256 32 := broadcast S32x256 c1_i32
  let v33 : IVec S32x256 32 := subi v12 v32
  let v34 : IVec S32x256 32 := select v31 v33 v12
  let v35 : IVec S32x256 32 := iota .tc S32x256 32 [0] iota_S32x256_d0_w32
  let v36 : IVec S32x256 1 := cmpi .eq v34 v35
  let v37 : IVec S32x256 32 := extui 32 v36 natLt_1_32
  let v38 : FVec F S32x256 .f32 := sitofp .f32 v37
  v38

/-- A row of centres: twice each centre, and minus the sum of its squares. -/
def bankRow (r : Vec F S1x6x32 .f32) : FVec F S7x32 .f32 :=
  let g : FVec F S6x32 .f32 := shapeCast S6x32 r shapeCasts_S1x6x32_S6x32
  concatenate S7x32 0 [⟨S6x32, addf g g⟩, ⟨S1x32, subf (broadcast S1x32 (Scalar.ofBits .f32 0x00000000#32)) (shapeCast S1x32 (multiReduction .add [0] S32 (mulf g g) 0x00000000#32 reduces_S6x32_S32 (.inl rfl) rfl) shapeCasts_S32_S1x32)⟩] concatenates_S6x32_S1x32_S7x32_d0

/-- A row of centres expanded over the columns. -/
def bankMid (r : Vec F S1x6x32 .f32) : FVec F S7x256 .f32 :=
  matmul dot_S7x32_S32x256_S7x256_1_0_0_1_n_n (some .fp32) (bankRow r) expMat (constant S7x256 .f32 0x00000000#32)

/-- An expanded row moved one cell right, the first cell kept. -/
def bankM (b : FVec F S7x256 .f32) : FVec F S7x256 .f32 :=
  concatenate S7x256 1 [⟨S7x8, extractStridedSlice S7x8 ![0, 0] b slices_S7x256_o0_0_S7x8⟩, ⟨S7x248, extractStridedSlice S7x248 ![0, 0] b slices_S7x256_o0_0_S7x248⟩] concatenates_S7x8_S7x248_S7x256_d1

/-- An expanded row moved one cell left, the last cell kept. -/
def bankP (b : FVec F S7x256 .f32) : FVec F S7x256 .f32 :=
  concatenate S7x256 1 [⟨S7x248, extractStridedSlice S7x248 ![0, 8] b slices_S7x256_o0_8_S7x248⟩, ⟨S7x8, extractStridedSlice S7x8 ![0, 248] b slices_S7x256_o0_248_S7x8⟩] concatenates_S7x248_S7x8_S7x256_d1

/-- The expanded row at a shift of `dw - 1` cells. -/
def bankSh (b : FVec F S7x256 .f32) : ℕ → FVec F S7x256 .f32
  | 0 => bankM b
  | 1 => b
  | _ + 2 => bankP b

/-- The sum of the squared features. -/
def sqFeat (f : FVec F S6x16x256 .f32) : FVec F S16x256 .f32 :=
  multiReduction .add [0] S16x256 (mulf f f) 0x00000000#32 reduces_S6x16x256_S16x256 (.inl rfl) rfl

theorem slices_chan (c : Fin 6) : S6x16x256.Slices ![c.val, 0, 0] S1x16x256 := by
  fin_cases c <;> decide
theorem slices_row (c : Fin 7) : S7x256.Slices ![c.val, 0] S1x256 := by
  fin_cases c <;> decide

/-- One feature. -/
def chanF (f : FVec F S6x16x256 .f32) (c : Fin 6) : FVec F S16x256 .f32 :=
  shapeCast S16x256 (extractStridedSlice S1x16x256 ![c.val, 0, 0] f (slices_chan c)) shapeCasts_S1x16x256_S16x256

/-- One row of an expanded centre, over all points. -/
def rowB (b : FVec F S7x256 .f32) (c : Fin 7) : FVec F S16x256 .f32 :=
  broadcastTo S16x256 (shapeCast S1x256 (shapeCast S256 (extractStridedSlice S1x256 ![c.val, 0] b (slices_row c)) shapeCasts_S1x256_S256) shapeCasts_S256_S1x256) broadcasts_S1x256_S16x256

/-- The exponential of a score. -/
def scoreE (f : FVec F S6x16x256 .f32) (q : FVec F S16x256 .f32) (b : FVec F S7x256 .f32) : FVec F S16x256 .f32 :=
  exp (addf (addf (addf (addf (addf (addf (subf (rowB b 6) q)
    (mulf (chanF f 0) (rowB b 0))) (mulf (chanF f 1) (rowB b 1))) (mulf (chanF f 2) (rowB b 2)))
    (mulf (chanF f 3) (rowB b 3))) (mulf (chanF f 4) (rowB b 4))) (mulf (chanF f 5) (rowB b 5)))

/-- The features of a block, its layers and rows in one axis. -/
def featB (x : Vec F S1x6x2x8x256 .f32) : FVec F S6x16x256 .f32 :=
  shapeCast S6x16x256 (shapeCast S6x2x8x256 x shapeCasts_S1x6x2x8x256_S6x2x8x256) shapeCasts_S6x2x8x256_S6x16x256

/-- The exponential of neighbour `r`'s score, off the nine rows of centres. -/
def eAt (x : Vec F S1x6x2x8x256 .f32) (rows : Fin 9 → Vec F S1x6x32 .f32) (r : Fin 27) : FVec F S16x256 .f32 :=
  scoreE (featB x) (sqFeat (featB x)) (bankSh (bankMid (rows ⟨r.val / 3, by omega⟩)) (r.val % 3))

/-- A sum in order, from zero. -/
def sumUp : (n : ℕ) → FVec F S16x256 .f32 → (Fin n → FVec F S16x256 .f32) → FVec F S16x256 .f32
  | 0, a, _ => a
  | n + 1, a, g => sumUp n (addf a (g (fst0 n))) (fun j => g (nxt j))

/-- One over the sum of the exponentials. -/
def invE (g : Fin 27 → FVec F S16x256 .f32) : FVec F S16x256 .f32 :=
  divf (broadcast S16x256 (Scalar.ofBits .f32 0x3F800000#32)) (sumUp 27 (broadcast S16x256 (Scalar.ofBits .f32 0x00000000#32)) g)

/-- One neighbour's share. -/
def share (g : Fin 27 → FVec F S16x256 .f32) (r : Fin 27) : FVec F S16x256 .f32 :=
  mulf (shapeCast S16x256 (shapeCast S1x16x256 (g r) shapeCasts_S16x256_S1x16x256) shapeCasts_S1x16x256_S16x256) (invE g)

/-- A row of cells' values as the block lays them out. -/
def asBlock (a : FVec F S16x256 .f32) : FVec F S1x1x2x8x256 .f32 :=
  shapeCast S1x1x2x8x256 (shapeCast S2x8x256 a shapeCasts_S16x256_S2x8x256) shapeCasts_S2x8x256_S1x1x2x8x256

/-- The larger share kept, with its number. -/
def keep (r : ℕ) (a : FVec F S16x256 .f32) (b : FVec F S16x256 .f32 × IVec S16x256 32) : FVec F S16x256 .f32 × IVec S16x256 32 :=
  (select (cmpf .ogt a b.1) a b.1, select (cmpf .ogt a b.1) (broadcast S16x256 (BitVec.ofNat 32 r)) b.2)

/-- Before any share: below every share, and neighbour zero. -/
def keep0 : FVec F S16x256 .f32 × IVec S16x256 32 :=
  (broadcast S16x256 (Scalar.ofBits .f32 0xBF800000#32), broadcast S16x256 0#32)

/-- The number of the largest share's cell. -/
def cellIx (a0 a1 : BitVec 32) (best : IVec S16x256 32) : FVec F S16x256 .f32 :=
  let c9_i32_394 : BitVec 32 := 9#32
  let v2131 : IVec S16x256 32 := broadcast S16x256 c9_i32_394
  let v2132 : IVec S16x256 32 := divsi best v2131
  let c0_i32_395 : BitVec 32 := 0#32
  let v2133 : IVec S16x256 32 := broadcast S16x256 c0_i32_395
  let v2134 : IVec S16x256 1 := cmpi .sgt best v2133
  let v2135 : IVec S16x256 32 := extui 32 v2134 natLt_1_32
  let c0_i32_396 : BitVec 32 := 0#32
  let v2136 : IVec S16x256 32 := broadcast S16x256 c0_i32_396
  let v2137 : IVec S16x256 1 := cmpi .slt best v2136
  let v2138 : IVec S16x256 32 := extui 32 v2137 natLt_1_32
  let v2139 : IVec S16x256 32 := subi v2135 v2138
  let c0_i32_397 : BitVec 32 := 0#32
  let v2140 : BitVec 1 := Scalar.cmpi .sgt c9_i32_394 c0_i32_397
  let v2141 : BitVec 32 := Scalar.extui v2140
  let c0_i32_398 : BitVec 32 := 0#32
  let v2142 : BitVec 1 := Scalar.cmpi .slt c9_i32_394 c0_i32_398
  let v2143 : BitVec 32 := Scalar.extui v2142
  let v2144 : BitVec 32 := Scalar.subi v2141 v2143
  let v2145 : IVec S16x256 32 := broadcast S16x256 v2144
  let v2146 : IVec S16x256 1 := cmpi .ne v2139 v2145
  let v2147 : IVec S16x256 32 := broadcast S16x256 c9_i32_394
  let v2148 : IVec S16x256 32 := remsi best v2147
  let c0_i32_399 : BitVec 32 := 0#32
  let v2149 : IVec S16x256 32 := broadcast S16x256 c0_i32_399
  let v2150 : IVec S16x256 1 := cmpi .ne v2148 v2149
  let v2151 : IVec S16x256 1 := andi v2146 v2150
  let c1_i32_400 : BitVec 32 := 1#32
  let v2152 : IVec S16x256 32 := broadcast S16x256 c1_i32_400
  let v2153 : IVec S16x256 32 := subi v2132 v2152
  let v2154 : IVec S16x256 32 := select v2151 v2153 v2132
  let c1_i32_401 : BitVec 32 := 1#32
  let v2155 : IVec S16x256 32 := broadcast S16x256 c1_i32_401
  let v2156 : IVec S16x256 32 := subi v2154 v2155
  let c3_i32_402 : BitVec 32 := 3#32
  let v2157 : IVec S16x256 32 := broadcast S16x256 c3_i32_402
  let v2158 : IVec S16x256 32 := divsi best v2157
  let c0_i32_403 : BitVec 32 := 0#32
  let v2159 : IVec S16x256 32 := broadcast S16x256 c0_i32_403
  let v2160 : IVec S16x256 1 := cmpi .sgt best v2159
  let v2161 : IVec S16x256 32 := extui 32 v2160 natLt_1_32
  let c0_i32_404 : BitVec 32 := 0#32
  let v2162 : IVec S16x256 32 := broadcast S16x256 c0_i32_404
  let v2163 : IVec S16x256 1 := cmpi .slt best v2162
  let v2164 : IVec S16x256 32 := extui 32 v2163 natLt_1_32
  let v2165 : IVec S16x256 32 := subi v2161 v2164
  let c0_i32_405 : BitVec 32 := 0#32
  let v2166 : BitVec 1 := Scalar.cmpi .sgt c3_i32_402 c0_i32_405
  let v2167 : BitVec 32 := Scalar.extui v2166
  let c0_i32_406 : BitVec 32 := 0#32
  let v2168 : BitVec 1 := Scalar.cmpi .slt c3_i32_402 c0_i32_406
  let v2169 : BitVec 32 := Scalar.extui v2168
  let v2170 : BitVec 32 := Scalar.subi v2167 v2169
  let v2171 : IVec S16x256 32 := broadcast S16x256 v2170
  let v2172 : IVec S16x256 1 := cmpi .ne v2165 v2171
  let v2173 : IVec S16x256 32 := broadcast S16x256 c3_i32_402
  let v2174 : IVec S16x256 32 := remsi best v2173
  let c0_i32_407 : BitVec 32 := 0#32
  let v2175 : IVec S16x256 32 := broadcast S16x256 c0_i32_407
  let v2176 : IVec S16x256 1 := cmpi .ne v2174 v2175
  let v2177 : IVec S16x256 1 := andi v2172 v2176
  let c1_i32_408 : BitVec 32 := 1#32
  let v2178 : IVec S16x256 32 := broadcast S16x256 c1_i32_408
  let v2179 : IVec S16x256 32 := subi v2158 v2178
  let v2180 : IVec S16x256 32 := select v2177 v2179 v2158
  let c3_i32_409 : BitVec 32 := 3#32
  let c0_i32_410 : BitVec 32 := 0#32
  let v2181 : BitVec 1 := Scalar.cmpi .eq c3_i32_409 c0_i32_410
  let c1_i32_411 : BitVec 32 := 1#32
  let v2182 : BitVec 32 := Scalar.select v2181 c1_i32_411 c3_i32_409
  let v2183 : IVec S16x256 32 := broadcast S16x256 v2182
  let v2184 : IVec S16x256 32 := remsi v2180 v2183
  let c0_i32_412 : BitVec 32 := 0#32
  let v2185 : IVec S16x256 32 := broadcast S16x256 c0_i32_412
  let v2186 : IVec S16x256 1 := cmpi .ne v2184 v2185
  let c0_i32_413 : BitVec 32 := 0#32
  let v2187 : IVec S16x256 32 := broadcast S16x256 c0_i32_413
  let v2188 : IVec S16x256 1 := cmpi .slt v2184 v2187
  let c0_i32_414 : BitVec 32 := 0#32
  let v2189 : BitVec 1 := Scalar.cmpi .slt v2182 c0_i32_414
  let v2190 : IVec S16x256 1 := broadcast S16x256 v2189
  let v2191 : IVec S16x256 1 := broadcastTo S16x256 v2190 broadcasts_S16x256_S16x256
  let v2192 : IVec S16x256 1 := xori v2188 v2191
  let v2193 : IVec S16x256 1 := andi v2192 v2186
  let v2194 : IVec S16x256 32 := broadcast S16x256 v2182
  let v2195 : IVec S16x256 32 := addi v2184 v2194
  let v2196 : IVec S16x256 32 := select v2193 v2195 v2184
  let c1_i32_415 : BitVec 32 := 1#32
  let v2197 : IVec S16x256 32 := broadcast S16x256 c1_i32_415
  let v2198 : IVec S16x256 32 := subi v2196 v2197
  let c3_i32_416 : BitVec 32 := 3#32
  let c0_i32_417 : BitVec 32 := 0#32
  let v2199 : BitVec 1 := Scalar.cmpi .eq c3_i32_416 c0_i32_417
  let c1_i32_418 : BitVec 32 := 1#32
  let v2200 : BitVec 32 := Scalar.select v2199 c1_i32_418 c3_i32_416
  let v2201 : IVec S16x256 32 := broadcast S16x256 v2200
  let v2202 : IVec S16x256 32 := remsi best v2201
  let c0_i32_419 : BitVec 32 := 0#32
  let v2203 : IVec S16x256 32 := broadcast S16x256 c0_i32_419
  let v2204 : IVec S16x256 1 := cmpi .ne v2202 v2203
  let c0_i32_420 : BitVec 32 := 0#32
  let v2205 : IVec S16x256 32 := broadcast S16x256 c0_i32_420
  let v2206 : IVec S16x256 1 := cmpi .slt v2202 v2205
  let c0_i32_421 : BitVec 32 := 0#32
  let v2207 : BitVec 1 := Scalar.cmpi .slt v2200 c0_i32_421
  let v2208 : IVec S16x256 1 := broadcast S16x256 v2207
  let v2209 : IVec S16x256 1 := broadcastTo S16x256 v2208 broadcasts_S16x256_S16x256
  let v2210 : IVec S16x256 1 := xori v2206 v2209
  let v2211 : IVec S16x256 1 := andi v2210 v2204
  let v2212 : IVec S16x256 32 := broadcast S16x256 v2200
  let v2213 : IVec S16x256 32 := addi v2202 v2212
  let v2214 : IVec S16x256 32 := select v2211 v2213 v2202
  let c1_i32_422 : BitVec 32 := 1#32
  let v2215 : IVec S16x256 32 := broadcast S16x256 c1_i32_422
  let v2216 : IVec S16x256 32 := subi v2214 v2215
  let v2217 : IVec S16x256 32 := broadcast S16x256 a0
  let v2218 : IVec S16x256 32 := addi v2217 v2156
  let c0_i32_423 : BitVec 32 := 0#32
  let c3_i32_424 : BitVec 32 := 3#32
  let v2219 : IVec S16x256 32 := broadcast S16x256 c0_i32_423
  let v2220 : IVec S16x256 32 := maxsi v2219 v2218
  let v2221 : IVec S16x256 32 := broadcast S16x256 c3_i32_424
  let v2222 : IVec S16x256 32 := minsi v2221 v2220
  let v2223 : IVec S16x256 32 := broadcast S16x256 a1
  let v2224 : IVec S16x256 32 := addi v2223 v2198
  let c0_i32_425 : BitVec 32 := 0#32
  let c31_i32_426 : BitVec 32 := 31#32
  let v2225 : IVec S16x256 32 := broadcast S16x256 c0_i32_425
  let v2226 : IVec S16x256 32 := maxsi v2225 v2224
  let v2227 : IVec S16x256 32 := broadcast S16x256 c31_i32_426
  let v2228 : IVec S16x256 32 := minsi v2227 v2226
  let v2229 : IVec S16x256 32 := iota .tc S16x256 32 [1] iota_S16x256_d1_w32
  let c8_i32_427 : BitVec 32 := 8#32
  let v2230 : IVec S16x256 32 := broadcast S16x256 c8_i32_427
  let v2231 : IVec S16x256 32 := divsi v2229 v2230
  let c0_i32_428 : BitVec 32 := 0#32
  let v2232 : IVec S16x256 32 := broadcast S16x256 c0_i32_428
  let v2233 : IVec S16x256 1 := cmpi .sgt v2229 v2232
  let v2234 : IVec S16x256 32 := extui 32 v2233 natLt_1_32
  let c0_i32_429 : BitVec 32 := 0#32
  let v2235 : IVec S16x256 32 := broadcast S16x256 c0_i32_429
  let v2236 : IVec S16x256 1 := cmpi .slt v2229 v2235
  let v2237 : IVec S16x256 32 := extui 32 v2236 natLt_1_32
  let v2238 : IVec S16x256 32 := subi v2234 v2237
  let c0_i32_430 : BitVec 32 := 0#32
  let v2239 : BitVec 1 := Scalar.cmpi .sgt c8_i32_427 c0_i32_430
  let v2240 : BitVec 32 := Scalar.extui v2239
  let c0_i32_431 : BitVec 32 := 0#32
  let v2241 : BitVec 1 := Scalar.cmpi .slt c8_i32_427 c0_i32_431
  let v2242 : BitVec 32 := Scalar.extui v2241
  let v2243 : BitVec 32 := Scalar.subi v2240 v2242
  let v2244 : IVec S16x256 32 := broadcast S16x256 v2243
  let v2245 : IVec S16x256 1 := cmpi .ne v2238 v2244
  let v2246 : IVec S16x256 32 := broadcast S16x256 c8_i32_427
  let v2247 : IVec S16x256 32 := remsi v2229 v2246
  let c0_i32_432 : BitVec 32 := 0#32
  let v2248 : IVec S16x256 32 := broadcast S16x256 c0_i32_432
  let v2249 : IVec S16x256 1 := cmpi .ne v2247 v2248
  let v2250 : IVec S16x256 1 := andi v2245 v2249
  let c1_i32_433 : BitVec 32 := 1#32
  let v2251 : IVec S16x256 32 := broadcast S16x256 c1_i32_433
  let v2252 : IVec S16x256 32 := subi v2231 v2251
  let v2253 : IVec S16x256 32 := select v2250 v2252 v2231
  let v2254 : IVec S16x256 32 := addi v2253 v2216
  let c0_i32_434 : BitVec 32 := 0#32
  let c31_i32_435 : BitVec 32 := 31#32
  let v2255 : IVec S16x256 32 := broadcast S16x256 c0_i32_434
  let v2256 : IVec S16x256 32 := maxsi v2255 v2254
  let v2257 : IVec S16x256 32 := broadcast S16x256 c31_i32_435
  let v2258 : IVec S16x256 32 := minsi v2257 v2256
  let c1024_i32 : BitVec 32 := 1024#32
  let v2259 : IVec S16x256 32 := broadcast S16x256 c1024_i32
  let v2260 : IVec S16x256 32 := muli v2222 v2259
  let c32_i32_436 : BitVec 32 := 32#32
  let v2261 : IVec S16x256 32 := broadcast S16x256 c32_i32_436
  let v2262 : IVec S16x256 32 := muli v2228 v2261
  let v2263 : IVec S16x256 32 := addi v2260 v2262
  let v2264 : IVec S16x256 32 := addi v2263 v2258
  let v2265 : FVec F S16x256 .f32 := sitofp .f32 v2264
  v2265

/-- The centres: sums over weights. -/
def centreV (a : Vec F S128x6x32 .f32) (w : Vec F S128x1x32 .f32) : FVec F S128x6x32 .f32 :=
  divf a (broadcastTo S128x6x32 (addf w (broadcast S128x1x32 (Scalar.ofBits .f32 0x2EDBE6FF#32))) broadcasts_S128x1x32_S128x6x32)

/-! ## The body -/

theorem inb_e (r : Fin 27) : ∀ a, (![r.val, 0, 0] : Fin 3 → Nat) a + S1x16x256.size a ≤ S27x16x256.size a := by
  revert r; decide
theorem inb_assoc (r : Fin 27) : ∀ a, (![0, r.val, 0, 0, 0] : Fin 5 → Nat) a + S1x1x2x8x256.size a ≤ S1x27x2x8x256.size a := by
  revert r; decide

variable (i : grid0.Coords)

/-! The steps up to the exponentials are the second call's too: they are stated over any call's memrefs. -/

section
variable {nd : ℕ} {tp : Topo} {sg : RefSig} {Λb : Labels}

/-- Load a slot of the exponentials. -/
def loadE (arg7 : Memref sg .tc .vmem S27x16x256 .f32) (r : Fin 27) : Prog (TpuEff nd tp sg (Elt F) Λb .tc) (Vec F S1x16x256 .f32) :=
  Prog.lift (.load arg7 (Rect.unit (s := S27x16x256) ![r.val, 0, 0] S1x16x256.size (inb_e r)).toLoadRect (View.loadsAt_vmem h_S1x16x256))

/-- Store a slot of the exponentials. -/
def storeE (arg7 : Memref sg .tc .vmem S27x16x256 .f32) (r : Fin 27) (v : FVec F S16x256 .f32) : Prog (TpuEff nd tp sg (Elt F) Λb .tc) PUnit :=
  Prog.lift (.store arg7 (Rect.unit (s := S27x16x256) ![r.val, 0, 0] S1x16x256.size (inb_e r)) (shapeCast S1x16x256 v shapeCasts_S16x256_S1x16x256) Finset.univ (View.stores_vmem_bits_univ h_S1x16x256 rfl) (.inl rfl))

/-- Load one of the nine rows of centres. -/
def loadRow (arg8 : Memref sg .tc .vmem S128x6x32 .f32) (k : Fin 9) : Prog (TpuEff nd tp sg (Elt F) Λb .tc) (Vec F S1x6x32 .f32) :=
  Prog.lift (.load arg8 (Rect.unit (s := S128x6x32) (k0_off1 i (k0_off1_at k).1 (k0_off1_at k).2) S1x6x32.size (k0_off1_inb i k)).toLoadRect (View.loadsAt_vmem h_S1x6x32))

/-- Load the block of features. -/
def loadX (arg2 : Memref sg .tc .vmem S1x6x2x8x256 .f32) : Prog (TpuEff nd tp sg (Elt F) Λb .tc) (Vec F S1x6x2x8x256 .f32) :=
  Prog.lift (.load arg2 (Rect.unit (s := S1x6x2x8x256) ![0, 0, 0, 0, 0] S1x6x2x8x256.size inb_S1x6x2x8x256_S1x6x2x8x256_0_0_0_0_0).toLoadRect (View.loadsAt_vmem h_S1x6x2x8x256))

/-- Load a row of centres and write its three neighbours' exponentials. -/
def rowStep (arg7 : Memref sg .tc .vmem S27x16x256 .f32) (arg8 : Memref sg .tc .vmem S128x6x32 .f32) (x : Vec F S1x6x2x8x256 .f32) (k : Fin 9) : Prog (TpuEff nd tp sg (Elt F) Λb .tc) (Vec F S1x6x32 .f32) := do
  let row ← loadRow i arg8 k
  loopSt 3 (fun d _ => do
    let _ ← loadE arg7 ⟨3 * k.val + d.val, by omega⟩
    storeE arg7 ⟨3 * k.val + d.val, by omega⟩ (scoreE (featB x) (sqFeat (featB x)) (bankSh (bankMid row) d.val))) ⟨⟩
  pure row

end

/-- The centres, at the first point. -/
def centres (arg3 : Memref sig .tc .vmem S128x8x32 .f32) (arg6 : Memref sig .tc .vmem S128x6x32 .f32) (arg8 : Memref sig .tc .vmem S128x6x32 .f32) : PP F PUnit := do
  let a : Vec F S128x6x32 .f32 ← Prog.lift (.load arg3 (Rect.unit (s := S128x8x32) ![0, 0, 0] S128x6x32.size inb_S128x8x32_S128x6x32_0_0_0).toLoadRect (View.loadsAt_vmem h_S128x6x32))
  let w : Vec F S128x1x32 .f32 ← Prog.lift (.load arg3 (Rect.unit (s := S128x8x32) ![0, 6, 0] S128x1x32.size inb_S128x8x32_S128x1x32_0_6_0).toLoadRect (View.loadsAt_vmem h_S128x1x32))
  let _ ← Prog.lift (.load arg8 (Rect.unit (s := S128x6x32) ![0, 0, 0] S128x6x32.size inb_S128x6x32_S128x6x32_0_0_0).toLoadRect (View.loadsAt_vmem h_S128x6x32))
  Prog.lift (.store arg8 (Rect.unit (s := S128x6x32) ![0, 0, 0] S128x6x32.size inb_S128x6x32_S128x6x32_0_0_0) (shapeCast S128x6x32 (centreV a w) shapeCasts_S128x6x32_S128x6x32) Finset.univ (View.stores_vmem_bits_univ h_S128x6x32 rfl) (.inl rfl))
  let _ ← Prog.lift (.load arg6 (Rect.unit (s := S128x6x32) ![0, 0, 0] S128x6x32.size inb_S128x6x32_S128x6x32_0_0_0).toLoadRect (View.loadsAt_vmem h_S128x6x32))
  Prog.lift (.store arg6 (Rect.unit (s := S128x6x32) ![0, 0, 0] S128x6x32.size inb_S128x6x32_S128x6x32_0_0_0) (centreV a w) Finset.univ (View.stores_vmem_bits_univ h_S128x6x32 rfl) (.inl rfl))
  pure ⟨⟩

/-- Store one neighbour's share, and keep the largest seen and its number. -/
def assocStep (arg4 : Memref sig .tc .vmem S1x27x2x8x256 .f32) (arg7 : Memref sig .tc .vmem S27x16x256 .f32) (inv : FVec F S16x256 .f32) (r : Fin 27)
    (b : FVec F S16x256 .f32 × IVec S16x256 32) : PP F (FVec F S16x256 .f32 × IVec S16x256 32) := do
  let e ← loadE arg7 r
  let _ ← Prog.lift (.load arg4 (Rect.unit (s := S1x27x2x8x256) ![0, r.val, 0, 0, 0] S1x1x2x8x256.size (inb_assoc r)).toLoadRect (View.loadsAt_vmem h_S1x1x2x8x256))
  Prog.lift (.store arg4 (Rect.unit (s := S1x27x2x8x256) ![0, r.val, 0, 0, 0] S1x1x2x8x256.size (inb_assoc r)) (asBlock (mulf (shapeCast S16x256 e shapeCasts_S1x16x256_S16x256) inv)) Finset.univ (View.stores_vmem_bits_univ h_S1x1x2x8x256 rfl) (.inl rfl))
  pure (keep r.val (mulf (shapeCast S16x256 e shapeCasts_S1x16x256_S16x256) inv) b)

/-- The shares and the index, off the nine rows of centres. -/
def finish (arg4 : Memref sig .tc .vmem S1x27x2x8x256 .f32) (arg5 : Memref sig .tc .vmem S1x1x2x8x256 .f32) (arg7 : Memref sig .tc .vmem S27x16x256 .f32) (x : Vec F S1x6x2x8x256 .f32) (rows : Fin 9 → Vec F S1x6x32 .f32) : PP F PUnit := do
  let best ← loopSt 27 (assocStep arg4 arg7 (invE (eAt x rows))) keep0
  let _ ← Prog.lift (.load arg5 (Rect.unit (s := S1x1x2x8x256) ![0, 0, 0, 0, 0] S1x1x2x8x256.size inb_S1x1x2x8x256_S1x1x2x8x256_0_0_0_0_0).toLoadRect (View.loadsAt_vmem h_S1x1x2x8x256))
  Prog.lift (.store arg5 (Rect.unit (s := S1x1x2x8x256) ![0, 0, 0, 0, 0] S1x1x2x8x256.size inb_S1x1x2x8x256_S1x1x2x8x256_0_0_0_0_0) (asBlock (cellIx (BitVec.ofNat 32 (i 0).val) (BitVec.ofNat 32 (i 1).val) best.2)) Finset.univ (View.stores_vmem_bits_univ h_S1x1x2x8x256 rfl) (.inl rfl))

/-- The body with loops. -/
def body3 (arg2 : Memref sig .tc .vmem S1x6x2x8x256 .f32) (arg3 : Memref sig .tc .vmem S128x8x32 .f32) (arg4 : Memref sig .tc .vmem S1x27x2x8x256 .f32) (arg5 : Memref sig .tc .vmem S1x1x2x8x256 .f32) (arg6 : Memref sig .tc .vmem S128x6x32 .f32) (arg7 : Memref sig .tc .vmem S27x16x256 .f32) (arg8 : Memref sig .tc .vmem S128x6x32 .f32) : PP F PUnit := do
  if k0_cond1 i = 1#1 then centres arg3 arg6 arg8 else pure ⟨⟩
  let x ← loadX arg2
  collect 9 (rowStep i arg7 arg8 x) (fun rows => finish i arg4 arg5 arg7 x rows)

end Cert.KThreeIdeal.Gen
-- ==== Proof.Body.lean ====
module

public import proofs.«01_k».proof.Proof.Loops

@[expose] public section

set_option maxRecDepth 65536
set_option maxHeartbeats 40000000
set_option pp.maxSteps 60
set_option pp.deepTerms false
noncomputable section

namespace Cert.KThreeIdeal.Gen

open Idealize.ShloMosaic Idealize.SL.Sem Cert.Run

variable {F : FTy → Type} [FloatOps F]

variable (i : grid0.Coords) (arg2 : Memref sig .tc .vmem S1x6x2x8x256 .f32) (harg2 : arg2.IsWhole) (arg3 : Memref sig .tc .vmem S128x8x32 .f32) (harg3 : arg3.IsWhole) (arg4 : Memref sig .tc .vmem S1x27x2x8x256 .f32) (harg4 : arg4.IsWhole) (arg5 : Memref sig .tc .vmem S1x1x2x8x256 .f32) (harg5 : arg5.IsWhole) (arg6 : Memref sig .tc .vmem S128x6x32 .f32) (harg6 : arg6.IsWhole) (arg7 : Memref sig .tc .vmem S27x16x256 .f32) (harg7 : arg7.IsWhole) (arg8 : Memref sig .tc .vmem S128x6x32 .f32) (harg8 : arg8.IsWhole)

theorem part1_eq :
  k0_part1 (F := F) i arg2 harg2 arg3 harg3 arg4 harg4 arg5 harg5 arg6 harg6 arg7 harg7 arg8 harg8 = (do
    if k0_cond1 i = 1#1 then centres arg3 arg6 arg8 else pure ⟨⟩
    let x ← loadX arg2
    pure ⟨BitVec.ofNat 32 (i 0).val, BitVec.ofNat 32 (i 1).val, featB x, sqFeat (featB x), expMat, broadcast S16x256 (Scalar.ofBits .f32 0x00000000#32)⟩) := by
  unfold k0_part1
  by_cases hz : k0_cond1 i = 1#1
  · rw [if_pos hz]
    exact (dif_pos hz).trans rfl
  · rw [if_neg hz]
    exact (dif_neg hz).trans rfl

/-- The printed body is the loops run out. -/
theorem body3_eq :
  cc0__k3 (F := F) i arg2 harg2 arg3 harg3 arg4 harg4 arg5 harg5 arg6 harg6 arg7 harg7 arg8 harg8 = body3 i arg2 arg3 arg4 arg5 arg6 arg7 arg8 >>= pure := by
  unfold cc0__k3
  rw [part1_eq]
  unfold body3
  by_cases hz : k0_cond1 i = 1#1
  · rw [if_pos hz, if_pos hz]
    repeat (first | with_reducible exact (rfl : (pure ⟨⟩ : PP F PUnit) = pure ⟨⟩) | refine st_assoc ?_ | refine st_pure ?_ | refine rt_pure ?_ | refine rt_loop0 ?_ | refine rt_loop ?_ | refine rt_collect0 ?_ | refine rt_collect ?_ | refine rt_assoc ?_ | refine st_lift fun _ => ?_)
  · rw [if_neg hz, if_neg hz]
    repeat (first | with_reducible exact (rfl : (pure ⟨⟩ : PP F PUnit) = pure ⟨⟩) | refine st_assoc ?_ | refine st_pure ?_ | refine rt_pure ?_ | refine rt_loop0 ?_ | refine rt_loop ?_ | refine rt_collect0 ?_ | refine rt_collect ?_ | refine rt_assoc ?_ | refine st_lift fun _ => ?_)

end Cert.KThreeIdeal.Gen
-- ==== Proof.BodyRun.lean ====
module

public import proofs.«01_k».proof.Proof.Loops

@[expose] public section

set_option maxRecDepth 16384

noncomputable section

namespace Cert.KThreeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Run

variable {F : FTy → Type} [FloatOps F]

local notation "𝕄" => MT nD τ sig Unit (Elt F) ℕ (UR sig nD τ) ℕ

/-! ## What the body leaves -/

/-- Putting a window of the shape's own sizes puts all of it. -/
theorem put_all {s : Shape} {α : Type} (x : s.Idx → α) (off : Fin s.rank → ℕ) (inb : ∀ a, off a + s.size a ≤ s.size a) (w : s.Idx → α) :
    VecWindow.put x off s.size w = w := by
  funext y
  have h : ∀ a, off a ≤ (y a).val ∧ (y a).val < off a + s.size a := fun a => by
    have := inb a; have := (y a).isLt; omega
  unfold VecWindow.put
  rw [dif_pos h]
  refine congrArg w (funext fun a => Fin.ext ?_)
  have := inb a
  show (y a).val - off a = (y a).val
  omega

/-- The window of the shape's own sizes is all of it. -/
theorem window_all {s : Shape} {α : Type} (x : s.Idx → α) (off : Fin s.rank → ℕ) (inb : ∀ a, off a + s.size a ≤ s.size a) :
    VecWindow.window x off s.size inb = x := by
  funext y
  refine congrArg x (funext fun a => Fin.ext ?_)
  have := inb a
  show off a + 1 * (y a).val = (y a).val
  omega

/-- The centres off the sums. -/
def spfV (a : Vec F S128x8x32 .f32) : Vec F S128x6x32 .f32 :=
  centreV (VecWindow.window (s := S128x8x32) a ![0, 0, 0] S128x6x32.size inb_S128x8x32_S128x6x32_0_0_0)
    (VecWindow.window (s := S128x8x32) a ![0, 6, 0] S128x1x32.size inb_S128x8x32_S128x1x32_0_6_0)

/-- The nine rows of centres a point reads. -/
def rowsAt (i : grid0.Coords) (s : Vec F S128x6x32 .f32) (k : Fin 9) : Vec F S1x6x32 .f32 :=
  VecWindow.window (s := S128x6x32) s (k0_off1 i (k0_off1_at k).1 (k0_off1_at k).2) S1x6x32.size (k0_off1_inb i k)

/-- The largest share among the first `n`, with its number. -/
def kept (g : Fin 27 → FVec F S16x256 .f32) : ℕ → FVec F S16x256 .f32 × IVec S16x256 32
  | 0 => keep0
  | n + 1 => if h : n < 27 then keep n (share g ⟨n, h⟩) (kept g n) else kept g n

theorem kept_succ (g : Fin 27 → FVec F S16x256 .f32) (r : Fin 27) : kept g (r.val + 1) = keep r.val (share g r) (kept g r.val) := by
  rw [kept]; exact dif_pos r.isLt

theorem in_slot (y : S1x27x2x8x256.Idx) : ∀ a, (![0, (y 1).val, 0, 0, 0] : Fin 5 → ℕ) a ≤ (y a).val ∧ (y a).val < (![0, (y 1).val, 0, 0, 0] : Fin 5 → ℕ) a + S1x1x2x8x256.size a := by
  intro a
  fin_cases a
  · exact ⟨Nat.zero_le _, by have := (y 0).isLt; simpa using this⟩
  · exact ⟨Nat.le_refl _, Nat.lt_succ_self _⟩
  · exact ⟨Nat.zero_le _, by have := (y 2).isLt; simpa using this⟩
  · exact ⟨Nat.zero_le _, by have := (y 3).isLt; simpa using this⟩
  · exact ⟨Nat.zero_le _, by have := (y 4).isLt; simpa using this⟩

/-- The block of shares. -/
def assocV (g : Fin 27 → FVec F S16x256 .f32) : Vec F S1x27x2x8x256 .f32 := fun y =>
  asBlock (share g (y 1)) (Rect.unitLocal (s := S1x27x2x8x256) (off := ![0, (y 1).val, 0, 0, 0]) (size := S1x1x2x8x256.size) y (in_slot y))

/-- The block of cell numbers. -/
def fidxV (i : grid0.Coords) (g : Fin 27 → FVec F S16x256 .f32) : Vec F S1x1x2x8x256 .f32 :=
  asBlock (cellIx (BitVec.ofNat 32 (i 0).val) (BitVec.ofNat 32 (i 1).val) (kept g 27).2)

/-! ## The scratch of exponentials, slot by slot -/

/-- The first `n` slots hold the exponentials `g`. -/
def Slots (n : ℕ) (g : Fin 27 → FVec F S16x256 .f32) (d : Vec F S27x16x256 .f32) : Prop :=
  ∀ r : Fin 27, r.val < n → VecWindow.window (s := S27x16x256) d ![r.val, 0, 0] S1x16x256.size (inb_e r) = shapeCast S1x16x256 (g r) shapeCasts_S16x256_S1x16x256

theorem Slots.put {n : ℕ} {g : Fin 27 → FVec F S16x256 .f32} {d : Vec F S27x16x256 .f32} (h : Slots n g d) (r : Fin 27) (hr : r.val = n) :
    Slots (n + 1) g (VecWindow.put (s := S27x16x256) d ![r.val, 0, 0] S1x16x256.size (shapeCast S1x16x256 (g r) shapeCasts_S16x256_S1x16x256)) := by
  intro q hq
  by_cases hqr : q = r
  · subst hqr
    exact VecWindow.window_put_same (s := S27x16x256) d _ _ (inb_e q) _
  · have hlt : q.val < n := by
      have : q.val ≠ r.val := fun e => hqr (Fin.ext e)
      omega
    refine (VecWindow.window_put_of_disjoint (s := S27x16x256) d ![r.val, 0, 0] S1x16x256.size ![q.val, 0, 0] S1x16x256.size (inb_e q) _ 0 (Or.inl ?_)).trans (h q hlt)
    show q.val + 1 ≤ r.val
    omega

/-- The first `n` slots of the block hold the shares. -/
def Shares (n : ℕ) (g : Fin 27 → FVec F S16x256 .f32) (d : Vec F S1x27x2x8x256 .f32) : Prop :=
  ∀ r : Fin 27, r.val < n → VecWindow.window (s := S1x27x2x8x256) d ![0, r.val, 0, 0, 0] S1x1x2x8x256.size (inb_assoc r) = asBlock (share g r)

theorem Shares.put {n : ℕ} {g : Fin 27 → FVec F S16x256 .f32} {d : Vec F S1x27x2x8x256 .f32} (h : Shares n g d) (r : Fin 27) (hr : r.val = n) :
    Shares (n + 1) g (VecWindow.put (s := S1x27x2x8x256) d ![0, r.val, 0, 0, 0] S1x1x2x8x256.size (asBlock (share g r))) := by
  intro q hq
  by_cases hqr : q = r
  · subst hqr
    exact VecWindow.window_put_same (s := S1x27x2x8x256) d _ _ (inb_assoc q) _
  · have hlt : q.val < n := by
      have : q.val ≠ r.val := fun e => hqr (Fin.ext e)
      omega
    refine (VecWindow.window_put_of_disjoint (s := S1x27x2x8x256) d ![0, r.val, 0, 0, 0] S1x1x2x8x256.size ![0, q.val, 0, 0, 0] S1x1x2x8x256.size (inb_assoc q) _ 1 (Or.inl ?_)).trans (h q hlt)
    show q.val + 1 ≤ r.val
    omega

/-- A block with every slot written is the block of shares. -/
theorem Shares.all {g : Fin 27 → FVec F S16x256 .f32} {d : Vec F S1x27x2x8x256 .f32} (h : Shares 27 g d) : d = assocV g := by
  funext y
  have e := congrFun (h (y 1) (y 1).isLt) (Rect.unitLocal (s := S1x27x2x8x256) (off := ![0, (y 1).val, 0, 0, 0]) (size := S1x1x2x8x256.size) y (in_slot y))
  refine Eq.trans ?_ e
  refine congrArg d (funext fun a => Fin.ext ?_)
  have := in_slot y a
  show (y a).val = (![0, (y 1).val, 0, 0, 0] : Fin 5 → ℕ) a + 1 * ((y a).val - (![0, (y 1).val, 0, 0, 0] : Fin 5 → ℕ) a)
  omega

theorem eAt_slot (x : Vec F S1x6x2x8x256 .f32) (rows : Fin 9 → Vec F S1x6x32 .f32) (k : Fin 9) (d : Fin 3) (h : 3 * k.val + d.val < 27) :
    eAt x rows ⟨3 * k.val + d.val, h⟩ = scoreE (featB x) (sqFeat (featB x)) (bankSh (bankMid (rows k)) d.val) := by
  unfold eAt
  have e1 : (⟨(3 * k.val + d.val) / 3, by omega⟩ : Fin 9) = k := Fin.ext (by show (3 * k.val + d.val) / 3 = k.val; omega)
  have e2 : (3 * k.val + d.val) % 3 = d.val := by omega
  simp only [e1, e2]

/-! ## The body's triples -/

section
variable {nd : ℕ} {tp : Topo} {sg : RefSig} {Λb : Labels} {D : Defs nd tp sg (Elt F) Λb} (c : Dev nd) (E : Set ℕ) (i : grid0.Coords)
variable (arg7 : Memref sg .tc .vmem S27x16x256 .f32) (arg8 : Memref sg .tc .vmem S128x6x32 .f32)

local notation "𝕄g" => MT nd tp sg Unit (Elt F) ℕ (UR sg nd tp) ℕ

/-- The scratch with its first `n` slots written. -/
def slotted (g : Fin 27 → FVec F S16x256 .f32) (n : ℕ) : sProp 𝕄g :=
  iprop(∃ d, ⌜Slots n g d⌝ ∗ owns (c : Thread nd tp) arg7 fullShare d)

theorem rowStep_run (x : Vec F S1x6x2x8x256 .f32) (s : Vec F S128x6x32 .f32) (k : Fin 9) :
    iprop(owns (c : Thread nd tp) arg8 fullShare s ∗ slotted c arg7 (eAt x (rowsAt i s)) (3 * k.val))
      ⊢ wpB D c E (rowStep i arg7 arg8 x k) (fun r => iprop(⌜r = rowsAt i s k⌝ ∗ (owns (c : Thread nd tp) arg8 fullShare s ∗ slotted c arg7 (eAt x (rowsAt i s)) (3 * (k.val + 1))))) := by
  unfold rowStep
  rw [wpB_bind]
  iintro ⟨H8, H7⟩
  unfold loadRow
  iapply (own_load c E s) $$ H8
  iintro H8
  rw [wpB_bind]
  have hl : slotted c arg7 (eAt x (rowsAt i s)) (3 * k.val + 0) ⊢ wpB D c E (loopSt 3 (fun d (_ : PUnit) => do
      let _ ← loadE arg7 ⟨3 * k.val + d.val, by omega⟩
      storeE arg7 ⟨3 * k.val + d.val, by omega⟩ (scoreE (featB x) (sqFeat (featB x)) (bankSh (bankMid (rowsAt i s k)) d.val))) ⟨⟩)
      (fun u => iprop(⌜u = ⟨⟩⌝ ∗ slotted c arg7 (eAt x (rowsAt i s)) (3 * k.val + 3))) := by
    refine own_loop c E (σ := PUnit) (fun _ => PUnit.unit) (fun j => slotted c arg7 (eAt x (rowsAt i s)) (3 * k.val + j)) fun d => ?_
    rw [wpB_bind]
    unfold slotted
    iintro ⟨%v, %hv, H⟩
    unfold loadE
    iapply (own_load c E v) $$ H
    iintro H
    unfold storeE
    iapply (own_store c E v) $$ H
    iintro H
    isplitr
    · ipureintro; rfl
    iexists _
    isplitr
    swap
    · iexact H
    ipureintro
    rw [← eAt_slot x (rowsAt i s) k d (by omega)]
    exact hv.put ⟨3 * k.val + d.val, by omega⟩ rfl
  have hm : iprop(owns (c : Thread nd tp) arg8 fullShare s ∗ slotted c arg7 (eAt x (rowsAt i s)) (3 * k.val + 0)) ⊢ wpB D c E (loopSt 3 (fun d (_ : PUnit) => do
      let _ ← loadE arg7 ⟨3 * k.val + d.val, by omega⟩
      storeE arg7 ⟨3 * k.val + d.val, by omega⟩ (scoreE (featB x) (sqFeat (featB x)) (bankSh (bankMid (rowsAt i s k)) d.val))) ⟨⟩)
      (fun u => wpB D c E (pure (rowsAt i s k)) (fun r => iprop(⌜r = rowsAt i s k⌝ ∗ (owns (c : Thread nd tp) arg8 fullShare s ∗ slotted c arg7 (eAt x (rowsAt i s)) (3 * (k.val + 1)))))) := by
    refine (sep_mono_right hl).trans ((wp_frame_l _ _ _).trans (wp_mono _ _ _ fun u => ?_))
    refine .trans ?_ (wpB_pure c E _ _)
    iintro ⟨H8, -, H7⟩
    isplitr
    · ipureintro; rfl
    isplitl [H8]; · iexact H8
    iexact H7
  iapply hm
  isplitl [H8]; · iexact H8
  iexact H7

end

section
variable (c : Dev nD) (E : Set ℕ) (i : grid0.Coords)
variable (arg2 : Memref sig .tc .vmem S1x6x2x8x256 .f32) (arg3 : Memref sig .tc .vmem S128x8x32 .f32) (arg4 : Memref sig .tc .vmem S1x27x2x8x256 .f32) (arg5 : Memref sig .tc .vmem S1x1x2x8x256 .f32) (arg6 : Memref sig .tc .vmem S128x6x32 .f32) (arg7 : Memref sig .tc .vmem S27x16x256 .f32) (arg8 : Memref sig .tc .vmem S128x6x32 .f32)

/-- The block with its first `n` slots written. -/
def shared (g : Fin 27 → FVec F S16x256 .f32) (n : ℕ) : sProp 𝕄 :=
  iprop(∃ d, ⌜Shares n g d⌝ ∗ owns (c : Thread nD τ) arg4 fullShare d)

theorem assocStep_run (g : Fin 27 → FVec F S16x256 .f32) (r : Fin 27) :
    iprop(slotted c arg7 g 27 ∗ shared c arg4 g r.val)
      ⊢ wpB defs₀ c E (assocStep arg4 arg7 (invE g) r (kept g r.val)) (fun b => iprop(⌜b = kept g (r.val + 1)⌝ ∗ (slotted c arg7 g 27 ∗ shared c arg4 g (r.val + 1)))) := by
  unfold assocStep slotted shared
  rw [wpB_bind]
  iintro ⟨⟨%v, %hv, H7⟩, ⟨%d, %hd, H4⟩⟩
  unfold loadE
  iapply (own_load c E v) $$ H7
  iintro H7
  rw [hv r r.isLt, wpB_bind]
  iapply (own_load c E d) $$ H4
  iintro H4
  rw [wpB_bind]
  iapply (own_store c E d) $$ H4
  iintro H4
  iapply (wpB_pure c E)
  isplitr
  · ipureintro
    exact (kept_succ g r).symm
  isplitl [H7]
  · iexists v
    isplitr; · ipureintro; exact hv
    iexact H7
  iexists _
  isplitr
  swap
  · iexact H4
  ipureintro
  exact hd.put r rfl

theorem finish_run (x : Vec F S1x6x2x8x256 .f32) (rows : Fin 9 → Vec F S1x6x32 .f32) :
    iprop(slotted c arg7 (eAt x rows) 27 ∗ (∃ d, owns (c : Thread nD τ) arg4 fullShare d) ∗ (∃ d, owns (c : Thread nD τ) arg5 fullShare d))
      ⊢ wpB defs₀ c E (finish i arg4 arg5 arg7 x rows) (fun _ => iprop((∃ d, owns (c : Thread nD τ) arg7 fullShare d)
          ∗ owns (c : Thread nD τ) arg4 fullShare (assocV (eAt x rows)) ∗ owns (c : Thread nD τ) arg5 fullShare (fidxV i (eAt x rows)))) := by
  unfold finish
  rw [wpB_bind]
  have hl := own_loop c E (f := assocStep arg4 arg7 (invE (eAt x rows))) (kept (eAt x rows)) (fun n => iprop(slotted c arg7 (eAt x rows) 27 ∗ shared c arg4 (eAt x rows) n)) fun r => assocStep_run c E arg4 arg7 (eAt x rows) r
  have hm : iprop((∃ d, owns (c : Thread nD τ) arg5 fullShare d) ∗ (slotted c arg7 (eAt x rows) 27 ∗ shared c arg4 (eAt x rows) 0)) ⊢ _ := (sep_mono_right hl).trans (wp_frame_l _ _ _)
  iintro ⟨H7, ⟨%d4, H4⟩, H5⟩
  iapply (hm.trans (wp_mono _ _ _ fun b => ?_))
  rotate_right 1
  · isplitl [H5]; · iexact H5
    isplitl [H7]; · iexact H7
    unfold shared
    iexists d4
    isplitr
    · ipureintro; exact fun r hr => absurd hr (Nat.not_lt_zero _)
    iexact H4
  iintro ⟨⟨%d5, H5⟩, %hb, H7, H4⟩
  subst hb
  dsimp only
  rw [wpB_bind]
  iapply (own_load c E d5) $$ H5
  iintro H5
  iapply (own_store c E d5) $$ H5
  iintro H5
  unfold slotted shared
  icases H7 with ⟨%v, -, H7⟩
  icases H4 with ⟨%d, %hd, H4⟩
  isplitl [H7]
  · iexists v; iexact H7
  obtain rfl := Shares.all hd
  isplitl [H4]; · iexact H4
  rw [put_all (s := S1x1x2x8x256) d5 ![0, 0, 0, 0, 0] inb_S1x1x2x8x256_S1x1x2x8x256_0_0_0_0_0]
  iexact H5

theorem centres_run (a : Vec F S128x8x32 .f32) :
    iprop(owns (c : Thread nD τ) arg3 fullShare a ∗ (∃ d, owns (c : Thread nD τ) arg6 fullShare d) ∗ (∃ d, owns (c : Thread nD τ) arg8 fullShare d))
      ⊢ wpB defs₀ c E (centres arg3 arg6 arg8) (fun _ => iprop(owns (c : Thread nD τ) arg3 fullShare a ∗ owns (c : Thread nD τ) arg6 fullShare (spfV a)
          ∗ owns (c : Thread nD τ) arg8 fullShare (shapeCast S128x6x32 (spfV a) shapeCasts_S128x6x32_S128x6x32))) := by
  unfold centres
  iintro ⟨H3, ⟨%d6, H6⟩, ⟨%d8, H8⟩⟩
  rw [wpB_bind]
  iapply (own_load c E a) $$ H3
  iintro H3
  rw [wpB_bind]
  iapply (own_load c E a) $$ H3
  iintro H3
  rw [wpB_bind]
  iapply (own_load c E d8) $$ H8
  iintro H8
  rw [wpB_bind]
  iapply (own_store c E d8) $$ H8
  iintro H8
  rw [wpB_bind]
  iapply (own_load c E d6) $$ H6
  iintro H6
  rw [wpB_bind]
  iapply (own_store c E d6) $$ H6
  iintro H6
  iapply (wpB_pure c E)
  rw [put_all (s := S128x6x32) d6 ![0, 0, 0] inb_S128x6x32_S128x6x32_0_0_0, put_all (s := S128x6x32) d8 ![0, 0, 0] inb_S128x6x32_S128x6x32_0_0_0]
  isplitl [H3]; · iexact H3
  isplitl [H6]; · iexact H6
  iexact H8

/-- The rest of the body, off the centres `s` in scratch. -/
theorem rest_run (x : Vec F S1x6x2x8x256 .f32) (s : Vec F S128x6x32 .f32) :
    iprop(owns (c : Thread nD τ) arg2 fullShare x ∗ (∃ d, owns (c : Thread nD τ) arg4 fullShare d) ∗ (∃ d, owns (c : Thread nD τ) arg5 fullShare d)
        ∗ (∃ d, owns (c : Thread nD τ) arg7 fullShare d) ∗ owns (c : Thread nD τ) arg8 fullShare s)
      ⊢ wpB defs₀ c E (do let x ← loadX arg2; collect 9 (rowStep i arg7 arg8 x) (fun rows => finish i arg4 arg5 arg7 x rows))
          (fun _ => iprop(owns (c : Thread nD τ) arg2 fullShare x ∗ owns (c : Thread nD τ) arg4 fullShare (assocV (eAt x (rowsAt i s)))
            ∗ owns (c : Thread nD τ) arg5 fullShare (fidxV i (eAt x (rowsAt i s))) ∗ (∃ d, owns (c : Thread nD τ) arg7 fullShare d) ∗ owns (c : Thread nD τ) arg8 fullShare s)) := by
  rw [wpB_bind]
  iintro ⟨H2, H4, H5, ⟨%d7, H7⟩, H8⟩
  unfold loadX
  iapply (own_load c E x) $$ H2
  iintro H2
  rw [window_all (s := S1x6x2x8x256) x ![0, 0, 0, 0, 0] inb_S1x6x2x8x256_S1x6x2x8x256_0_0_0_0_0]
  have hc := own_collect c E (f := rowStep i arg7 arg8 x) (K := fun rows => finish i arg4 arg5 arg7 x rows) (rowsAt i s)
    (fun k => iprop((owns (c : Thread nD τ) arg8 fullShare s ∗ slotted c arg7 (eAt x (rowsAt i s)) (3 * k))
      ∗ (owns (c : Thread nD τ) arg2 fullShare x ∗ (∃ d, owns (c : Thread nD τ) arg4 fullShare d) ∗ (∃ d, owns (c : Thread nD τ) arg5 fullShare d))))
    (Q := fun _ => iprop(owns (c : Thread nD τ) arg2 fullShare x ∗ owns (c : Thread nD τ) arg4 fullShare (assocV (eAt x (rowsAt i s)))
            ∗ owns (c : Thread nD τ) arg5 fullShare (fidxV i (eAt x (rowsAt i s))) ∗ (∃ d, owns (c : Thread nD τ) arg7 fullShare d) ∗ owns (c : Thread nD τ) arg8 fullShare s))
    (fun k => (sep_mono_left (rowStep_run c E i arg7 arg8 x s k)).trans ((wp_frame_r _ _ _).trans (wp_mono _ _ _ fun r => by
      iintro ⟨⟨%hr, H⟩, HR⟩
      isplitr; · ipureintro; exact hr
      isplitl [H]; · iexact H
      iexact HR)))
    (by
      iintro ⟨⟨H8, H7⟩, H2, H4, H5⟩
      have hf := (sep_mono_right (P := iprop(owns (c : Thread nD τ) arg2 fullShare x ∗ owns (c : Thread nD τ) arg8 fullShare s)) (finish_run c E i arg4 arg5 arg7 x (rowsAt i s))).trans (wp_frame_l _ _ _)
      iapply (hf.trans (wp_mono _ _ _ fun u => ?_))
      rotate_right 1
      · isplitl [H2 H8]
        · isplitl [H2]; · iexact H2
          iexact H8
        isplitl [H7]; · iexact H7
        isplitl [H4]; · iexact H4
        iexact H5
      iintro ⟨⟨H2, H8⟩, H7, H4, H5⟩
      isplitl [H2]; · iexact H2
      isplitl [H4]; · iexact H4
      isplitl [H5]; · iexact H5
      isplitl [H7]; · iexact H7
      iexact H8)
  iapply hc
  isplitl [H8 H7]
  · isplitl [H8]; · iexact H8
    unfold slotted
    iexists d7
    isplitr
    · ipureintro; exact fun r hr => absurd hr (Nat.not_lt_zero _)
    iexact H7
  isplitl [H2]; · iexact H2
  isplitl [H4]; · iexact H4
  iexact H5

end

end Cert.KThreeIdeal.Gen
-- ==== Proof.Launch.lean ====
module

public import proofs.«01_k».proof.Proof.Body
public import proofs.«01_k».proof.Proof.BodyRun

@[expose] public section

set_option maxRecDepth 16384

noncomputable section

namespace Cert.KThreeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Run
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the pipeline -/

/-- The two scratch buffers as memrefs. -/
abbrev scE : Memref sig .tc .vmem S27x16x256 .f32 := Memref.whole cc0_scratch0
abbrev scS : Memref sig .tc .vmem S128x6x32 .f32 := Memref.whole cc0_scratch1

/-- The staging memrefs at point `t`. -/
abbrev ms2 (t : Fin cfg0.N) : Memref sig .tc .vmem S1x6x2x8x256 .f32 := win0_0.stage (cfg0.slots t 0)
abbrev ms3 (t : Fin cfg0.N) : Memref sig .tc .vmem S128x8x32 .f32 := win0_1.stage (cfg0.slots t 1)
abbrev ms4 (t : Fin cfg0.N) : Memref sig .tc .vmem S1x27x2x8x256 .f32 := win0_2.stage (cfg0.slots t 2)
abbrev ms5 (t : Fin cfg0.N) : Memref sig .tc .vmem S1x1x2x8x256 .f32 := win0_3.stage (cfg0.slots t 3)
abbrev ms6 (t : Fin cfg0.N) : Memref sig .tc .vmem S128x6x32 .f32 := win0_4.stage (cfg0.slots t 4)

/-- The first point. -/
def t0 : Fin cfg0.N := ⟨0, by have : cfg0.N = 128 := N_0; omega⟩

/-- The block of features at point `t`. -/
def xB (c : Dev nD) (t : Fin cfg0.N) : Vec F S1x6x2x8x256 .f32 := iblk m c 0 t
/-- The sums at point `t`. -/
def accB (c : Dev nD) (t : Fin cfg0.N) : Vec F S128x8x32 .f32 := iblk m c 1 t

/-- The centres: what the first point writes. -/
def ctr (c : Dev nD) : Vec F S128x6x32 .f32 := spfV (accB m c t0)
/-- The centres in scratch. -/
def ctrS (c : Dev nD) : Vec F S128x6x32 .f32 := shapeCast S128x6x32 (ctr m c) shapeCasts_S128x6x32_S128x6x32

/-- The exponentials at point `t`. -/
def gB (c : Dev nD) (t : Fin cfg0.N) : Fin 27 → FVec F S16x256 .f32 :=
  eAt (xB m c t) (rowsAt (grid0.coords t) (ctrS m c))

/-- The invariant: the centres in scratch after the first point. -/
def PhiS (c : Dev nD) : ℕ → sProp 𝕄
  | 0 => Pipeline.ΦA spec0 c
  | _ + 1 => iprop(iprop((∃ d, owns (c : Thread nD τ) scE fullShare d) ∗ owns (c : Thread nD τ) scS fullShare (ctrS m c)) ∗ (∃ r, prngReg c r))

theorem PhiS_pos (c : Dev nD) (n : ℕ) (hz : n ≠ 0) :
    PhiS m c n = iprop(iprop((∃ d, owns (c : Thread nD τ) scE fullShare d) ∗ owns (c : Thread nD τ) scS fullShare (ctrS m c)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) scE fullShare d) ∗ (∃ d, owns (c : Thread nD τ) scS fullShare d)) ∗ (∃ r, prngReg c r)) := by
  unfold Pipeline.ΦA; rw [scopedRest0_eq]; simp only [scE, scS, owns_whole]; try rfl

/-- The data: inputs at their blocks, the outputs at the body's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => assocV (gB m c t)
    | ⟨3, _⟩ => fidxV (grid0.coords t) (gB m c t)
    | ⟨4, _⟩ => ctr m c
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = assocV (gB m c t) := by dsimp only [dats]
theorem after_3 (c : Dev nD) (t : Fin cfg0.N) : (dats m 0 c).after 3 t = fidxV (grid0.coords t) (gB m c t) := by dsimp only [dats]
theorem after_4 (c : Dev nD) (t : Fin cfg0.N) : (dats m 0 c).after 4 t = ctr m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl

/-- The first branch is taken at the first point only. -/
theorem cond_iff : ∀ t : Fin grid0.N, k0_cond1 (grid0.coords t) = 1#1 ↔ t.val = 0 := by
  decide

theorem liveAt_4 (t : Fin cfg0.N) (h : t.val = 0) : cfg0.idle 4 (grid0.coords t) = false := by
  show (!(k0_cond1 (grid0.coords t) == 1#1)) = false
  rw [(cond_iff t).mpr h]; rfl
theorem idleAt_4 (t : Fin cfg0.N) (h : t.val ≠ 0) : cfg0.idle 4 (grid0.coords t) = true := by
  show (!(k0_cond1 (grid0.coords t) == 1#1)) = true
  have : ¬ k0_cond1 (grid0.coords t) = 1#1 := fun e => h ((cond_iff t).mp e)
  simpa using this

/-- After the first point the centres' buffer holds the centres. -/
theorem before_4 (c : Dev nD) (n : ℕ) : ∀ (t : Fin cfg0.N), t.val = n + 1 → ∀ d, (dats m 0 c).before 4 t d = ctr m c := by
  induction n with
  | zero =>
    intro t ht d
    have hN : t.val < 128 := lt_of_lt_of_eq t.isLt (show cfg0.N = 128 from N_0)
    have hf : (cfg0.win 4).flush ⟨t.val - 1, Nat.lt_of_le_of_lt (Nat.sub_le _ _) t.isLt⟩ = false := by
      rw [← Bool.not_eq_true, flush0_4]; dsimp only; omega
    rw [(dats m 0 c).before_of_pos 4 t (by omega) ((cfg0.win 4).fetch_out rfl t), hf, if_neg Bool.false_ne_true]
    unfold Dat.left
    rw [show cfg0.idle 4 (cfg0.grid.coords ⟨t.val - 1, Nat.lt_of_le_of_lt (Nat.sub_le _ _) t.isLt⟩) = false from liveAt_4 _ (by dsimp only; omega)]
    dsimp only
    unfold Dat.kept
    rw [after_4]
    rw [Pipeline.fill_of_clip_none (cfg := cfg0) 4 _ (fun _ => rfl) d (ctr m c), Pipeline.Window.fill_cut]
  | succ n ih =>
    intro t ht d
    have hN : t.val < 128 := lt_of_lt_of_eq t.isLt (show cfg0.N = 128 from N_0)
    have hf : (cfg0.win 4).flush ⟨t.val - 1, Nat.lt_of_le_of_lt (Nat.sub_le _ _) t.isLt⟩ = false := by
      rw [← Bool.not_eq_true, flush0_4]; dsimp only; omega
    rw [(dats m 0 c).before_of_pos 4 t (by omega) ((cfg0.win 4).fetch_out rfl t), hf, if_neg Bool.false_ne_true]
    unfold Dat.left
    rw [show cfg0.idle 4 (cfg0.grid.coords ⟨t.val - 1, Nat.lt_of_le_of_lt (Nat.sub_le _ _) t.isLt⟩) = true from idleAt_4 _ (by dsimp only; omega)]
    exact ih _ (by dsimp only; omega) d

/-- The sums are the same at every point. -/
theorem accB_eq (c : Dev nD) (t : Fin cfg0.N) (h : t.val = 0) : accB m c t = accB m c t0 := by
  rw [show t = t0 from Fin.ext h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms2 t) fullShare ((dats m 0 c).before 0 t d))
    ∗ (∃ d, owns (c : Thread nD τ) (ms3 t) fullShare ((dats m 0 c).before 1 t d))
    ∗ (∃ d, owns (c : Thread nD τ) (ms4 t) fullShare ((dats m 0 c).before 2 t d))
    ∗ (∃ d, owns (c : Thread nD τ) (ms5 t) fullShare ((dats m 0 c).before 3 t d))
    ∗ (∃ d, owns (c : Thread nD τ) (ms6 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) : (dats m 0 c).leavesExact 0 t = owns (c : Thread nD τ) (ms2 t) fullShare (xB m c t) := by
  unfold Dat.leavesExact; rw [liveAt_0 t]; dsimp only; rw [after_0]; rfl
theorem leaves_1 (c : Dev nD) (t : Fin cfg0.N) : (dats m 0 c).leavesExact 1 t = owns (c : Thread nD τ) (ms3 t) fullShare (accB m c t) := by
  unfold Dat.leavesExact; rw [liveAt_1 t]; dsimp only; rw [after_1]; rfl
theorem leaves_2 (c : Dev nD) (t : Fin cfg0.N) : (dats m 0 c).leavesExact 2 t = owns (c : Thread nD τ) (ms4 t) fullShare (assocV (gB m c t)) := by
  unfold Dat.leavesExact; rw [liveAt_2 t, after_2]
theorem leaves_3 (c : Dev nD) (t : Fin cfg0.N) : (dats m 0 c).leavesExact 3 t = owns (c : Thread nD τ) (ms5 t) fullShare (fidxV (grid0.coords t) (gB m c t)) := by
  unfold Dat.leavesExact; rw [liveAt_3 t, after_3]
theorem leaves_4 (c : Dev nD) (t : Fin cfg0.N) (d : Vec F S128x6x32 .f32) : owns (c : Thread nD τ) (ms6 t) fullShare (ctr m c) ⊢ (dats m 0 c).leavesExact 4 t := by
  unfold Dat.leavesExact
  by_cases hz : t.val = 0
  · rw [liveAt_4 t hz]; dsimp only; rw [after_4]
  · rw [idleAt_4 t hz]
    cases (cfg0.win 4).flush t
    · dsimp only
      iintro H
      iexists d
      rw [before_4 m c (t.val - 1) t (by omega)]
      iexact H
    · dsimp only; rw [after_4]

/-- The last part of the body at point `t`, with the rest carried along. -/
theorem rest_at (c : Dev nD) (t : Fin cfg0.N) (R : sProp 𝕄) :
    iprop(R ∗ owns (c : Thread nD τ) (ms2 t) fullShare (xB m c t) ∗ (∃ d, owns (c : Thread nD τ) (ms4 t) fullShare d) ∗ (∃ d, owns (c : Thread nD τ) (ms5 t) fullShare d)
        ∗ (∃ d, owns (c : Thread nD τ) scE fullShare d) ∗ owns (c : Thread nD τ) scS fullShare (ctrS m c))
      ⊢ wpB defs₀ c Set.univ (do let x ← loadX (ms2 t); collect 9 (rowStep (grid0.coords t) scE scS x) (fun rows => finish (grid0.coords t) (ms4 t) (ms5 t) scE x rows))
          (fun _ => iprop(R ∗ owns (c : Thread nD τ) (ms2 t) fullShare (xB m c t) ∗ owns (c : Thread nD τ) (ms4 t) fullShare (assocV (gB m c t))
            ∗ owns (c : Thread nD τ) (ms5 t) fullShare (fidxV (grid0.coords t) (gB m c t)) ∗ (∃ d, owns (c : Thread nD τ) scE fullShare d) ∗ owns (c : Thread nD τ) scS fullShare (ctrS m c))) :=
  (sep_mono_right (rest_run c Set.univ (grid0.coords t) (ms2 t) (ms4 t) (ms5 t) scE scS (xB m c t) (ctrS m c))).trans (wp_frame_l _ _ _)

theorem bodyAt_eq (t : Fin cfg0.N) : (bodyAt0 (F := F) t) = body3 (grid0.coords t) (ms2 t) (ms3 t) (ms4 t) (ms5 t) (ms6 t) scE scS >>= pure :=
  body3_eq _ _ _ _ _ _ _ _ _ _ _ _ _ _ _

theorem sound_body (c : Dev nD) (t : Fin cfg0.N) :
    bodyPre m c t ⊢ wp frame (wpE (defs₀ (F := F)) Variants.none c none) Set.univ (bodyAt0 t) (fun _ => bodyPost m c t) := by
  rw [bodyAt_eq]
  show _ ⊢ wpB defs₀ c Set.univ _ _
  rw [wpB_bind]
  refine .trans ?_ (wp_mono _ _ _ fun u => wpB_pure c Set.univ u _)
  unfold bodyPre bodyPost
  simp only [before_0, before_1]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves_0, leaves_1, leaves_2, leaves_3]
  unfold body3
  by_cases hz : t.val = 0
  · rw [if_pos ((cond_iff t).mpr hz), show PhiS m c t.val = Pipeline.ΦA spec0 c by rw [hz]; rfl, PhiA_eq]
    show _ ⊢ wpB defs₀ c Set.univ (centres (ms3 t) (ms6 t) scS >>= fun _ => do
      let x ← loadX (ms2 t)
      collect 9 (rowStep (grid0.coords t) scE scS x) fun rows => finish (grid0.coords t) (ms4 t) (ms5 t) scE x rows) _
    rw [wpB_bind]
    iintro ⟨⟨⟨HE, HS⟩, Hg⟩, Ho, ⟨%d0, H0⟩, ⟨%d1, H1⟩, ⟨%d2, H2⟩, ⟨%d3, H3⟩, ⟨%d4, H4⟩⟩
    have hc := (sep_mono_right (P := iprop((∃ d, owns (c : Thread nD τ) scE fullShare d) ∗ (∃ r, prngReg c r) ∗ (dats m 0 c).owesAt () t.castSucc ∗ owns (c : Thread nD τ) (ms2 t) fullShare (xB m c t)
        ∗ (∃ d, owns (c : Thread nD τ) (ms4 t) fullShare d) ∗ (∃ d, owns (c : Thread nD τ) (ms5 t) fullShare d)))
      (centres_run c Set.univ (ms3 t) (ms6 t) scS (accB m c t))).trans (wp_frame_l _ _ _)
    iapply (hc.trans (wp_mono _ _ _ fun u => ?_))
    rotate_right 1
    · isplitl [HE Hg Ho H0 H2 H3]
      · isplitl [HE]; · iexact HE
        isplitl [Hg]; · iexact Hg
        isplitl [Ho]; · iexact Ho
        isplitl [H0]; · iexact H0
        isplitl [H2]; · iexists _; iexact H2
        iexists _; iexact H3
      isplitl [H1]; · iexact H1
      isplitl [H4]; · iexists _; iexact H4
      iexact HS
    have hr := rest_at m c t iprop((∃ r, prngReg c r) ∗ (dats m 0 c).owesAt () t.castSucc ∗ owns (c : Thread nD τ) (ms3 t) fullShare (accB m c t) ∗ owns (c : Thread nD τ) (ms6 t) fullShare (ctr m c))
    iintro ⟨⟨HE, Hg, Ho, H0, H2, H3⟩, H1, H4, HS⟩
    iapply (hr.trans (wp_mono _ _ _ fun u => ?_))
    rotate_right 1
    · isplitl [Hg Ho H1 H4]
      · isplitl [Hg]; · iexact Hg
        isplitl [Ho]; · iexact Ho
        isplitl [H1]; · iexact H1
        unfold ctr; rw [← accB_eq m c t hz]; iexact H4
      isplitl [H0]; · iexact H0
      isplitl [H2]; · iexact H2
      isplitl [H3]; · iexact H3
      isplitl [HE]; · iexact HE
      unfold ctrS ctr; rw [← accB_eq m c t hz]; iexact HS
    iintro ⟨⟨Hg, Ho, H1, H4⟩, H0, H2, H3, HE, HS⟩
    isplitl [HE HS Hg]
    · isplitl [HE HS]
      · isplitl [HE]; · iexact HE
        iexact HS
      iexact Hg
    isplitl [Ho]; · iexact Ho
    isplitl [H0]; · iexact H0
    isplitl [H1]; · iexact H1
    isplitl [H2]; · iexact H2
    isplitl [H3]; · iexact H3
    iapply (leaves_4 m c t d4) $$ H4
  · rw [if_neg (fun e => hz ((cond_iff t).mp e)), PhiS_pos m c _ hz]
    iintro ⟨⟨⟨HE, HS⟩, Hg⟩, Ho, ⟨%d0, H0⟩, ⟨%d1, H1⟩, ⟨%d2, H2⟩, ⟨%d3, H3⟩, ⟨%d4, H4⟩⟩
    have hr := rest_at m c t iprop((∃ r, prngReg c r) ∗ (dats m 0 c).owesAt () t.castSucc ∗ owns (c : Thread nD τ) (ms3 t) fullShare (accB m c t) ∗ owns (c : Thread nD τ) (ms6 t) fullShare (ctr m c))
    iapply (hr.trans (wp_mono _ _ _ fun u => ?_))
    rotate_right 1
    · isplitl [Hg Ho H1 H4]
      · isplitl [Hg]; · iexact Hg
        isplitl [Ho]; · iexact Ho
        isplitl [H1]; · iexact H1
        rw [before_4 m c (t.val - 1) t (by omega)]; iexact H4
      isplitl [H0]; · iexact H0
      isplitl [H2]; · iexists _; iexact H2
      isplitl [H3]; · iexists _; iexact H3
      isplitl [HE]; · iexact HE
      iexact HS
    iintro ⟨⟨Hg, Ho, H1, H4⟩, H0, H2, H3, HE, HS⟩
    isplitl [HE HS Hg]
    · isplitl [HE HS]
      · isplitl [HE]; · iexact HE
        iexact HS
      iexact Hg
    isplitl [Ho]; · iexact Ho
    isplitl [H0]; · iexact H0
    isplitl [H1]; · iexact H1
    isplitl [H2]; · iexact H2
    isplitl [H3]; · iexact H3
    iapply (leaves_4 m c t d4) $$ H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val from rfl, PhiS_pos m c _ (by rw [Fin.val_last]; omega), PhiA_eq]
  iintro ⟨⟨HE, HS⟩, Hg⟩
  isplitl [HE HS]
  · isplitl [HE]; · iexact HE
    iexists _; iexact HS
  iexact Hg

/-! ## The run -/

set_option backward.isDefEq.respectTransparency.types false in
set_option maxHeartbeats 800000 in
/-- The launch: the arrays end as the data says, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_quiescent m ρ)

end Cert.KThreeIdeal.Gen
-- ==== Proof.Twin.lean ====
module
public import proofs.«01_k».proof.Proof.Launch
public import proofs.«01_k».proof.Proof.Gen.KThree.Frame
@[expose] public section
noncomputable section
open Idealize.ShloMosaic Idealize.SL.Sem
variable {F : FTy → Type} [FloatOps F]
attribute [local instance] Cert.KThree.Gen.facts Cert.KThreeIdeal.Gen.facts
namespace Cert.Twin

/-- The printed kernel and its idealization are one text. -/
theorem cc_eq : @Cert.KThree.cc0__k3 F _ _ = @Cert.KThreeIdeal.cc0__k3 F _ _ := rfl

/-- So are their tables of bodies. -/
theorem defs₀_eq : Cert.KThree.defs₀ (F := F) = Cert.KThreeIdeal.defs₀ (F := F) := by
  unfold Cert.KThree.defs₀ Cert.KThreeIdeal.defs₀
  refine congrArg _ ?_
  funext l x
  match l, x with
  | 0, (t, s) =>
    dsimp only
    rw [cc_eq]
    have h0 : Cert.KThree.stage0_0 (s 0) = Cert.KThreeIdeal.stage0_0 (s 0) := by
      generalize s 0 = k; match k with | 0 => rfl | 1 => rfl
    have h1 : Cert.KThree.stage0_1 (s 1) = Cert.KThreeIdeal.stage0_1 (s 1) := by
      generalize s 1 = k; match k with | 0 => rfl
    have h2 : Cert.KThree.stage0_2 (s 2) = Cert.KThreeIdeal.stage0_2 (s 2) := by
      generalize s 2 = k; match k with | 0 => rfl | 1 => rfl
    have h3 : Cert.KThree.stage0_3 (s 3) = Cert.KThreeIdeal.stage0_3 (s 3) := by
      generalize s 3 = k; match k with | 0 => rfl | 1 => rfl
    have h4 : Cert.KThree.stage0_4 (s 4) = Cert.KThreeIdeal.stage0_4 (s 4) := by
      generalize s 4 = k; match k with | 0 => rfl
    congr 1

theorem defs_eq : Cert.KThree.defs (F := F) = Cert.KThreeIdeal.defs (F := F) := by
  unfold Cert.KThree.defs Cert.KThreeIdeal.defs
  rw [defs₀_eq]
  rfl

/-- The printed kernel runs as its idealization does. -/
theorem frame (m : (ℓ : Loc Cert.KThree.nD Cert.KThree.τ Cert.KThree.sig) → Buf (Elt F) ℓ) (ρ : Dev Cert.KThree.nD → PrngReg) :
    θ_run (Cert.KThree.defs (F := F)) (onTc (τ := Cert.KThree.τ) (Cert.KThree.main (F := F))) ⟨m, fun _ => 0, ρ⟩ (fun r => (∀ c : Dev Cert.KThree.nD,
      r.2.mem ((c.tc : Thread Cert.KThree.nD Cert.KThree.τ).loc Cert.KThree.main_arg0) = m ((c.tc : Thread Cert.KThree.nD Cert.KThree.τ).loc Cert.KThree.main_arg0)
      ∧ r.2.mem ((c.tc : Thread Cert.KThree.nD Cert.KThree.τ).loc Cert.KThree.main_arg1) = m ((c.tc : Thread Cert.KThree.nD Cert.KThree.τ).loc Cert.KThree.main_arg1))
      ∧ r.2.sem = fun _ => 0) := by
  rw [defs_eq]
  exact Cert.KThreeIdeal.Gen.frame m ρ

end Cert.Twin
-- ==== Proof.Words.lean ====
module

public import Idealize.ShloMosaic.PureOps

@[expose] public section

set_option maxRecDepth 16384

noncomputable section

namespace Cert.Cell

open Idealize.ShloMosaic

/-! ## A neighbour's cell -/

/-- The neighbour of cell `x` of `n` at offset `d - 1`, kept inside. -/
def clampN (n x d : ℕ) : ℕ := min (x + d - 1) (n - 1)

theorem clampN_lt {n : ℕ} (hn : 0 < n) (x d : ℕ) : clampN n x d < n := by unfold clampN; omega

/-- The row of cells neighbour `r` of pixel `(l, h)` lies in. -/
def rowOf (l h r : ℕ) : ℕ := clampN 4 (l / 2) (r / 9) * 32 + clampN 32 (h / 8) (r / 3 % 3)

/-- The column of neighbour `r` of a pixel at `w`. -/
def colOf (w r : ℕ) : ℕ := clampN 32 (w / 8) (r % 3)

theorem rowOf_lt (l h r : ℕ) : rowOf l h r < 128 := by
  have h1 := clampN_lt (n := 4) (by decide) (l / 2) (r / 9)
  have h2 := clampN_lt (n := 32) (by decide) (h / 8) (r / 3 % 3)
  unfold rowOf; omega

theorem colOf_lt (w r : ℕ) : colOf w r < 32 := clampN_lt (by decide) _ _

/-- The number of the cell. -/
def numOf (l h w r : ℕ) : ℕ := rowOf l h r * 32 + colOf w r

/-! ## The reference's words -/

/-- The neighbour's layer. -/
def refL (l r : BitVec 32) : BitVec 32 :=
  IntOp.minsi (IntOp.maxsi (IntOp.addi (IntOp.divsi .host l 2#32) (IntOp.subi (IntOp.divsi .host r 9#32) 1#32)) 0#32) 3#32
/-- The neighbour's row. -/
def refH (h r : BitVec 32) : BitVec 32 :=
  IntOp.minsi (IntOp.maxsi (IntOp.addi (IntOp.divsi .host h 8#32) (IntOp.subi (IntOp.remsi .host (IntOp.divsi .host r 3#32) 3#32) 1#32)) 0#32) 31#32
/-- The neighbour's column. -/
def refW (w r : BitVec 32) : BitVec 32 :=
  IntOp.minsi (IntOp.maxsi (IntOp.addi (IntOp.divsi .host w 8#32) (IntOp.subi (IntOp.remsi .host r 3#32) 1#32)) 0#32) 31#32
/-- The neighbour's number. -/
def refCell (l h w r : BitVec 32) : BitVec 32 :=
  IntOp.addi (IntOp.addi (IntOp.muli (refL l r) 1024#32) (IntOp.muli (refH h r) 32#32)) (refW w r)

theorem refL_eq : ∀ (l : Fin 8) (r : Fin 27), refL (BitVec.ofNat 32 l.val) (BitVec.ofNat 32 r.val) = BitVec.ofNat 32 (clampN 4 (l.val / 2) (r.val / 9)) := by
  decide +kernel
theorem refH_eq : ∀ (h : Fin 256) (r : Fin 27), refH (BitVec.ofNat 32 h.val) (BitVec.ofNat 32 r.val) = BitVec.ofNat 32 (clampN 32 (h.val / 8) (r.val / 3 % 3)) := by
  decide +kernel
theorem refW_eq : ∀ (w : Fin 256) (r : Fin 27), refW (BitVec.ofNat 32 w.val) (BitVec.ofNat 32 r.val) = BitVec.ofNat 32 (clampN 32 (w.val / 8) (r.val % 3)) := by
  decide +kernel

/-- Words of a layer, a row and a column make the word of the cell. -/
theorem cell_words (a b c : ℕ) : IntOp.addi (IntOp.addi (IntOp.muli (BitVec.ofNat 32 a) 1024#32) (IntOp.muli (BitVec.ofNat 32 b) 32#32)) (BitVec.ofNat 32 c)
    = BitVec.ofNat 32 ((a * 32 + b) * 32 + c) := by
  show BitVec.ofNat 32 a * BitVec.ofNat 32 1024 + BitVec.ofNat 32 b * BitVec.ofNat 32 32 + BitVec.ofNat 32 c = _
  rw [← BitVec.ofNat_mul, ← BitVec.ofNat_mul, ← BitVec.ofNat_add, ← BitVec.ofNat_add]
  exact congrArg _ (by omega)

theorem refCell_eq (l : Fin 8) (h w : Fin 256) (r : Fin 27) :
    refCell (BitVec.ofNat 32 l.val) (BitVec.ofNat 32 h.val) (BitVec.ofNat 32 w.val) (BitVec.ofNat 32 r.val) = BitVec.ofNat 32 (numOf l.val h.val w.val r.val) := by
  unfold refCell
  rw [refL_eq, refH_eq, refW_eq, cell_words]; rfl

/-! ## The kernel's words -/

/-- A quotient rounded down, as the kernel forms it. -/
def floorDiv (b c : BitVec 32) : BitVec 32 :=
  Scalar.select (IntOp.andi (IntOp.cmpi .ne (IntOp.subi (Scalar.extui (IntOp.cmpi .sgt b 0#32)) (Scalar.extui (IntOp.cmpi .slt b 0#32)))
      (IntOp.subi (Scalar.extui (IntOp.cmpi .sgt c 0#32)) (Scalar.extui (IntOp.cmpi .slt c 0#32)))) (IntOp.cmpi .ne (IntOp.remsi .vector b c) 0#32))
    (IntOp.subi (IntOp.divsi .vector b c) 1#32) (IntOp.divsi .vector b c)

/-- The divisor of a remainder, as the kernel forms it. -/
def modBy (c : BitVec 32) : BitVec 32 := Scalar.select (IntOp.cmpi .eq c 0#32) 1#32 c

/-- A remainder rounded down, as the kernel forms it. -/
def floorMod (b c : BitVec 32) : BitVec 32 :=
  Scalar.select (IntOp.andi (IntOp.xori (IntOp.cmpi .slt (IntOp.remsi .vector b (modBy c)) 0#32) (IntOp.cmpi .slt (modBy c) 0#32))
      (IntOp.cmpi .ne (IntOp.remsi .vector b (modBy c)) 0#32))
    (IntOp.addi (IntOp.remsi .vector b (modBy c)) (modBy c)) (IntOp.remsi .vector b (modBy c))

/-- The neighbour's layer. -/
def kerL (a r : BitVec 32) : BitVec 32 :=
  IntOp.minsi 3#32 (IntOp.maxsi 0#32 (IntOp.addi a (IntOp.subi (floorDiv r 9#32) 1#32)))
/-- The neighbour's row. -/
def kerH (a r : BitVec 32) : BitVec 32 :=
  IntOp.minsi 31#32 (IntOp.maxsi 0#32 (IntOp.addi a (IntOp.subi (floorMod (floorDiv r 3#32) 3#32) 1#32)))
/-- The neighbour's column. -/
def kerW (w r : BitVec 32) : BitVec 32 :=
  IntOp.minsi 31#32 (IntOp.maxsi 0#32 (IntOp.addi (floorDiv w 8#32) (IntOp.subi (floorMod r 3#32) 1#32)))
/-- The neighbour's number. -/
def kerCell (a0 a1 w r : BitVec 32) : BitVec 32 :=
  IntOp.addi (IntOp.addi (IntOp.muli (kerL a0 r) 1024#32) (IntOp.muli (kerH a1 r) 32#32)) (kerW w r)

theorem kerL_eq : ∀ (a : Fin 4) (r : Fin 27), kerL (BitVec.ofNat 32 a.val) (BitVec.ofNat 32 r.val) = BitVec.ofNat 32 (clampN 4 a.val (r.val / 9)) := by
  decide +kernel
theorem kerH_eq : ∀ (a : Fin 32) (r : Fin 27), kerH (BitVec.ofNat 32 a.val) (BitVec.ofNat 32 r.val) = BitVec.ofNat 32 (clampN 32 a.val (r.val / 3 % 3)) := by
  decide +kernel
theorem kerW_eq : ∀ (w : Fin 256) (r : Fin 27), kerW (BitVec.ofNat 32 w.val) (BitVec.ofNat 32 r.val) = BitVec.ofNat 32 (clampN 32 (w.val / 8) (r.val % 3)) := by
  decide +kernel

theorem kerCell_eq (l : Fin 8) (h w : Fin 256) (r : Fin 27) :
    kerCell (BitVec.ofNat 32 (l.val / 2)) (BitVec.ofNat 32 (h.val / 8)) (BitVec.ofNat 32 w.val) (BitVec.ofNat 32 r.val) = BitVec.ofNat 32 (numOf l.val h.val w.val r.val) := by
  unfold kerCell
  rw [kerL_eq ⟨l.val / 2, by omega⟩, kerH_eq ⟨h.val / 8, by omega⟩, kerW_eq, cell_words]; rfl

/-- The word of a column's cell. -/
theorem floorDiv_col : ∀ w : Fin 256, floorDiv (BitVec.ofNat 32 w.val) 8#32 = BitVec.ofNat 32 (w.val / 8) := by
  decide +kernel

end Cert.Cell
-- ==== Proof.Pixel.lean ====
module

public import Idealize.ShloMosaic.PureOps.Ideal.Laws
public import Idealize.ShloMosaic.Lib.IdealHost

@[expose] public section

noncomputable section

namespace Cert.Pixel

open Idealize.ShloMosaic
open scoped BigOperators

/-! ## Scores -/

/-- A pixel's score against a centre, as the kernel forms it. -/
def scoreK (f g : Fin 6 → EReal) : EReal :=
  ((((((0 - ∑ k, g k * g k) - ∑ k, f k * f k) + f 0 * (g 0 + g 0)) + f 1 * (g 1 + g 1)) + f 2 * (g 2 + g 2))
    + f 3 * (g 3 + g 3)) + f 4 * (g 4 + g 4) + f 5 * (g 5 + g 5)

/-- A pixel's data: its features and one. -/
def datum (f : Fin 6 → EReal) (c : Fin 7) : EReal := if h : c.val < 6 then f ⟨c.val, h⟩ else 1

/-- Minus the squared distance. -/
def scoreR (f g : Fin 6 → EReal) : EReal := -∑ k, (f k - g k) * (f k - g k)

/-- The squared distance of real numbers, negated. -/
def dist (f g : Fin 6 → ℝ) : ℝ := -∑ k, (f k - g k) * (f k - g k)

theorem scoreR_real (f g : Fin 6 → ℝ) : scoreR (fun k => (f k : EReal)) (fun k => (g k : EReal)) = (dist f g : EReal) := by
  unfold scoreR dist
  simp only [Fin.sum_univ_six]
  norm_cast

theorem scoreK_real (f g : Fin 6 → ℝ) : scoreK (fun k => (f k : EReal)) (fun k => (g k : EReal)) = (dist f g : EReal) := by
  unfold scoreK dist
  simp only [Fin.sum_univ_six]
  rw [← EReal.coe_zero]
  norm_cast
  ring

/-! ## Shares -/

variable {n : ℕ}

/-- A share of real scores. -/
def soft (s : Fin n → ℝ) (r : Fin n) : ℝ := Real.exp (s r) / ∑ k, Real.exp (s k)

theorem sum_exp_pos (s : Fin n → ℝ) (r : Fin n) : 0 < ∑ k, Real.exp (s k) :=
  Finset.sum_pos (fun k _ => Real.exp_pos _) ⟨r, Finset.mem_univ r⟩

theorem coe_sum (u : Fin n → ℝ) : (∑ k, (u k : EReal)) = ((∑ k, u k : ℝ) : EReal) := by
  induction (Finset.univ : Finset (Fin n)) using Finset.cons_induction with
  | empty => simp
  | cons a t ha ih => rw [Finset.sum_cons, Finset.sum_cons, ih, EReal.coe_add]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- An exponential times one over the sum. -/
theorem share_mul (s : Fin n → ℝ) (r : Fin n) :
    Ideal.exp (s r : EReal) * Ideal.div 1 (∑ k, Ideal.exp (s k : EReal)) = (soft s r : EReal) := by
  have hp := sum_exp_pos s r
  simp only [Ideal.exp_coe]
  rw [coe_sum, ← EReal.coe_one, div_coe _ _ hp.ne', ← EReal.coe_mul]
  unfold soft
  congr 1
  ring

/-- An exponential over the sum, both shifted. -/
theorem share_shift (s : Fin n → ℝ) (M : ℝ) (r : Fin n) :
    Ideal.div (Ideal.exp ((s r : EReal) - (M : EReal))) (∑ k, Ideal.exp ((s k : EReal) - (M : EReal))) = (soft s r : EReal) := by
  have hp := sum_exp_pos s r
  have hq := sum_exp_pos (fun k => s k - M) r
  simp only [← EReal.coe_sub, Ideal.exp_coe]
  rw [coe_sum, div_coe _ _ hq.ne']
  unfold soft
  congr 1
  simp only [Real.exp_sub]
  rw [← Finset.sum_div, div_div_div_cancel_right₀ (Real.exp_pos M).ne']

theorem soft_pos (s : Fin n → ℝ) (r : Fin n) : 0 < soft s r := div_pos (Real.exp_pos _) (sum_exp_pos s r)

/-! ## The largest -/

/-- The largest of real numbers, from below all of them, is one of them. -/
theorem fold_max_mem (s : Fin (n + 1) → EReal) : ∃ i, Finset.univ.fold max ⊥ s = s i ∧ ∀ r, s r ≤ s i := by
  obtain ⟨i, -, hi⟩ := Finset.exists_max_image Finset.univ s ⟨0, Finset.mem_univ _⟩
  refine ⟨i, le_antisymm ?_ ?_, fun r => hi r (Finset.mem_univ r)⟩
  · exact (Finset.fold_max_le _).2 ⟨bot_le, fun r hr => hi r hr⟩
  · exact (Finset.le_fold_max _).2 (Or.inr ⟨i, Finset.mem_univ i, le_rfl⟩)

/-- The first largest. -/
def First (p : Fin n → EReal) (i : Fin n) : Prop := (∀ r, p r ≤ p i) ∧ ∀ r, r < i → p r < p i

theorem minsi_ofNat (a b : ℕ) (ha : a < 2 ^ 31) (hb : b < 2 ^ 31) :
    IntOp.minsi (BitVec.ofNat 32 a) (BitVec.ofNat 32 b) = BitVec.ofNat 32 (min a b) := by
  have e : ∀ c, c < 2 ^ 31 → (BitVec.ofNat 32 c).toInt = c := fun c hc => by
    rw [BitVec.toInt_eq_toNat_of_lt (by rw [BitVec.toNat_ofNat]; omega), BitVec.toNat_ofNat]; omega
  unfold IntOp.minsi
  by_cases h : a < b
  · rw [if_pos (by simp only [BitVec.slt, e a ha, e b hb]; simpa using h), min_eq_left h.le]
  · rw [if_neg (by simp only [BitVec.slt, e a ha, e b hb]; simpa using h), min_eq_right (not_lt.1 h)]

theorem fold_minsi [Std.Commutative (IntOp.minsi (w := 32))] [Std.Associative (IntOp.minsi (w := 32))] {ι : Type} [DecidableEq ι] (t : Finset ι) (b : ℕ) (v : ι → ℕ)
    (hb : b < 2 ^ 31) (hv : ∀ k, v k < 2 ^ 31) :
    t.fold IntOp.minsi (BitVec.ofNat 32 b) (fun k => BitVec.ofNat 32 (v k)) = BitVec.ofNat 32 (t.fold min b v) ∧ t.fold min b v < 2 ^ 31 := by
  induction t using Finset.induction with
  | empty => exact ⟨rfl, hb⟩
  | insert a s ha ih =>
    rw [Finset.fold_insert ha, Finset.fold_insert ha, ih.1]
    exact ⟨minsi_ofNat _ _ (hv a) ih.2, lt_of_le_of_lt (min_le_left _ _) (hv a)⟩

/-- The least number attaining the largest is the first largest. -/
theorem fold_first [Std.Commutative (IntOp.minsi (w := 32))] [Std.Associative (IntOp.minsi (w := 32))] (p : Fin 27 → EReal) (i : Fin 27) (h : First p i) :
    Finset.univ.fold IntOp.minsi 2147483647#32 (fun r : Fin 27 => Scalar.select (Ideal.cmp .oeq (p r) (p i)) (BitVec.ofNat 32 r.val) 27#32) = BitVec.ofNat 32 i.val := by
  have e : (fun r : Fin 27 => Scalar.select (Ideal.cmp .oeq (p r) (p i)) (BitVec.ofNat 32 r.val) 27#32)
      = fun r : Fin 27 => BitVec.ofNat 32 (if p r = p i then r.val else 27) := by
    funext r
    unfold Scalar.select
    by_cases hr : p r = p i
    · simp [Ideal.cmp, hr]
    · simp [Ideal.cmp, hr]
  rw [e]
  refine (fold_minsi Finset.univ 2147483647 _ (by decide) (fun k => by split <;> omega)).1.trans (congrArg _ ?_)
  refine le_antisymm ?_ ?_
  · exact (Finset.fold_min_le _).2 (Or.inr ⟨i, Finset.mem_univ i, by rw [if_pos rfl]⟩)
  · refine (Finset.le_fold_min _).2 ⟨by omega, fun r _ => ?_⟩
    by_cases hr : p r = p i
    · rw [if_pos hr]
      by_contra hlt
      exact absurd hr (h.2 r (Fin.lt_def.2 (not_le.1 hlt))).ne
    · rw [if_neg hr]; omega

end Cert.Pixel
-- ==== Proof.KernelAt.lean ====
module

public import proofs.«01_k».proof.Proof.BodyRun
public import proofs.«01_k».proof.Proof.Words
public import proofs.«01_k».proof.Proof.Pixel
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select
public import Idealize.ShloMosaic.Lib.Pipeline.Value

@[expose] public section

set_option maxRecDepth 16384

noncomputable section

namespace Cert.KThreeIdeal.Gen

open Idealize.ShloMosaic Cert.Cell Cert.Pixel Cert.Run
open scoped BigOperators

/-! ## The kernel's pieces at an index -/

theorem iota_col (h : S16x256.Iotas .tc 32 [1]) (j : S16x256.Idx) : iota .tc S16x256 32 [1] h j = BitVec.ofNat 32 (j 1).val := by
  simp [iota]
theorem iota_col' (h : S32x256.Iotas .tc 32 [1]) (j : S32x256.Idx) : iota .tc S32x256 32 [1] h j = BitVec.ofNat 32 (j 1).val := by
  simp [iota]
theorem iota_row' (h : S32x256.Iotas .tc 32 [0]) (j : S32x256.Idx) : iota .tc S32x256 32 [0] h j = BitVec.ofNat 32 (j 0).val := by
  simp [iota]

/-- The kernel's cell numbers at an index. -/
theorem cellIx_apply (a0 a1 : BitVec 32) (best : IVec S16x256 32) (j : S16x256.Idx) :
    cellIx (F := Ideal) a0 a1 best j = FloatOps.sitofp .f32 (kerCell a0 a1 (BitVec.ofNat 32 (j 1).val) (best j)) := by
  rw [← iota_col iota_S16x256_d1_w32 j]; rfl

/-- The repeating matrix at an index. -/
theorem expMat_apply (j : S32x256.Idx) :
    expMat (F := Ideal) j = FloatOps.sitofp .f32 (Scalar.extui (IntOp.cmpi .eq (floorDiv (BitVec.ofNat 32 (j 1).val) 8#32) (BitVec.ofNat 32 (j 0).val))) := by
  rw [← iota_col' iota_S32x256_d1_w32 j, ← iota_row' iota_S32x256_d0_w32 j]; rfl

theorem featB_apply (x : Vec Ideal S1x6x2x8x256 .f32) (c : Fin 6) (p : Fin 16) (w : Fin 256) :
    featB x (ix3 c p w) = x (ix5 0 c ⟨p.val / 8, by omega⟩ ⟨p.val % 8, by omega⟩ w) := by
  unfold featB
  refine (shapeCast_apply _ _ _ (ix4 c ⟨p.val / 8, by omega⟩ ⟨p.val % 8, by omega⟩ w) ?_).trans (shapeCast_apply _ _ _ _ ?_)
  · rw [rowMajor_val4 _ _ _ _ rfl rfl rfl, rowMajor_val3 _ _ _ rfl rfl]
    simp [ix3, ix4]; omega
  · rw [rowMajor_val4 _ _ _ _ rfl rfl rfl, rowMajor_val5 _ _ _ _ _ rfl rfl rfl rfl]
    simp [ix5, ix4]

theorem chanF_apply (f : FVec Ideal S6x16x256 .f32) (c : Fin 6) (p : Fin 16) (w : Fin 256) :
    chanF f c (ix2 p w) = f (ix3 c p w) := by
  unfold chanF
  pointwise

theorem rowB_apply (b : FVec Ideal S7x256 .f32) (c : Fin 7) (p : Fin 16) (w : Fin 256) :
    rowB b c (ix2 p w) = b (ix2 c w) := by
  unfold rowB
  pointwise

theorem sqFeat_apply (f : FVec Ideal S6x16x256 .f32) (p : Fin 16) (w : Fin 256) :
    sqFeat f (ix2 p w) = ∑ c : Fin 6, f (ix3 c p w) * f (ix3 c p w) := by
  unfold sqFeat
  pointwise

theorem bankRow_low (r : Vec Ideal S1x6x32 .f32) (c : Fin 6) (k : Fin 32) :
    bankRow r (ix2 (⟨c.val, by omega⟩ : Fin 7) k) = r (ix3 0 c k) + r (ix3 0 c k) := by
  unfold bankRow
  pointwise

theorem bankRow_last (r : Vec Ideal S1x6x32 .f32) (k : Fin 32) :
    bankRow r (ix2 (6 : Fin 7) k) = 0 - ∑ c : Fin 6, r (ix3 0 c k) * r (ix3 0 c k) := by
  unfold bankRow
  pointwise

theorem expMat_col (k : Fin 32) (w : Fin 256) : expMat (F := Ideal) (ix2 k w) = if k.val = w.val / 8 then 1 else 0 := by
  rw [expMat_apply]
  show FloatOps.sitofp (F := Ideal) .f32 (Scalar.extui (IntOp.cmpi .eq (floorDiv (BitVec.ofNat 32 w.val) 8#32) (BitVec.ofNat 32 k.val))) = _
  rw [floorDiv_col]
  have e : (BitVec.ofNat 32 (w.val / 8) == BitVec.ofNat 32 k.val) = decide (k.val = w.val / 8) := by
    rw [Bool.eq_iff_iff, beq_iff_eq, decide_eq_true_iff]
    constructor
    · intro h
      have := congrArg BitVec.toNat h
      simp only [BitVec.toNat_ofNat] at this
      omega
    · intro h; rw [h]
  show ((((Scalar.extui (BitVec.ofBool (BitVec.ofNat 32 (w.val / 8) == BitVec.ofNat 32 k.val))).toInt : ℤ) : ℝ) : EReal) = _
  rw [e]
  by_cases h : k.val = w.val / 8
  · rw [if_pos h, decide_eq_true h]
    have : (Scalar.extui (BitVec.ofBool true)).toInt = 1 := by decide
    rw [this]; norm_num
  · rw [if_neg h, decide_eq_false h]
    have : (Scalar.extui (BitVec.ofBool false)).toInt = 0 := by decide
    rw [this]; norm_num

theorem bankMid_apply (r : Vec Ideal S1x6x32 .f32) (c : Fin 7) (w : Fin 256) :
    bankMid r (ix2 c w) = bankRow r (ix2 c ⟨w.val / 8, by omega⟩) := by
  unfold bankMid
  pointwise [dot_S7x32_S32x256_S7x256_1_0_0_1_n_n]
  rw [Finset.sum_eq_single (⟨w.val / 8, by omega⟩ : Fin 32)]
  · rw [expMat_col, if_pos rfl, mul_one]
  · intro k _ hk
    rw [expMat_col, if_neg (fun e => hk (Fin.ext e)), mul_zero]
  · intro h; exact absurd (Finset.mem_univ _) h

theorem bankM_apply (b : FVec Ideal S7x256 .f32) (c : Fin 7) (w : Fin 256) :
    bankM b (ix2 c w) = b (ix2 c ⟨if w.val < 8 then w.val else w.val - 8, by split <;> omega⟩) := by
  unfold bankM
  pointwise
  by_cases h : w.val < 8
  · simp only [h, dif_pos, if_pos]
  · simp only [h, dif_neg, if_neg, not_false_eq_true]

theorem bankP_apply (b : FVec Ideal S7x256 .f32) (c : Fin 7) (w : Fin 256) :
    bankP b (ix2 c w) = b (ix2 c ⟨if w.val < 248 then w.val + 8 else w.val, by split <;> omega⟩) := by
  unfold bankP
  pointwise
  by_cases h : w.val < 248
  · simp only [h, dif_pos, if_pos]
    exact congrArg (fun z => b (ix2 c z)) (Fin.ext (by simp; omega))
  · simp only [h, dif_neg, if_neg, not_false_eq_true]
    exact congrArg (fun z => b (ix2 c z)) (Fin.ext (by simp; omega))

/-- A row of centres expanded and shifted reads the neighbour's column. -/
theorem bankSh_apply (r : Vec Ideal S1x6x32 .f32) (c : Fin 7) (w : Fin 256) (n : ℕ) :
    bankSh (bankMid r) (n % 3) (ix2 c w) = bankRow r (ix2 c ⟨colOf w.val n, colOf_lt _ _⟩) := by
  have hn : n % 3 = 0 ∨ n % 3 = 1 ∨ n % 3 = 2 := by omega
  have hw := w.isLt
  rcases hn with e | e | e
  · rw [e]; show bankM (bankMid r) (ix2 c w) = _
    rw [bankM_apply, bankMid_apply]
    refine congrArg (fun z => bankRow r (ix2 c z)) (Fin.ext ?_)
    show (if w.val < 8 then w.val else w.val - 8) / 8 = colOf w.val n
    unfold colOf clampN; rw [e]; split <;> omega
  · rw [e]; show bankMid r (ix2 c w) = _
    rw [bankMid_apply]
    refine congrArg (fun z => bankRow r (ix2 c z)) (Fin.ext ?_)
    show w.val / 8 = colOf w.val n
    unfold colOf clampN; rw [e]; omega
  · rw [e]; show bankP (bankMid r) (ix2 c w) = _
    rw [bankP_apply, bankMid_apply]
    refine congrArg (fun z => bankRow r (ix2 c z)) (Fin.ext ?_)
    show (if w.val < 248 then w.val + 8 else w.val) / 8 = colOf w.val n
    unfold colOf clampN; rw [e]; split <;> omega

theorem scoreE_apply (f : FVec Ideal S6x16x256 .f32) (q : FVec Ideal S16x256 .f32) (b : FVec Ideal S7x256 .f32) (j : S16x256.Idx) :
    scoreE f q b j = Ideal.exp (((((((rowB b 6 j - q j) + chanF f 0 j * rowB b 0 j) + chanF f 1 j * rowB b 1 j) + chanF f 2 j * rowB b 2 j)
      + chanF f 3 j * rowB b 3 j) + chanF f 4 j * rowB b 4 j) + chanF f 5 j * rowB b 5 j) := rfl

/-- The exponential of a score at a pixel. -/
theorem eAt_apply (x : Vec Ideal S1x6x2x8x256 .f32) (rows : Fin 9 → Vec Ideal S1x6x32 .f32) (r : Fin 27) (p : Fin 16) (w : Fin 256) :
    eAt x rows r (ix2 p w) = Ideal.exp (scoreK (fun c => x (ix5 0 c ⟨p.val / 8, by omega⟩ ⟨p.val % 8, by omega⟩ w))
      (fun c => rows ⟨r.val / 3, by omega⟩ (ix3 0 c ⟨colOf w.val r.val, colOf_lt _ _⟩))) := by
  have hr : ∀ c : Fin 7, rowB (bankSh (bankMid (rows ⟨r.val / 3, by omega⟩)) (r.val % 3)) c (ix2 p w)
      = bankRow (rows ⟨r.val / 3, by omega⟩) (ix2 c ⟨colOf w.val r.val, colOf_lt _ _⟩) := fun c => by rw [rowB_apply, bankSh_apply]
  have hc : ∀ c : Fin 6, chanF (featB x) c (ix2 p w) = x (ix5 0 c ⟨p.val / 8, by omega⟩ ⟨p.val % 8, by omega⟩ w) := fun c => by rw [chanF_apply, featB_apply]
  have hq : sqFeat (featB x) (ix2 p w) = ∑ c : Fin 6, x (ix5 0 c ⟨p.val / 8, by omega⟩ ⟨p.val % 8, by omega⟩ w) * x (ix5 0 c ⟨p.val / 8, by omega⟩ ⟨p.val % 8, by omega⟩ w) := by
    rw [sqFeat_apply]; exact Finset.sum_congr rfl fun c _ => by rw [featB_apply]
  unfold eAt
  rw [scoreE_apply]
  simp only [hr, hc, hq]
  rw [bankRow_last]
  have hl := bankRow_low (rows ⟨r.val / 3, by omega⟩)
  rw [show bankRow (rows ⟨r.val / 3, by omega⟩) (ix2 0 ⟨colOf w.val r.val, colOf_lt _ _⟩) = _ from hl 0 _,
    show bankRow (rows ⟨r.val / 3, by omega⟩) (ix2 1 ⟨colOf w.val r.val, colOf_lt _ _⟩) = _ from hl 1 _,
    show bankRow (rows ⟨r.val / 3, by omega⟩) (ix2 2 ⟨colOf w.val r.val, colOf_lt _ _⟩) = _ from hl 2 _,
    show bankRow (rows ⟨r.val / 3, by omega⟩) (ix2 3 ⟨colOf w.val r.val, colOf_lt _ _⟩) = _ from hl 3 _,
    show bankRow (rows ⟨r.val / 3, by omega⟩) (ix2 4 ⟨colOf w.val r.val, colOf_lt _ _⟩) = _ from hl 4 _,
    show bankRow (rows ⟨r.val / 3, by omega⟩) (ix2 5 ⟨colOf w.val r.val, colOf_lt _ _⟩) = _ from hl 5 _]
  rfl

/-! ## Shares at an index -/

theorem sumUp_apply (n : ℕ) : ∀ (a : FVec Ideal S16x256 .f32) (g : Fin n → FVec Ideal S16x256 .f32) (j : S16x256.Idx), sumUp n a g j = a j + ∑ k, g k j := by
  induction n with
  | zero => intro a g j; show a j = _; simp
  | succ n ih =>
    intro a g j
    show sumUp n (addf a (g (fst0 n))) (fun k => g (nxt k)) j = _
    rw [ih, Fin.sum_univ_succ, ← add_assoc]
    rfl

theorem share_apply (g : Fin 27 → FVec Ideal S16x256 .f32) (r : Fin 27) (j : S16x256.Idx) :
    share g r j = g r j * Ideal.div 1 (∑ k, g k j) := by
  unfold share invE
  show shapeCast S16x256 (shapeCast S1x16x256 (g r) _) _ j * Ideal.div (Ideal.ofBits .f32 0x3F800000#32) (sumUp 27 _ g j) = _
  rw [Ideal.ofBits_one_f32, sumUp_apply]
  have e : shapeCast S16x256 (shapeCast S1x16x256 (g r) shapeCasts_S16x256_S1x16x256) shapeCasts_S1x16x256_S16x256 j = g r j := by
    obtain ⟨p, w, rfl⟩ : ∃ (p : Fin 16) (w : Fin 256), j = ix2 p w := ⟨j 0, j 1, (ix2_eta j).symm⟩
    pointwise
  rw [e]
  have z : (broadcast S16x256 (Scalar.ofBits .f32 0x00000000#32) : FVec Ideal S16x256 .f32) j = 0 := by
    show Ideal.ofBits .f32 0x00000000#32 = 0
    simp [Ideal.ofBits, Ideal.ieee]
  rw [z, zero_add]

/-- Shares above minus one: what is kept after some of them is the first largest of these. -/
theorem kept_first (g : Fin 27 → FVec Ideal S16x256 .f32) (j : S16x256.Idx) (hp : ∀ r, 0 < share g r j) (n : ℕ) (hn : n < 27) :
    ∃ i : Fin 27, (kept g (n + 1)).1 j = share g i j ∧ (kept g (n + 1)).2 j = BitVec.ofNat 32 i.val
      ∧ (∀ r : Fin 27, r.val < n + 1 → share g r j ≤ share g i j) ∧ ∀ r, r < i → share g r j < share g i j := by
  have step : ∀ r : Fin 27, (kept g (r.val + 1)).1 j = (if (kept g r.val).1 j < share g r j then share g r j else (kept g r.val).1 j)
      ∧ (kept g (r.val + 1)).2 j = (if (kept g r.val).1 j < share g r j then BitVec.ofNat 32 r.val else (kept g r.val).2 j) := by
    intro r
    rw [kept_succ]
    show Scalar.select (Ideal.cmp .ogt (share g r j) ((kept g r.val).1 j)) _ _ = _ ∧ Scalar.select (Ideal.cmp .ogt (share g r j) ((kept g r.val).1 j)) _ _ = _
    by_cases h : (kept g r.val).1 j < share g r j
    · simp [Scalar.select, Ideal.cmp, h]; rfl
    · simp [Scalar.select, Ideal.cmp, h]
  induction n with
  | zero =>
    have h0 : (kept g 0).1 j < share g 0 j := by
      show Ideal.ofBits .f32 0xBF800000#32 < _
      refine lt_trans ?_ (hp 0)
      have : Ideal.ofBits .f32 0xBF800000#32 = ((-1 : ℝ) : EReal) := by
        simp [Ideal.ofBits, Ideal.ieee]; norm_cast; norm_num
      rw [this]; exact_mod_cast (by norm_num : (-1 : ℝ) < 0)
    have s := step 0
    refine ⟨0, s.1.trans (if_pos h0), s.2.trans (if_pos h0), fun r hr => ?_, fun r hr => absurd hr (Fin.not_lt_zero r)⟩
    have : r = 0 := Fin.ext (by simpa using hr)
    rw [this]
  | succ n ih =>
    obtain ⟨i, h1, h2, h3, h4⟩ := ih (by omega)
    have s := step ⟨n + 1, hn⟩
    dsimp only at s
    rw [h1, h2] at s
    by_cases h : share g i j < share g ⟨n + 1, hn⟩ j
    · rw [if_pos h, if_pos h] at s
      refine ⟨⟨n + 1, hn⟩, s.1, s.2, fun r hr => ?_, fun r hr => lt_of_le_of_lt (h3 r hr) h⟩
      by_cases e : r.val < n + 1
      · exact ((h3 r e).trans_lt h).le
      · have : r = ⟨n + 1, hn⟩ := Fin.ext (by show r.val = n + 1; omega)
        rw [this]
    · rw [if_neg h, if_neg h] at s
      refine ⟨i, s.1, s.2, fun r hr => ?_, h4⟩
      by_cases e : r.val < n + 1
      · exact h3 r e
      · have : r = ⟨n + 1, hn⟩ := Fin.ext (by show r.val = n + 1; omega)
        rw [this]; exact not_lt.1 h

/-- The number kept at the end is the first largest share's. -/
theorem kept_all (g : Fin 27 → FVec Ideal S16x256 .f32) (j : S16x256.Idx) (hp : ∀ r, 0 < share g r j) :
    ∃ i : Fin 27, (kept g 27).2 j = BitVec.ofNat 32 i.val ∧ First (fun r => share g r j) i := by
  obtain ⟨i, -, h2, h3, h4⟩ := kept_first g j hp 26 (by decide)
  exact ⟨i, h2, fun r => h3 r r.isLt, h4⟩

/-! ## The blocks at an index -/

theorem asBlock_apply (a : FVec Ideal S16x256 .f32) (p q : Fin 1) (l : Fin 2) (h : Fin 8) (w : Fin 256) :
    asBlock a (ix5 p q l h w) = a (ix2 ⟨l.val * 8 + h.val, by omega⟩ w) := by
  unfold asBlock
  refine (shapeCast_apply _ _ _ (ix3 l h w) ?_).trans (shapeCast_apply _ _ _ _ ?_)
  · rw [rowMajor_val5 _ _ _ _ _ rfl rfl rfl rfl, rowMajor_val3 _ _ _ rfl rfl]
    simp [ix3, ix5]
  · rw [rowMajor_val3 _ _ _ rfl rfl, rowMajor_val2 _ _ rfl]
    simp [ix3, ix2]; omega

theorem assocV_apply (g : Fin 27 → FVec Ideal S16x256 .f32) (r : Fin 27) (l : Fin 2) (h : Fin 8) (w : Fin 256) :
    assocV g (ix5 0 r l h w) = share g r (ix2 ⟨l.val * 8 + h.val, by omega⟩ w) := by
  unfold assocV
  refine Eq.trans ?_ (asBlock_apply (share g r) 0 0 l h w)
  refine congrArg (asBlock (share g r)) (funext fun a => Fin.ext ?_)
  fin_cases a <;> simp [Rect.unitLocal, ix5]

theorem fidxV_apply (i : grid0.Coords) (g : Fin 27 → FVec Ideal S16x256 .f32) (l : Fin 2) (h : Fin 8) (w : Fin 256) :
    fidxV i g (ix5 0 0 l h w) = FloatOps.sitofp (F := Ideal) .f32 (kerCell (BitVec.ofNat 32 (i 0).val) (BitVec.ofNat 32 (i 1).val) (BitVec.ofNat 32 w.val)
      ((kept g 27).2 (ix2 ⟨l.val * 8 + h.val, by omega⟩ w))) := by
  unfold fidxV
  rw [asBlock_apply, cellIx_apply]; rfl

end Cert.KThreeIdeal.Gen
-- ==== Proof.Arrays.lean ====
module

public import proofs.«01_k».proof.Proof.Launch
public import proofs.«01_k».proof.Proof.KernelAt
public import Idealize.ShloMosaic.Lib.Pipeline.ValueKit

@[expose] public section

set_option maxRecDepth 16384

noncomputable section

namespace Cert.KThreeIdeal.Gen

open Idealize.ShloMosaic Idealize.ShloMosaic.TcCoe Cert.Cell Cert.Pixel
open Idealize.ShloMosaic.Pipeline (Dat Cfg Window)
open scoped BigOperators

/-- The layer of a pixel of block `t`. -/
def pixL (t : Fin cfg0.N) (l : Fin 2) : Fin 8 := ⟨(grid0.coords t 0).val * 2 + l.val, by
  have : (grid0.coords t 0).val < 4 := (grid0.coords t 0).isLt
  omega⟩
/-- The row of a pixel of block `t`. -/
def pixH (t : Fin cfg0.N) (h : Fin 8) : Fin 256 := ⟨(grid0.coords t 1).val * 8 + h.val, by
  have : (grid0.coords t 1).val < 32 := (grid0.coords t 1).isLt
  omega⟩

theorem at_0 : ∀ t : Fin cfg0.N, win0_0.index t = ![0, 0, (grid0.coords t 0).val, (grid0.coords t 1).val, 0] :=
  (by decide +kernel : ∀ t : Fin grid0.N, win0_0.index t = ![0, 0, (grid0.coords t 0).val, (grid0.coords t 1).val, 0])
theorem at_1 : ∀ t : Fin cfg0.N, win0_1.index t = ![0, 0, 0] :=
  (by decide +kernel : ∀ t : Fin grid0.N, win0_1.index t = ![0, 0, 0])
theorem at_2 : ∀ t : Fin cfg0.N, win0_2.index t = ![0, 0, (grid0.coords t 0).val, (grid0.coords t 1).val, 0] :=
  (by decide +kernel : ∀ t : Fin grid0.N, win0_2.index t = ![0, 0, (grid0.coords t 0).val, (grid0.coords t 1).val, 0])
theorem at_3 : ∀ t : Fin cfg0.N, win0_3.index t = ![0, 0, (grid0.coords t 0).val, (grid0.coords t 1).val, 0] :=
  (by decide +kernel : ∀ t : Fin grid0.N, win0_3.index t = ![0, 0, (grid0.coords t 0).val, (grid0.coords t 1).val, 0])

theorem off1_eq : ∀ (t : Fin cfg0.N) (k : Fin 9), k0_off1 (grid0.coords t) (k0_off1_at k).1 (k0_off1_at k).2
    = ![clampN 4 (grid0.coords t 0).val (k.val / 3) * 32 + clampN 32 (grid0.coords t 1).val (k.val % 3), 0, 0] :=
  (by decide +kernel : ∀ (t : Fin grid0.N) (k : Fin 9), k0_off1 (grid0.coords t) (k0_off1_at k).1 (k0_off1_at k).2
    = ![clampN 4 (grid0.coords t 0).val (k.val / 3) * 32 + clampN 32 (grid0.coords t 1).val (k.val % 3), 0, 0])

variable (m : (ℓ : Loc nD τ sig) → Buf (Elt Ideal) ℓ)

theorem xB_apply (c : Dev nD) (t : Fin cfg0.N) (k : Fin 6) (l : Fin 2) (h : Fin 8) (w : Fin 256) :
    xB m c t (ix5 0 k l h w) = m ((c.tc : Thread nD τ).loc main_arg0) (ix5 0 k (pixL t l) (pixH t h) w) := by
  unfold xB
  blk_simp [iblk, at_0]
  refine congrArg (m ((c.tc : Thread nD τ).loc main_arg0)) ?_
  blk_ext [at_0, pixL, pixH, ix5]

theorem accB_apply (c : Dev nD) (t : Fin cfg0.N) (j : S128x8x32.Idx) :
    accB m c t j = m ((c.tc : Thread nD τ).loc main_arg1) j := by
  unfold accB
  blk_simp [iblk, at_1]
  refine congrArg (m ((c.tc : Thread nD τ).loc main_arg1)) ?_
  blk_ext [at_1]

theorem arr_shares (c : Dev nD) (G : S1x27x8x256x256.Idx → EReal)
    (hG : ∀ (t : Fin cfg0.N) (r : Fin 27) (l : Fin 2) (h : Fin 8) (w : Fin 256), assocV (gB m c t) (ix5 0 r l h w) = G (ix5 0 r (pixL t l) (pixH t h) w)) :
    (dats m 0 c).arrAt 2 cfg0.N = G := by
  refine (dats m 0 c).arrAt_eq_of_covers 2 _ (by decide +kernel) fun t hf y => ?_
  blk_simp
  rw [after_2]
  obtain ⟨a, r, l, h, w, rfl⟩ : ∃ (a : Fin 1) (r : Fin 27) (l : Fin 2) (h : Fin 8) (w : Fin 256), y = ix5 a r l h w := ⟨y 0, y 1, y 2, y 3, y 4, (ix5_eta y).symm⟩
  obtain rfl : a = 0 := Subsingleton.elim _ _
  refine (hG t r l h w).trans (congrArg G ?_)
  blk_ext [at_2, pixL, pixH, ix5]

theorem arr_numbers (c : Dev nD) (G : S1x1x8x256x256.Idx → EReal)
    (hG : ∀ (t : Fin cfg0.N) (l : Fin 2) (h : Fin 8) (w : Fin 256), fidxV (grid0.coords t) (gB m c t) (ix5 0 0 l h w) = G (ix5 0 0 (pixL t l) (pixH t h) w)) :
    (dats m 0 c).arrAt 3 cfg0.N = G := by
  refine (dats m 0 c).arrAt_eq_of_covers 3 _ (by decide +kernel) fun t hf y => ?_
  blk_simp
  rw [after_3]
  obtain ⟨a, r, l, h, w, rfl⟩ : ∃ (a : Fin 1) (r : Fin 1) (l : Fin 2) (h : Fin 8) (w : Fin 256), y = ix5 a r l h w := ⟨y 0, y 1, y 2, y 3, y 4, (ix5_eta y).symm⟩
  obtain rfl : a = 0 := Subsingleton.elim _ _
  obtain rfl : r = 0 := Subsingleton.elim _ _
  refine (hG t l h w).trans (congrArg G ?_)
  blk_ext [at_3, pixL, pixH, ix5]

theorem arr_centres (c : Dev nD) : (dats m 0 c).arrAt 4 cfg0.N = ctr m c := by
  refine (dats m 0 c).arrAt_eq_of_after_last 4 ⟨127, by have : cfg0.N = 128 := N_0; omega⟩ (by decide +kernel) _ fun j => ?_
  rw [after_4]
  rfl

/-! ## A pixel's features and its neighbours' centres -/

/-- The features of a pixel. -/
def fAt (X : S1x6x8x256x256.Idx → EReal) (l : Fin 8) (h w : Fin 256) (k : Fin 6) : EReal := X (ix5 0 k l h w)

/-- The centre of a pixel's neighbour. -/
def gAt (S : S128x6x32.Idx → EReal) (l : Fin 8) (h w : Fin 256) (r : Fin 27) (k : Fin 6) : EReal :=
  S (ix3 ⟨rowOf l.val h.val r.val, rowOf_lt _ _ _⟩ k ⟨colOf w.val r.val, colOf_lt _ _⟩)

theorem rowsAt_apply (t : Fin cfg0.N) (S : Vec Ideal S128x6x32 .f32) (l : Fin 2) (h : Fin 8) (w : Fin 256) (r : Fin 27) (k : Fin 6) (q : Fin 32) :
    rowsAt (grid0.coords t) S ⟨r.val / 3, by omega⟩ (ix3 0 k q) = S (ix3 ⟨rowOf (pixL t l).val (pixH t h).val r.val, rowOf_lt _ _ _⟩ k q) := by
  unfold rowsAt
  refine congrArg S (funext fun a => Fin.ext ?_)
  have e := congrFun (off1_eq t ⟨r.val / 3, by omega⟩) a
  show k0_off1 (grid0.coords t) (k0_off1_at _).1 (k0_off1_at _).2 a + 1 * (ix3 (n0 := 1) 0 k q a).val = _
  rw [e]
  have e1 : (pixL t l).val / 2 = (grid0.coords t 0).val := by unfold pixL; dsimp only; omega
  have e2 : (pixH t h).val / 8 = (grid0.coords t 1).val := by unfold pixH; dsimp only; omega
  have e3 : r.val / 3 / 3 = r.val / 9 := by omega
  fin_cases a
  · show clampN 4 _ (r.val / 3 / 3) * 32 + clampN 32 _ (r.val / 3 % 3) + 1 * 0 = rowOf _ _ _
    unfold rowOf; rw [e1, e2, e3]; omega
  · show 0 + 1 * k.val = k.val
    omega
  · show 0 + 1 * q.val = q.val
    omega

theorem ctrS_eq (c : Dev nD) : ctrS m c = ctr m c := shapeCast_self _ _

/-- The exponentials of block `t` at a pixel. -/
theorem gB_apply (c : Dev nD) (t : Fin cfg0.N) (r : Fin 27) (l : Fin 2) (h : Fin 8) (w : Fin 256) :
    gB m c t r (ix2 ⟨l.val * 8 + h.val, by omega⟩ w)
      = Ideal.exp (scoreK (fAt (m ((c.tc : Thread nD τ).loc main_arg0)) (pixL t l) (pixH t h) w) (gAt (ctr m c) (pixL t l) (pixH t h) w r)) := by
  unfold gB
  rw [eAt_apply, ctrS_eq]
  refine congrArg Ideal.exp (congrArg₂ scoreK (funext fun k => ?_) (funext fun k => rowsAt_apply t (ctr m c) l h w r k _))
  have e1 : (⟨(l.val * 8 + h.val) / 8, by omega⟩ : Fin 2) = l := Fin.ext (by show (l.val * 8 + h.val) / 8 = l.val; omega)
  have e2 : (⟨(l.val * 8 + h.val) % 8, by omega⟩ : Fin 8) = h := Fin.ext (by show (l.val * 8 + h.val) % 8 = h.val; omega)
  show xB m c t (ix5 0 k ⟨(l.val * 8 + h.val) / 8, _⟩ ⟨(l.val * 8 + h.val) % 8, _⟩ w) = _
  rw [e1, e2, xB_apply]; rfl

/-- A quotient of sums at an index. -/
def quot (A : S128x8x32.Idx → EReal) (a : Fin 128) (b : Fin 6) (d : Fin 32) : EReal :=
  Ideal.div (A (ix3 a ⟨b.val, by omega⟩ d)) (A (ix3 a 6 d) + Ideal.ofBits .f32 0x2EDBE6FF#32)

/-- The centres at an index. -/
theorem ctr_apply (c : Dev nD) (j : S128x6x32.Idx) :
    ctr m c j = quot (m ((c.tc : Thread nD τ).loc main_arg1)) (j 0) (j 1) (j 2) := by
  unfold ctr spfV centreV
  obtain ⟨a, b, d, rfl⟩ : ∃ (a : Fin 128) (b : Fin 6) (d : Fin 32), j = ix3 a b d := ⟨j 0, j 1, j 2, (ix3_eta j).symm⟩
  pointwise
  refine congrArg₂ (fun u v => Ideal.div u (v + Ideal.ofBits .f32 0x2EDBE6FF#32)) ?_ ?_
  · refine (accB_apply m c t0 _).trans (congrArg (m ((c.tc : Thread nD τ).loc main_arg1)) (funext fun e => Fin.ext ?_))
    fin_cases e <;> simp [ix3]
  · refine (accB_apply m c t0 _).trans (congrArg (m ((c.tc : Thread nD τ).loc main_arg1)) (funext fun e => Fin.ext ?_))
    fin_cases e <;> simp [ix3]

end Cert.KThreeIdeal.Gen
-- ==== Proof.RefAt.lean ====
module

public import proofs.«01_k».proof.Proof.Gen.RThreeIdeal.Read
public import proofs.«01_k».proof.Proof.Words
public import proofs.«01_k».proof.Proof.Pixel
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select
public import Idealize.ShloMosaic.Lib.Pipeline.Value

@[expose] public section

set_option maxRecDepth 16384

noncomputable section

namespace Cert.RThreeIdeal.Read

open Cert.RThreeIdeal Cert.RThreeIdeal.Gen Idealize.ShloMosaic Idealize.ShloMosaic.TcCoe Cert.Cell Cert.Pixel
open scoped BigOperators

variable (x0 : S1x6x8x256x256.Idx → EReal) (x1 : S128x8x32.Idx → EReal)

/-! ## The reference at an index -/

theorem v5_at (a : Fin 128) (b : Fin 6) (d : Fin 32) : val_main_v5 (F := Ideal) x1 (ix3 a b d)
    = Ideal.div (x1 (ix3 a ⟨b.val, by omega⟩ d)) (x1 (ix3 a 6 d) + Ideal.ofBits .f32 0x2EDBE6FF#32) := by
  unfold val_main_v5 val_main_v0 val_main_v4 val_main_v3 val_main_v1 val_main_v2 val_main_cst
  pointwise

/-- The number of a neighbour's cell. -/
theorem v47_at (r : Fin 27) (l : Fin 8) (h w : Fin 256) :
    val_main_v47 (F := Ideal) (ix4 r l h w) = BitVec.ofNat 32 (numOf l.val h.val w.val r.val) := by
  rw [← refCell_eq]; rfl

/-- The table's columns are the cells. -/
theorem v49_at (k : Fin 6) (n : Fin 4096) : val_main_v49 (F := Ideal) x1 (ix2 k n)
    = val_main_v5 (F := Ideal) x1 (ix3 ⟨n.val / 32, by omega⟩ k ⟨n.val % 32, by omega⟩) := by
  rw [val_main_v49_apply, val_main_v48_apply]
  refine congrArg (val_main_v5 (F := Ideal) x1) (funext fun a => Fin.ext ?_)
  fin_cases a
  · show (k.val * 4096 + n.val) / 32 % 128 = n.val / 32
    omega
  · show (k.val * 4096 + n.val) / 4096 = k.val
    omega
  · show (k.val * 4096 + n.val) % 32 = n.val % 32
    omega

/-- The gathered centre of a neighbour. -/
theorem v51_at (k : Fin 6) (r : Fin 27) (l : Fin 8) (h w : Fin 256) : val_main_v51 (F := Ideal) x1 (ix5 k r l h w)
    = val_main_v5 (F := Ideal) x1 (ix3 ⟨rowOf l.val h.val r.val, rowOf_lt _ _ _⟩ k ⟨colOf w.val r.val, colOf_lt _ _⟩) := by
  have hr := rowOf_lt l.val h.val r.val
  have hc := colOf_lt w.val r.val
  have hn : numOf l.val h.val w.val r.val < 4096 := by unfold numOf; omega
  have e : gather_S6x4096_S27x8x256x256x1_S6x27x8x256x256_0_1_n_n_1_4_61.operandIdx (ix5 k r l h w) (val_main_v50 (F := Ideal))
      = ix2 k ⟨numOf l.val h.val w.val r.val, hn⟩ := by
    funext a
    refine Fin.ext ?_
    fin_cases a
    · show 0 + 0 + k.val = k.val
      omega
    · show min (val_main_v50 (F := Ideal) (gather_S6x4096_S27x8x256x256x1_S6x27x8x256x256_0_1_n_n_1_4_61.siIdx (ix5 k r l h w) ⟨0, by decide⟩)).toInt.toNat 4095 + 0 + 0 = numOf l.val h.val w.val r.val
      have q : val_main_v50 (F := Ideal) (gather_S6x4096_S27x8x256x256x1_S6x27x8x256x256_0_1_n_n_1_4_61.siIdx (ix5 k r l h w) ⟨0, by decide⟩)
          = BitVec.ofNat 32 (numOf l.val h.val w.val r.val) := by
        rw [val_main_v50_apply, ← v47_at]
        refine congrArg (val_main_v47 (F := Ideal)) (funext fun b => ?_)
        fin_cases b <;> rfl
      rw [q, BitVec.toInt_eq_toNat_of_lt (by rw [BitVec.toNat_ofNat]; omega), BitVec.toNat_ofNat]
      omega
  show val_main_v49 (F := Ideal) x1 (gather_S6x4096_S27x8x256x256x1_S6x27x8x256x256_0_1_n_n_1_4_61.operandIdx (ix5 k r l h w) (val_main_v50 (F := Ideal))) = _
  rw [e, v49_at]
  refine congrArg (val_main_v5 (F := Ideal) x1) (funext fun a => Fin.ext ?_)
  fin_cases a
  · show numOf l.val h.val w.val r.val / 32 = rowOf l.val h.val r.val
    unfold numOf; omega
  · rfl
  · show numOf l.val h.val w.val r.val % 32 = colOf w.val r.val
    unfold numOf; omega

theorem v54_at (k : Fin 6) (r : Fin 27) (l : Fin 8) (h w : Fin 256) : val_main_v54 (F := Ideal) x0 (ix5 k r l h w) = x0 (ix5 0 k l h w) := by
  unfold val_main_v54 val_main_v53 val_main_v52
  pointwise

/-- Minus the squared distance to a neighbour's centre. -/
theorem v58_at (r : Fin 27) (l : Fin 8) (h w : Fin 256) : val_main_v58 (F := Ideal) x0 x1 (ix4 r l h w)
    = scoreR (fun k => x0 (ix5 0 k l h w)) (fun k => val_main_v5 (F := Ideal) x1 (ix3 ⟨rowOf l.val h.val r.val, rowOf_lt _ _ _⟩ k ⟨colOf w.val r.val, colOf_lt _ _⟩)) := by
  rw [val_main_v58_apply, Ideal.hostNegf_def]
  unfold val_main_v57 val_main_cst_17
  pointwise
  refine congrArg Neg.neg (Finset.sum_congr rfl fun k _ => ?_)
  rw [val_main_v56_apply, val_main_v55_apply, v54_at, v51_at]
  rfl

theorem bot_eq : Ideal.ofBits .f32 0xFF800000#32 = ⊥ := by simp [Ideal.ofBits, Ideal.ieee]

/-- The largest of a pixel's 27 numbers. -/
theorem fold_at (v : FVec Ideal S27x8x256x256 .f32) (l : Fin 8) (h w : Fin 256) :
    Host.reduce (FloatOps.maximumf (F := Ideal) (φ := .f32)) v (val_main_cst_18 (F := Ideal)) reducesTo_S27x8x256x256_S8x256x256_d0 h_S_ (ix3 l h w)
      = Finset.univ.fold max ⊥ fun r : Fin 27 => v (ix4 r l h w) := by
  rw [← bot_eq]
  unfold val_main_cst_18
  pointwise

theorem v61_at (l : Fin 8) (h w : Fin 256) : val_main_v61 (F := Ideal) x0 x1 (ix3 l h w)
    = Finset.univ.fold max ⊥ fun r : Fin 27 => val_main_v58 (F := Ideal) x0 x1 (ix4 r l h w) := by
  have e : val_main_v59 (F := Ideal) x0 x1 (ix3 l h w) = _ := fold_at (val_main_v58 (F := Ideal) x0 x1) l h w
  have e0 : val_main_v60 (F := Ideal) (ix3 l h w) = ⊥ := by rw [val_main_v60_apply]; exact bot_eq
  rw [val_main_v61_apply, e, e0, Ideal.maximumf_def]
  exact max_eq_right bot_le

theorem v69_at (r : Fin 27) (l : Fin 8) (h w : Fin 256) : val_main_v69 (F := Ideal) x0 x1 (ix4 r l h w)
    = Ideal.div (Ideal.exp (val_main_v58 (F := Ideal) x0 x1 (ix4 r l h w) - val_main_v61 (F := Ideal) x0 x1 (ix3 l h w)))
      (∑ k : Fin 27, Ideal.exp (val_main_v58 (F := Ideal) x0 x1 (ix4 k l h w) - val_main_v61 (F := Ideal) x0 x1 (ix3 l h w))) := by
  unfold val_main_v69 val_main_v68 val_main_v67 val_main_v66 val_main_cst_20 val_main_v65 val_main_v64 val_main_v63 val_main_v62
  pointwise

theorem v72_at (r : Fin 27) (l : Fin 8) (h w : Fin 256) : val_main_v72 (F := Ideal) x0 x1 (ix4 r l h w)
    = Finset.univ.fold max ⊥ fun k : Fin 27 => val_main_v69 (F := Ideal) x0 x1 (ix4 k l h w) := by
  rw [val_main_v72_apply, val_main_v71_apply, ← fold_at]
  unfold val_main_v70
  refine congrArg (Host.reduce _ _ _ _ _) (funext fun a => ?_)
  fin_cases a <;> rfl

theorem v75_at (l : Fin 8) (h w : Fin 256) : val_main_v75 (F := Ideal) x0 x1 (ix3 l h w)
    = Finset.univ.fold IntOp.minsi 2147483647#32 fun r : Fin 27 =>
      Scalar.select (Ideal.cmp .oeq (val_main_v69 (F := Ideal) x0 x1 (ix4 r l h w)) (Finset.univ.fold max ⊥ fun k : Fin 27 => val_main_v69 (F := Ideal) x0 x1 (ix4 k l h w)))
        (BitVec.ofNat 32 r.val) 27#32 := by
  have e : val_main_v75 (F := Ideal) x0 x1 (ix3 l h w) = Finset.univ.fold IntOp.minsi 2147483647#32 fun r : Fin 27 => val_main_v74 (F := Ideal) x0 x1 (ix4 r l h w) := by
    unfold val_main_v75 val_main_c_23
    pointwise
  rw [e]
  refine congrArg (fun f => Finset.univ.fold IntOp.minsi 2147483647#32 f) (funext fun r => ?_)
  rw [val_main_v74_apply, val_main_v73_apply, val_main_call0_v1_apply, v72_at, val_main_v6_apply]
  rfl

theorem v119_at (l : Fin 8) (h w : Fin 256) (r : Fin 27) (hr : val_main_v75 (F := Ideal) x0 x1 (ix3 l h w) = BitVec.ofNat 32 r.val) :
    val_main_v119 (F := Ideal) x0 x1 (ix5 0 0 l h w) = FloatOps.sitofp (F := Ideal) .f32 (BitVec.ofNat 32 (numOf l.val h.val w.val r.val)) := by
  rw [← refCell_eq, ← hr]
  unfold val_main_v119
  pointwise
  rfl

theorem v118_at (r : Fin 27) (l : Fin 8) (h w : Fin 256) : val_main_v118 (F := Ideal) x0 x1 (ix5 0 r l h w) = val_main_v69 (F := Ideal) x0 x1 (ix4 r l h w) := by
  unfold val_main_v118
  pointwise

end Cert.RThreeIdeal.Read
-- ==== Proof.Agree.lean ====
module

public import proofs.«01_k».proof.Pre_finite
public import proofs.«01_k».proof.Proof.Arrays
public import proofs.«01_k».proof.Proof.RefAt
public import Idealize.ShloMosaic.Lib.ReduceAll

@[expose] public section

set_option maxRecDepth 16384

noncomputable section

namespace Cert.Agree

open Idealize.ShloMosaic Idealize.ShloMosaic.TcCoe Cert.Cell Cert.Pixel Cert.KThreeIdeal Cert.KThreeIdeal.Gen Cert.RThreeIdeal.Read
open scoped BigOperators

/-! ## What the precondition says -/

theorem preFacts : Cert.Pre_finite.Facts where
  slices_S128x8x32_S128x6x32_0_0_0 := by decide
  slices_S128x8x32_S128x1x32_0_6_0 := by decide
  bcast_S_S128x1x32 := by decide
  bcast_S128x1x32_S128x6x32_0_1_2 := by decide
  bcast_S_S1x6x8x256x256 := by decide
  reducesTo_S1x6x8x256x256_S_d0_1_2_3_4 := by decide
  h_S_ := by decide
  bcast_S_S128x6x32 := by decide
  reducesTo_S128x6x32_S_d0_1_2 := by decide

/-- A number of absolute value below infinity is a real number. -/
theorem real_of_abs (x : EReal) (h : Ideal.cmp .olt (max x (-x)) (Ideal.ofBits .f32 0x7F800000#32) = 1#1) : ∃ a : ℝ, x = a := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe a => exact ⟨a, rfl⟩

variable (x0 : S1x6x8x256x256.Idx → EReal) (x1 : S128x8x32.Idx → EReal)

/-- Every feature and every centre is a real number. -/
def AllReal : Prop := (∀ i, ∃ a : ℝ, x0 i = a) ∧ ∀ i, ∃ a : ℝ, val_main_v5 (F := Ideal) x1 i = a

theorem allReal (h : (@Cert.Pre_finite.fn preFacts Ideal _ x0 x1 : IVec Cert.Pre_finite.S_ 1) = fun _ => 1#1) : AllReal x0 x1 := by
  have e := IntOp.andi_eq_one.1 (congrFun h (fun a : Fin 0 => a.elim0))
  exact ⟨fun i => real_of_abs _ (Host.reduce_andi_all _ _ _ _ _ e.1 i), fun i => real_of_abs _ (Host.reduce_andi_all _ _ _ _ _ e.2 i)⟩

/-! ## The two programs at a pixel -/

variable {x0 x1}

/-- A pixel's 27 distances are real, and both programs' scores are these. -/
theorem pixel_real (hr : AllReal x0 x1) (l : Fin 8) (h w : Fin 256) : ∃ s : Fin 27 → ℝ,
    (∀ r, scoreK (fAt x0 l h w) (gAt (val_main_v5 (F := Ideal) x1) l h w r) = (s r : EReal))
      ∧ ∀ r, val_main_v58 (F := Ideal) x0 x1 (ix4 r l h w) = (s r : EReal) := by
  obtain ⟨h0, h1⟩ := hr
  choose f hf using h0
  choose g hg using h1
  refine ⟨fun r => Cert.Pixel.dist (fun k => f (ix5 0 k l h w)) (fun k => g (ix3 ⟨rowOf l.val h.val r.val, rowOf_lt _ _ _⟩ k ⟨colOf w.val r.val, colOf_lt _ _⟩)), fun r => ?_, fun r => ?_⟩
  · rw [← scoreK_real]
    exact congrArg₂ scoreK (funext fun k => hf _) (funext fun k => hg _)
  · rw [v58_at, ← scoreR_real]
    exact congrArg₂ scoreR (funext fun k => hf _) (funext fun k => hg _)

/-- The reference's shares of a pixel. -/
theorem v69_real (l : Fin 8) (h w : Fin 256) (s : Fin 27 → ℝ) (hs : ∀ r, val_main_v58 (F := Ideal) x0 x1 (ix4 r l h w) = (s r : EReal)) (r : Fin 27) :
    val_main_v69 (F := Ideal) x0 x1 (ix4 r l h w) = (soft s r : EReal) := by
  obtain ⟨i, hi, -⟩ := fold_max_mem (n := 26) fun r => val_main_v58 (F := Ideal) x0 x1 (ix4 r l h w)
  rw [v69_at, v61_at, hi]
  simp only [hs]
  exact share_shift s (s i) r

/-- The reference keeps the first of the largest shares. -/
theorem v75_first (l : Fin 8) (h w : Fin 256) (i : Fin 27) (hi : First (fun r => val_main_v69 (F := Ideal) x0 x1 (ix4 r l h w)) i) :
    val_main_v75 (F := Ideal) x0 x1 (ix3 l h w) = BitVec.ofNat 32 i.val := by
  obtain ⟨k, hk, hm⟩ := fold_max_mem (n := 26) fun r => val_main_v69 (F := Ideal) x0 x1 (ix4 r l h w)
  have e : val_main_v69 (F := Ideal) x0 x1 (ix4 k l h w) = val_main_v69 (F := Ideal) x0 x1 (ix4 i l h w) := le_antisymm (hi.1 k) (hm i)
  rw [v75_at, hk, e]
  exact fold_first (fun r => val_main_v69 (F := Ideal) x0 x1 (ix4 r l h w)) i hi

variable (m : (ℓ : Loc nD τ sig) → Buf (Elt Ideal) ℓ) (c : Dev nD)

/-- The centres are the reference's. -/
theorem ctr_eq : ctr m c = val_main_v5 (F := Ideal) (m ((c.tc : Thread nD τ).loc main_arg1)) := by
  funext j
  obtain ⟨a, b, d, rfl⟩ : ∃ (a : Fin 128) (b : Fin 6) (d : Fin 32), j = ix3 a b d := ⟨j 0, j 1, j 2, (ix3_eta j).symm⟩
  rw [ctr_apply, v5_at]; rfl

variable (hr : AllReal (m ((c.tc : Thread nD τ).loc main_arg0)) (m ((c.tc : Thread nD τ).loc main_arg1)))
include hr

/-- The kernel's shares of a pixel are the reference's. -/
theorem share_eq (t : Fin cfg0.N) (l : Fin 2) (h : Fin 8) (w : Fin 256) : ∃ s : Fin 27 → ℝ,
    (∀ r, share (gB m c t) r (ix2 ⟨l.val * 8 + h.val, by omega⟩ w) = (soft s r : EReal))
      ∧ ∀ r, val_main_v69 (F := Ideal) (m ((c.tc : Thread nD τ).loc main_arg0)) (m ((c.tc : Thread nD τ).loc main_arg1)) (ix4 r (pixL t l) (pixH t h) w) = (soft s r : EReal) := by
  obtain ⟨s, hk, h58⟩ := pixel_real hr (pixL t l) (pixH t h) w
  have hg : ∀ r, gB m c t r (ix2 ⟨l.val * 8 + h.val, by omega⟩ w) = Ideal.exp (s r : EReal) := fun r => by
    rw [gB_apply, ctr_eq]; exact congrArg Ideal.exp (hk r)
  refine ⟨s, fun r => ?_, v69_real _ _ _ s h58⟩
  rw [share_apply]
  simp only [hg]
  exact share_mul s r

theorem shares_eq : (dats m 0 c).arrAt 2 cfg0.N
    = val_main_v118 (F := Ideal) (m ((c.tc : Thread nD τ).loc main_arg0)) (m ((c.tc : Thread nD τ).loc main_arg1)) :=
  arr_shares m c _ fun t r l h w => by
    obtain ⟨s, hk, hr⟩ := share_eq m c hr t l h w
    rw [assocV_apply, v118_at, hk, hr]

theorem numbers_eq : (dats m 0 c).arrAt 3 cfg0.N
    = val_main_v119 (F := Ideal) (m ((c.tc : Thread nD τ).loc main_arg0)) (m ((c.tc : Thread nD τ).loc main_arg1)) :=
  arr_numbers m c _ fun t l h w => by
    obtain ⟨s, hk, hr⟩ := share_eq m c hr t l h w
    obtain ⟨i, hi, hf⟩ := kept_all (gB m c t) (ix2 ⟨l.val * 8 + h.val, by omega⟩ w) fun r => by
      rw [hk]; exact_mod_cast soft_pos s r
    have hf' : First (fun r => val_main_v69 (F := Ideal) (m ((c.tc : Thread nD τ).loc main_arg0)) (m ((c.tc : Thread nD τ).loc main_arg1)) (ix4 r (pixL t l) (pixH t h) w)) i := by
      have e : (fun r => val_main_v69 (F := Ideal) (m ((c.tc : Thread nD τ).loc main_arg0)) (m ((c.tc : Thread nD τ).loc main_arg1)) (ix4 r (pixL t l) (pixH t h) w))
          = fun r => share (gB m c t) r (ix2 ⟨l.val * 8 + h.val, by omega⟩ w) := funext fun r => by rw [hk, hr]
      rw [e]; exact hf
    rw [v119_at _ _ _ _ _ i (v75_first _ _ _ i hf'), fidxV_apply, hi, ← kerCell_eq]
    have e1 : (pixL t l).val / 2 = (grid0.coords t 0).val := by unfold pixL; dsimp only; omega
    have e2 : (pixH t h).val / 8 = (grid0.coords t 1).val := by unfold pixH; dsimp only; omega
    rw [e1, e2]

end Cert.Agree
-- ==== Proof.Loops2.lean ====
module

public import proofs.«01_k».proof.Proof.Gen.KTwoIdeal.Frame
public import proofs.«01_k».proof.Proof.Loops

@[expose] public section

set_option maxRecDepth 16384

noncomputable section

namespace Cert.KTwoIdeal.Gen

open Idealize.ShloMosaic Idealize.SL.Sem Cert.Run
open Cert.KThreeIdeal.Gen (invE eAt rowStep loadE loadX featB sqFeat expMat)

variable {F : FTy → Type} [FloatOps F]

/-! The second call's body written with loops. The steps up to the exponentials are the third call's. -/

variable (F) in
/-- Programs of the kernel's body. -/
abbrev PP (α : Type) := Prog (TpuEff nD τ sig (Elt F) Λ₀ .tc) α

/-! ## The pure pieces -/

/-- The matrix that sums each eight columns. -/
def redMat : FVec F S256x32 .f32 :=
  let v1838 : IVec S256x32 32 := iota .tc S256x32 32 [0] iota_S256x32_d0_w32
  let c8_i32_172 : BitVec 32 := 8#32
  let v1839 : IVec S256x32 32 := broadcast S256x32 c8_i32_172
  let v1840 : IVec S256x32 32 := divsi v1838 v1839
  let v1841 : IVec S256x32 32 := broadcast S256x32 0#32
  let v1842 : IVec S256x32 1 := cmpi .sgt v1838 v1841
  let v1843 : IVec S256x32 32 := extui 32 v1842 natLt_1_32
  let v1844 : IVec S256x32 32 := broadcast S256x32 0#32
  let v1845 : IVec S256x32 1 := cmpi .slt v1838 v1844
  let v1846 : IVec S256x32 32 := extui 32 v1845 natLt_1_32
  let v1847 : IVec S256x32 32 := subi v1843 v1846
  let v1848 : BitVec 1 := Scalar.cmpi .sgt c8_i32_172 0#32
  let v1849 : BitVec 32 := Scalar.extui v1848
  let v1850 : BitVec 1 := Scalar.cmpi .slt c8_i32_172 0#32
  let v1851 : BitVec 32 := Scalar.extui v1850
  let v1852 : BitVec 32 := Scalar.subi v1849 v1851
  let v1853 : IVec S256x32 32 := broadcast S256x32 v1852
  let v1854 : IVec S256x32 1 := cmpi .ne v1847 v1853
  let v1855 : IVec S256x32 32 := broadcast S256x32 c8_i32_172
  let v1856 : IVec S256x32 32 := remsi v1838 v1855
  let v1857 : IVec S256x32 32 := broadcast S256x32 0#32
  let v1858 : IVec S256x32 1 := cmpi .ne v1856 v1857
  let v1859 : IVec S256x32 1 := andi v1854 v1858
  let v1860 : IVec S256x32 32 := broadcast S256x32 1#32
  let v1861 : IVec S256x32 32 := subi v1840 v1860
  let v1862 : IVec S256x32 32 := select v1859 v1861 v1840
  let v1863 : IVec S256x32 32 := iota .tc S256x32 32 [1] iota_S256x32_d1_w32
  let v1864 : IVec S256x32 1 := cmpi .eq v1862 v1863
  let v1865 : IVec S256x32 32 := extui 32 v1864 natLt_1_32
  sitofp .f32 v1865

/-- The features and one, each over the sum of the exponentials. -/
def fiV (f : FVec F S6x16x256 .f32) (inv : FVec F S16x256 .f32) : FVec F S7x16x256 .f32 :=
  concatenate S7x16x256 0 [⟨S6x16x256, mulf f (broadcastTo S6x16x256 (shapeCast S1x16x256 inv shapeCasts_S16x256_S1x16x256) broadcasts_S1x16x256_S6x16x256)⟩,
    ⟨S1x16x256, shapeCast S1x16x256 inv shapeCasts_S16x256_S1x16x256⟩] concatenates_S6x16x256_S1x16x256_S7x16x256_d0

/-- One neighbour's weighted data, summed over the block's layers and rows. -/
def partV (e : FVec F S16x256 .f32) (fi : FVec F S7x16x256 .f32) : FVec F S7x256 .f32 :=
  multiReduction .add [1] S7x256 (mulf (broadcastTo S7x16x256 (shapeCast S1x16x256 e shapeCasts_S16x256_S1x16x256) broadcasts_S1x16x256_S7x16x256) fi) 0x00000000#32 reduces_S7x16x256_S7x256 (.inl rfl) rfl

/-- A slot of the exponentials as it is read back. -/
def unslot (e : Vec F S1x16x256 .f32) : FVec F S16x256 .f32 := shapeCast S16x256 e shapeCasts_S1x16x256_S16x256

/-- The three neighbours of a row summed over each cell's columns. -/
def cellsU (p : Fin 3 → FVec F S7x256 .f32) : FVec F S21x32 .f32 :=
  matmul dot_S21x256_S256x32_S21x32_1_0_0_1_n_n (some .fp32) (concatenate S21x256 0 [⟨S7x256, p 0⟩, ⟨S7x256, p 1⟩, ⟨S7x256, p 2⟩] concatenates_S7x256_S7x256_S7x256_S21x256_d0) redMat (constant S21x32 .f32 0x00000000#32)

/-- Sums moved one cell left, the first two cells in one. -/
def foldL (u : FVec F S7x32 .f32) : FVec F S7x32 .f32 :=
  concatenate S7x32 1 [⟨S7x1, addf (extractStridedSlice S7x1 ![0, 0] u slices_S7x32_o0_0_S7x1) (extractStridedSlice S7x1 ![0, 1] u slices_S7x32_o0_1_S7x1)⟩,
    ⟨S7x30, extractStridedSlice S7x30 ![0, 2] u slices_S7x32_o0_2_S7x30⟩, ⟨S7x1, broadcast S7x1 (Scalar.ofBits .f32 0x00000000#32)⟩] concatenates_S7x1_S7x30_S7x1_S7x32_d1

/-- Sums moved one cell right, the last two cells in one. -/
def foldR (u : FVec F S7x32 .f32) : FVec F S7x32 .f32 :=
  concatenate S7x32 1 [⟨S7x1, broadcast S7x1 (Scalar.ofBits .f32 0x00000000#32)⟩, ⟨S7x30, extractStridedSlice S7x30 ![0, 0] u slices_S7x32_o0_0_S7x30⟩,
    ⟨S7x1, addf (extractStridedSlice S7x1 ![0, 30] u slices_S7x32_o0_30_S7x1) (extractStridedSlice S7x1 ![0, 31] u slices_S7x32_o0_31_S7x1)⟩] concatenates_S7x1_S7x30_S7x1_S7x32_d1

/-- What a point adds to a row of cells. -/
def addV (u : FVec F S21x32 .f32) : FVec F S8x32 .f32 :=
  concatenate S8x32 0 [⟨S7x32, addf (addf (foldL (extractStridedSlice S7x32 ![0, 0] u slices_S21x32_o0_0_S7x32)) (extractStridedSlice S7x32 ![7, 0] u slices_S21x32_o7_0_S7x32))
    (foldR (extractStridedSlice S7x32 ![14, 0] u slices_S21x32_o14_0_S7x32))⟩, ⟨S1x32, broadcast S1x32 (Scalar.ofBits .f32 0x00000000#32)⟩] concatenates_S7x32_S1x32_S8x32_d0

/-- A row of cells with more added. -/
def rowAdd (a : Vec F S1x8x32 .f32) (v : FVec F S8x32 .f32) : FVec F S1x8x32 .f32 :=
  addf (shapeCast S1x8x32 a shapeCasts_S1x8x32_S1x8x32) (shapeCast S1x8x32 v shapeCasts_S8x32_S1x8x32)

/-! ## The body -/

variable (i : grid0.Coords)

/-- The first branch's condition, as the body computes it. -/
def first : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The sums set to zero, at the first point. -/
def clear (arg4 : Memref sig .tc .vmem S128x8x32 .f32) : PP F PUnit := do
  let _ ← Prog.lift (.load arg4 (Rect.unit (s := S128x8x32) ![0, 0, 0] S128x8x32.size inb_S128x8x32_S128x8x32_0_0_0).toLoadRect (View.loadsAt_vmem h_S128x8x32))
  Prog.lift (.store arg4 (Rect.unit (s := S128x8x32) ![0, 0, 0] S128x8x32.size inb_S128x8x32_S128x8x32_0_0_0) (broadcast S128x8x32 (Scalar.ofBits .f32 0x00000000#32)) Finset.univ (View.stores_vmem_bits_univ h_S128x8x32 rfl) (.inl rfl))
  pure ⟨⟩

/-- Add to one of the nine rows of cells what its three neighbours give. -/
def sumStep (arg4 : Memref sig .tc .vmem S128x8x32 .f32) (arg5 : Memref sig .tc .vmem S27x16x256 .f32) (fi : FVec F S7x16x256 .f32) (k : Fin 9) : PP F PUnit :=
  collect 3 (fun d => loadE arg5 ⟨3 * k.val + d.val, by omega⟩) fun e => do
    let a : Vec F S1x8x32 .f32 ← Prog.lift (.load arg4 (Rect.unit (s := S128x8x32) (k0_off2 i (k0_off2_at k).1 (k0_off2_at k).2) S1x8x32.size (k0_off2_inb i k)).toLoadRect (View.loadsAt_vmem h_S1x8x32))
    let _ ← Prog.lift (.load arg4 (Rect.unit (s := S128x8x32) (k0_off2 i (k0_off2_at k).1 (k0_off2_at k).2) S1x8x32.size (k0_off2_inb i k)).toLoadRect (View.loadsAt_vmem h_S1x8x32))
    Prog.lift (.store arg4 (Rect.unit (s := S128x8x32) (k0_off2 i (k0_off2_at k).1 (k0_off2_at k).2) S1x8x32.size (k0_off2_inb i k)) (rowAdd a (addV (cellsU fun d => partV (unslot (e d)) fi))) Finset.univ (View.stores_vmem_bits_univ h_S1x8x32 rfl) (.inl rfl))

/-- The nine rows of cells in turn. -/
def sums (arg4 : Memref sig .tc .vmem S128x8x32 .f32) (arg5 : Memref sig .tc .vmem S27x16x256 .f32) (x : Vec F S1x6x2x8x256 .f32) (rows : Fin 9 → Vec F S1x6x32 .f32) : PP F PUnit :=
  loopSt 9 (fun k _ => sumStep i arg4 arg5 (fiV (featB x) (invE (eAt x rows))) k) ⟨⟩

/-- The body with loops. -/
def body2 (arg2 : Memref sig .tc .vmem S1x6x2x8x256 .f32) (arg3 : Memref sig .tc .vmem S128x6x32 .f32) (arg4 : Memref sig .tc .vmem S128x8x32 .f32) (arg5 : Memref sig .tc .vmem S27x16x256 .f32) : PP F PUnit := do
  if first i = 1#1 then clear arg4 else pure ⟨⟩
  let x ← loadX arg2
  collect 9 (rowStep i arg5 arg3 x) (fun rows => sums i arg4 arg5 x rows)

end Cert.KTwoIdeal.Gen
-- ==== Proof.Body2.lean ====
module

public import proofs.«01_k».proof.Proof.Loops2

@[expose] public section

set_option maxRecDepth 65536
set_option maxHeartbeats 40000000

noncomputable section

namespace Cert.KTwoIdeal.Gen

open Idealize.ShloMosaic Idealize.SL.Sem Cert.Run
open Cert.KThreeIdeal.Gen (rowStep loadX featB sqFeat expMat)

variable {F : FTy → Type} [FloatOps F]

variable (i : grid0.Coords) (arg2 : Memref sig .tc .vmem S1x6x2x8x256 .f32) (harg2 : arg2.IsWhole) (arg3 : Memref sig .tc .vmem S128x6x32 .f32) (harg3 : arg3.IsWhole) (arg4 : Memref sig .tc .vmem S128x8x32 .f32) (harg4 : arg4.IsWhole) (arg5 : Memref sig .tc .vmem S27x16x256 .f32) (harg5 : arg5.IsWhole)

/-- The first branch. -/
def start : PP F PUnit := if first i = 1#1 then clear arg4 else pure ⟨⟩

omit [FloatOps F] in
/-- Two programs that start alike. -/
theorem st_head {α γ : Type} {p : PP F α} {K K' : α → PP F γ} (h : ∀ x, K x = K' x) : p >>= K = p >>= K' := by
  rw [show K = K' from funext h]

theorem part1_eq :
  k0_part1 (F := F) i arg2 harg2 arg3 harg3 arg4 harg4 arg5 harg5 = start i arg4 >>= fun _ => loadX arg2 >>= fun x =>
    pure ⟨BitVec.ofNat 32 (i 0).val, BitVec.ofNat 32 (i 1).val, featB x, sqFeat (featB x), expMat, broadcast S16x256 (Scalar.ofBits .f32 0x00000000#32)⟩ := by
  unfold k0_part1 start
  by_cases hz : first i = 1#1
  · rw [if_pos hz]
    exact (dif_pos hz).trans rfl
  · rw [if_neg hz]
    exact (dif_neg hz).trans rfl

theorem body2_start : body2 (F := F) i arg2 arg3 arg4 arg5 = start i arg4 >>= fun _ => loadX arg2 >>= fun x =>
    collect 9 (rowStep i arg5 arg3 x) (fun rows => sums i arg4 arg5 x rows) := by
  unfold body2 start
  by_cases hz : first i = 1#1
  · rw [if_pos hz, if_pos hz]
  · rw [if_neg hz, if_neg hz]; rfl

/-- The printed body is the loops run out. -/
theorem body2_eq :
  cc0__k2 (F := F) i arg2 harg2 arg3 harg3 arg4 harg4 arg5 harg5 = body2 i arg2 arg3 arg4 arg5 >>= pure := by
  unfold cc0__k2 k0_part48
  rw [part1_eq, body2_start]
  refine st_assoc (st_assoc (rt_assoc (st_head fun _ => ?_)))
  repeat (first | with_reducible refine st_pure ?_ | refine st_assoc ?_ | with_reducible refine rt_pure ?_ | refine rt_loop0 ?_ | refine rt_loop ?_ | refine rt_collect0 ?_ | refine rt_collect ?_ | refine rt_collectK0 ?_ | refine rt_collectK ?_ | refine rt_assoc ?_ | refine st_lift fun _ => ?_)
  rfl

end Cert.KTwoIdeal.Gen
-- ==== Proof.BodyRun2.lean ====
module

public import proofs.«01_k».proof.Proof.Loops2
public import proofs.«01_k».proof.Proof.BodyRun

@[expose] public section

set_option maxRecDepth 16384

noncomputable section

namespace Cert.KTwoIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Run
open Cert.KThreeIdeal.Gen (invE eAt rowStep loadE loadX featB sqFeat expMat Slots slotted rowsAt rowStep_run put_all window_all)

variable {F : FTy → Type} [FloatOps F]

local notation "𝕄" => MT nD τ sig Unit (Elt F) ℕ (UR sig nD τ) ℕ

/-! ## What the body leaves -/

/-- What a point adds to the `k`th of its nine rows of cells, off the exponentials `g`. -/
def tot (g : Fin 27 → FVec F S16x256 .f32) (fi : FVec F S7x16x256 .f32) (k : Fin 9) : FVec F S8x32 .f32 :=
  addV (cellsU fun d => partV (unslot (shapeCast S1x16x256 (g ⟨3 * k.val + d.val, by omega⟩) shapeCasts_S16x256_S1x16x256)) fi)

/-- The sums with the `k`th row added to. -/
def accStep (i : grid0.Coords) (g : Fin 27 → FVec F S16x256 .f32) (fi : FVec F S7x16x256 .f32) (k : Fin 9) (a : Vec F S128x8x32 .f32) : Vec F S128x8x32 .f32 :=
  VecWindow.put (s := S128x8x32) a (k0_off2 i (k0_off2_at k).1 (k0_off2_at k).2) S1x8x32.size
    (rowAdd (VecWindow.window (s := S128x8x32) a (k0_off2 i (k0_off2_at k).1 (k0_off2_at k).2) S1x8x32.size (k0_off2_inb i k)) (tot g fi k))

/-- The sums with the first `n` rows added to. -/
def accN (i : grid0.Coords) (g : Fin 27 → FVec F S16x256 .f32) (fi : FVec F S7x16x256 .f32) (a : Vec F S128x8x32 .f32) : ℕ → Vec F S128x8x32 .f32
  | 0 => a
  | n + 1 => if h : n < 9 then accStep i g fi ⟨n, h⟩ (accN i g fi a n) else accN i g fi a n

theorem accN_succ (i : grid0.Coords) (g : Fin 27 → FVec F S16x256 .f32) (fi : FVec F S7x16x256 .f32) (a : Vec F S128x8x32 .f32) (k : Fin 9) :
    accN i g fi a (k.val + 1) = accStep i g fi k (accN i g fi a k.val) := by
  rw [accN]; exact dif_pos k.isLt

/-- The sums after a point. -/
def accV (i : grid0.Coords) (x : Vec F S1x6x2x8x256 .f32) (rows : Fin 9 → Vec F S1x6x32 .f32) (a : Vec F S128x8x32 .f32) : Vec F S128x8x32 .f32 :=
  accN i (eAt x rows) (fiV (featB x) (invE (eAt x rows))) a 9

/-! ## The body's triples -/

section
variable (c : Dev nD) (E : Set ℕ) (i : grid0.Coords)
variable (arg2 : Memref sig .tc .vmem S1x6x2x8x256 .f32) (arg3 : Memref sig .tc .vmem S128x6x32 .f32) (arg4 : Memref sig .tc .vmem S128x8x32 .f32) (arg5 : Memref sig .tc .vmem S27x16x256 .f32)

theorem loadE_run (g : Fin 27 → FVec F S16x256 .f32) (r : Fin 27) :
    slotted c arg5 g 27 ⊢ wpB (defs₀ (F := F)) c E (loadE arg5 r) (fun e => iprop(⌜e = shapeCast S1x16x256 (g r) shapeCasts_S16x256_S1x16x256⌝ ∗ slotted c arg5 g 27)) := by
  unfold slotted loadE
  iintro ⟨%v, %hv, H⟩
  iapply (own_load c E v) $$ H
  iintro H
  isplitr
  · ipureintro; exact hv r r.isLt
  iexists v
  isplitr; · ipureintro; exact hv
  iexact H

theorem sumStep_run (g : Fin 27 → FVec F S16x256 .f32) (fi : FVec F S7x16x256 .f32) (a : Vec F S128x8x32 .f32) (k : Fin 9) :
    iprop(slotted c arg5 g 27 ∗ owns (c : Thread nD τ) arg4 fullShare a)
      ⊢ wpB (defs₀ (F := F)) c E (sumStep i arg4 arg5 fi k) (fun u => iprop(⌜u = PUnit.unit⌝ ∗ (slotted c arg5 g 27 ∗ owns (c : Thread nD τ) arg4 fullShare (accStep i g fi k a)))) := by
  unfold sumStep
  refine own_collect c E (fun d : Fin 3 => shapeCast S1x16x256 (g ⟨3 * k.val + d.val, by omega⟩) shapeCasts_S16x256_S1x16x256)
    (fun _ => iprop(slotted c arg5 g 27 ∗ owns (c : Thread nD τ) arg4 fullShare a)) (fun d => ?_) ?_
  · refine (sep_mono_left (loadE_run c E arg5 g _)).trans ((wp_frame_r _ _ _).trans (wp_mono _ _ _ fun e => ?_))
    iintro ⟨⟨%he, H5⟩, H4⟩
    isplitr; · ipureintro; exact he
    isplitl [H5]; · iexact H5
    iexact H4
  · iintro ⟨H5, H4⟩
    rw [wpB_bind]
    iapply (own_load c E a) $$ H4
    iintro H4
    rw [wpB_bind]
    iapply (own_load c E a) $$ H4
    iintro H4
    iapply (own_store c E a) $$ H4
    iintro H4
    isplitr; · ipureintro; rfl
    isplitl [H5]; · iexact H5
    iexact H4

theorem sums_run (x : Vec F S1x6x2x8x256 .f32) (rows : Fin 9 → Vec F S1x6x32 .f32) (a : Vec F S128x8x32 .f32) :
    iprop(slotted c arg5 (eAt x rows) 27 ∗ owns (c : Thread nD τ) arg4 fullShare a)
      ⊢ wpB (defs₀ (F := F)) c E (sums i arg4 arg5 x rows) (fun _ => iprop(slotted c arg5 (eAt x rows) 27 ∗ owns (c : Thread nD τ) arg4 fullShare (accV i x rows a))) := by
  unfold sums
  have hl := own_loop c E (D := defs₀ (F := F)) (σ := PUnit) (f := fun k _ => sumStep i arg4 arg5 (fiV (featB x) (invE (eAt x rows))) k) (fun _ => PUnit.unit)
    (fun n => iprop(slotted c arg5 (eAt x rows) 27 ∗ owns (c : Thread nD τ) arg4 fullShare (accN i (eAt x rows) (fiV (featB x) (invE (eAt x rows))) a n)))
    (fun k => by rw [accN_succ]; exact sumStep_run c E i arg4 arg5 _ _ _ k)
  refine .trans (show _ ⊢ _ from hl) (wp_mono _ _ _ fun u => ?_)
  iintro ⟨-, H⟩
  iexact H

theorem clear_run :
    iprop(∃ d, owns (c : Thread nD τ) arg4 fullShare d)
      ⊢ wpB (defs₀ (F := F)) c E (clear arg4) (fun _ => owns (c : Thread nD τ) arg4 fullShare (broadcast S128x8x32 (Scalar.ofBits .f32 0x00000000#32))) := by
  unfold clear
  iintro ⟨%d, H4⟩
  rw [wpB_bind]
  iapply (own_load c E d) $$ H4
  iintro H4
  rw [wpB_bind]
  iapply (own_store c E d) $$ H4
  iintro H4
  iapply (wpB_pure c E)
  rw [put_all (s := S128x8x32) d ![0, 0, 0] inb_S128x8x32_S128x8x32_0_0_0]
  iexact H4

/-- The rest of the body, off the sums `a` so far. -/
theorem rest_run (x : Vec F S1x6x2x8x256 .f32) (s : Vec F S128x6x32 .f32) (a : Vec F S128x8x32 .f32) :
    iprop(owns (c : Thread nD τ) arg2 fullShare x ∗ owns (c : Thread nD τ) arg3 fullShare s ∗ owns (c : Thread nD τ) arg4 fullShare a ∗ (∃ d, owns (c : Thread nD τ) arg5 fullShare d))
      ⊢ wpB (defs₀ (F := F)) c E (do let x ← loadX arg2; collect 9 (rowStep i arg5 arg3 x) (fun rows => sums i arg4 arg5 x rows))
          (fun _ => iprop(owns (c : Thread nD τ) arg2 fullShare x ∗ owns (c : Thread nD τ) arg3 fullShare s ∗ owns (c : Thread nD τ) arg4 fullShare (accV i x (rowsAt i s) a)
            ∗ (∃ d, owns (c : Thread nD τ) arg5 fullShare d))) := by
  rw [wpB_bind]
  iintro ⟨H2, H3, H4, ⟨%d5, H5⟩⟩
  unfold loadX
  iapply (own_load c E x) $$ H2
  iintro H2
  rw [window_all (s := S1x6x2x8x256) x ![0, 0, 0, 0, 0] inb_S1x6x2x8x256_S1x6x2x8x256_0_0_0_0_0]
  have hc := own_collect c E (D := defs₀ (F := F)) (f := rowStep i arg5 arg3 x) (K := fun rows => sums i arg4 arg5 x rows) (rowsAt i s)
    (fun k => iprop((owns (c : Thread nD τ) arg3 fullShare s ∗ slotted c arg5 (eAt x (rowsAt i s)) (3 * k))
      ∗ (owns (c : Thread nD τ) arg2 fullShare x ∗ owns (c : Thread nD τ) arg4 fullShare a)))
    (Q := fun _ => iprop(owns (c : Thread nD τ) arg2 fullShare x ∗ owns (c : Thread nD τ) arg3 fullShare s ∗ owns (c : Thread nD τ) arg4 fullShare (accV i x (rowsAt i s) a)
            ∗ (∃ d, owns (c : Thread nD τ) arg5 fullShare d)))
    (fun k => (sep_mono_left (rowStep_run c E i arg5 arg3 x s k)).trans ((wp_frame_r _ _ _).trans (wp_mono _ _ _ fun r => by
      iintro ⟨⟨%hr, H⟩, HR⟩
      isplitr; · ipureintro; exact hr
      isplitl [H]; · iexact H
      iexact HR)))
    (by
      iintro ⟨⟨H3, H5⟩, H2, H4⟩
      have hf := (sep_mono_right (P := iprop(owns (c : Thread nD τ) arg2 fullShare x ∗ owns (c : Thread nD τ) arg3 fullShare s)) (sums_run c E i arg4 arg5 x (rowsAt i s) a)).trans (wp_frame_l _ _ _)
      iapply (hf.trans (wp_mono _ _ _ fun u => ?_))
      rotate_right 1
      · isplitl [H2 H3]
        · isplitl [H2]; · iexact H2
          iexact H3
        isplitl [H5]; · iexact H5
        iexact H4
      unfold slotted
      iintro ⟨⟨H2, H3⟩, ⟨%d, -, H5⟩, H4⟩
      isplitl [H2]; · iexact H2
      isplitl [H3]; · iexact H3
      isplitl [H4]; · iexact H4
      iexists d; iexact H5)
  iapply hc
  isplitl [H3 H5]
  · isplitl [H3]; · iexact H3
    unfold slotted
    iexists d5
    isplitr
    · ipureintro; exact fun r hr => absurd hr (Nat.not_lt_zero _)
    iexact H5
  isplitl [H2]; · iexact H2
  iexact H4

end

end Cert.KTwoIdeal.Gen
-- ==== Proof.Launch2.lean ====
module

public import proofs.«01_k».proof.Proof.Body2
public import proofs.«01_k».proof.Proof.BodyRun2

@[expose] public section

set_option maxRecDepth 16384

noncomputable section

namespace Cert.KTwoIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Run
open Cert.KThreeIdeal.Gen (eAt rowStep loadX rowsAt)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the pipeline -/

/-- The scratch buffer as a memref. -/
abbrev scE : Memref sig .tc .vmem S27x16x256 .f32 := Memref.whole cc0_scratch0

/-- The staging memrefs at point `t`. -/
abbrev ms2 (t : Fin cfg0.N) : Memref sig .tc .vmem S1x6x2x8x256 .f32 := win0_0.stage (cfg0.slots t 0)
abbrev ms3 (t : Fin cfg0.N) : Memref sig .tc .vmem S128x6x32 .f32 := win0_1.stage (cfg0.slots t 1)
abbrev ms4 (t : Fin cfg0.N) : Memref sig .tc .vmem S128x8x32 .f32 := win0_2.stage (cfg0.slots t 2)

/-- The block of features at point `t`. -/
def xB (c : Dev nD) (t : Fin cfg0.N) : Vec F S1x6x2x8x256 .f32 := iblk m c 0 t
/-- The centres at point `t`. -/
def spB (c : Dev nD) (t : Fin cfg0.N) : Vec F S128x6x32 .f32 := iblk m c 1 t

/-- The sums before point `n`. -/
def accAt (c : Dev nD) : ℕ → Vec F S128x8x32 .f32
  | 0 => broadcast S128x8x32 (Scalar.ofBits .f32 0x00000000#32)
  | n + 1 => if h : n < cfg0.N then accV (grid0.coords ⟨n, h⟩) (xB m c ⟨n, h⟩) (rowsAt (grid0.coords ⟨n, h⟩) (spB m c ⟨n, h⟩)) (accAt c n) else accAt c n

theorem accAt_succ (c : Dev nD) (t : Fin cfg0.N) : accAt m c (t.val + 1) = accV (grid0.coords t) (xB m c t) (rowsAt (grid0.coords t) (spB m c t)) (accAt m c t.val) := by
  rw [accAt]; exact dif_pos t.isLt

theorem PhiA_eq (c : Dev nD) :
    (Pipeline.ΦA spec0 c : sProp 𝕄) = iprop((∃ d, owns (c : Thread nD τ) scE fullShare d) ∗ (∃ r, prngReg c r)) := by
  unfold Pipeline.ΦA; rw [scopedRest0_eq]; simp only [scE, owns_whole]; try rfl

/-- The data: inputs at their blocks, the output at the sums so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c (t.val + 1)
  Φ t := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c (t.val + 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl

/-- The first branch is taken at the first point only. -/
theorem cond_iff : ∀ t : Fin grid0.N, first (grid0.coords t) = 1#1 ↔ t.val = 0 := by
  decide

/-- After the first point the buffer of sums holds the sums so far. -/
theorem before_2 (c : Dev nD) (t : Fin cfg0.N) (hz : t.val ≠ 0) (d) : (dats m 0 c).before 2 t d = accAt m c t.val := by
  have hN : t.val < 128 := lt_of_lt_of_eq t.isLt (show cfg0.N = 128 from N_0)
  have hf : (cfg0.win 2).flush ⟨t.val - 1, Nat.lt_of_le_of_lt (Nat.sub_le _ _) t.isLt⟩ = false := by
    rw [← Bool.not_eq_true, flush0_2]; dsimp only; omega
  rw [(dats m 0 c).before_of_pos 2 t (by omega) ((cfg0.win 2).fetch_out rfl t), hf, if_neg Bool.false_ne_true]
  unfold Dat.left
  rw [show cfg0.idle 2 (cfg0.grid.coords ⟨t.val - 1, Nat.lt_of_le_of_lt (Nat.sub_le _ _) t.isLt⟩) = false from liveAt_2 _]
  dsimp only
  unfold Dat.kept
  rw [after_2]
  rw [Pipeline.fill_of_clip_none (cfg := cfg0) 2 _ (fun _ => rfl) d (accAt m c (t.val - 1 + 1)), Pipeline.Window.fill_cut]
  rw [Nat.sub_add_cancel (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms2 t) fullShare ((dats m 0 c).before 0 t d))
    ∗ (∃ d, owns (c : Thread nD τ) (ms3 t) fullShare ((dats m 0 c).before 1 t d))
    ∗ (∃ d, owns (c : Thread nD τ) (ms4 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin cfg0.N) : (dats m 0 c).leavesExact 0 t = owns (c : Thread nD τ) (ms2 t) fullShare (xB m c t) := by
  unfold Dat.leavesExact; rw [liveAt_0 t]; dsimp only; rw [after_0]; rfl
theorem leaves_1 (c : Dev nD) (t : Fin cfg0.N) : (dats m 0 c).leavesExact 1 t = owns (c : Thread nD τ) (ms3 t) fullShare (spB m c t) := by
  unfold Dat.leavesExact; rw [liveAt_1 t]; dsimp only; rw [after_1]; rfl
theorem leaves_2 (c : Dev nD) (t : Fin cfg0.N) : (dats m 0 c).leavesExact 2 t = owns (c : Thread nD τ) (ms4 t) fullShare (accAt m c (t.val + 1)) := by
  unfold Dat.leavesExact; rw [liveAt_2 t, after_2]

/-- The last part of the body at point `t`, with the rest carried along. -/
theorem rest_at (c : Dev nD) (t : Fin cfg0.N) (R : sProp 𝕄) :
    iprop(R ∗ owns (c : Thread nD τ) (ms2 t) fullShare (xB m c t) ∗ owns (c : Thread nD τ) (ms3 t) fullShare (spB m c t) ∗ owns (c : Thread nD τ) (ms4 t) fullShare (accAt m c t.val)
        ∗ (∃ d, owns (c : Thread nD τ) scE fullShare d))
      ⊢ wpB defs₀ c Set.univ (do let x ← loadX (ms2 t); collect 9 (rowStep (grid0.coords t) scE (ms3 t) x) (fun rows => sums (grid0.coords t) (ms4 t) scE x rows))
          (fun _ => iprop(R ∗ owns (c : Thread nD τ) (ms2 t) fullShare (xB m c t) ∗ owns (c : Thread nD τ) (ms3 t) fullShare (spB m c t) ∗ owns (c : Thread nD τ) (ms4 t) fullShare (accAt m c (t.val + 1))
            ∗ (∃ d, owns (c : Thread nD τ) scE fullShare d))) := by
  rw [accAt_succ]
  exact (sep_mono_right (rest_run c Set.univ (grid0.coords t) (ms2 t) (ms3 t) (ms4 t) scE (xB m c t) (spB m c t) (accAt m c t.val))).trans (wp_frame_l _ _ _)

theorem bodyAt_eq (t : Fin cfg0.N) : (bodyAt0 (F := F) t) = body2 (grid0.coords t) (ms2 t) (ms3 t) (ms4 t) scE >>= pure :=
  body2_eq _ _ _ _ _ _ _ _ _

/-- The end of a point, off the sums before it. -/
theorem end_at (c : Dev nD) (t : Fin cfg0.N) :
    iprop((∃ r, prngReg c r) ∗ (dats m 0 c).owesAt () t.castSucc ∗ owns (c : Thread nD τ) (ms2 t) fullShare (xB m c t) ∗ owns (c : Thread nD τ) (ms3 t) fullShare (spB m c t)
        ∗ owns (c : Thread nD τ) (ms4 t) fullShare (accAt m c t.val) ∗ (∃ d, owns (c : Thread nD τ) scE fullShare d))
      ⊢ wpB defs₀ c Set.univ (do let x ← loadX (ms2 t); collect 9 (rowStep (grid0.coords t) scE (ms3 t) x) (fun rows => sums (grid0.coords t) (ms4 t) scE x rows))
          (fun _ => iprop(((∃ d, owns (c : Thread nD τ) scE fullShare d) ∗ (∃ r, prngReg c r)) ∗ (dats m 0 c).owesAt () t.castSucc
            ∗ owns (c : Thread nD τ) (ms2 t) fullShare (xB m c t) ∗ owns (c : Thread nD τ) (ms3 t) fullShare (spB m c t) ∗ owns (c : Thread nD τ) (ms4 t) fullShare (accAt m c (t.val + 1)))) := by
  have hr := rest_at m c t iprop((∃ r, prngReg c r) ∗ (dats m 0 c).owesAt () t.castSucc)
  iintro ⟨Hg, Ho, H⟩
  iapply (hr.trans (wp_mono _ _ _ fun u => ?_))
  rotate_right 1
  · isplitl [Hg Ho]
    · isplitl [Hg]; · iexact Hg
      iexact Ho
    iexact H
  iintro ⟨⟨Hg, Ho⟩, H0, H1, H2, HE⟩
  isplitl [HE Hg]
  · isplitl [HE]; · iexact HE
    iexact Hg
  isplitl [Ho]; · iexact Ho
  isplitl [H0]; · iexact H0
  isplitl [H1]; · iexact H1
  iexact H2

theorem sound_body (c : Dev nD) (t : Fin cfg0.N) :
    bodyPre m c t ⊢ wp frame (wpE (defs₀ (F := F)) Variants.none c none) Set.univ (bodyAt0 t) (fun _ => bodyPost m c t) := by
  rw [bodyAt_eq]
  show _ ⊢ wpB defs₀ c Set.univ _ _
  rw [wpB_bind]
  refine .trans ?_ (wp_mono _ _ _ fun u => wpB_pure c Set.univ u _)
  unfold bodyPre bodyPost
  simp only [before_0, before_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [leaves_0, leaves_1, leaves_2]
  unfold body2
  by_cases hz : t.val = 0
  · rw [if_pos ((cond_iff t).mpr hz)]
    show _ ⊢ wpB defs₀ c Set.univ (clear (ms4 t) >>= fun _ => do
      let x ← loadX (ms2 t)
      collect 9 (rowStep (grid0.coords t) scE (ms3 t) x) fun rows => sums (grid0.coords t) (ms4 t) scE x rows) _
    rw [wpB_bind]
    iintro ⟨⟨HE, Hg⟩, Ho, ⟨%d0, H0⟩, ⟨%d1, H1⟩, ⟨%d2, H2⟩⟩
    have hc := (sep_mono_right (P := iprop((∃ d, owns (c : Thread nD τ) scE fullShare d) ∗ (∃ r, prngReg c r) ∗ (dats m 0 c).owesAt () t.castSucc ∗ owns (c : Thread nD τ) (ms2 t) fullShare (xB m c t)
        ∗ owns (c : Thread nD τ) (ms3 t) fullShare (spB m c t)))
      (clear_run c Set.univ (ms4 t))).trans (wp_frame_l _ _ _)
    iapply (hc.trans (wp_mono _ _ _ fun u => ?_))
    rotate_right 1
    · isplitl [HE Hg Ho H0 H1]
      · isplitl [HE]; · iexact HE
        isplitl [Hg]; · iexact Hg
        isplitl [Ho]; · iexact Ho
        isplitl [H0]; · iexact H0
        iexact H1
      iexists _; iexact H2
    iintro ⟨⟨HE, Hg, Ho, H0, H1⟩, H2⟩
    iapply (end_at m c t)
    isplitl [Hg]; · iexact Hg
    isplitl [Ho]; · iexact Ho
    isplitl [H0]; · iexact H0
    isplitl [H1]; · iexact H1
    isplitl [H2]
    · rw [hz]; unfold accAt; iexact H2
    iexact HE
  · rw [if_neg (fun e => hz ((cond_iff t).mp e))]
    simp only [before_2 m c t hz]
    iintro ⟨⟨HE, Hg⟩, Ho, ⟨%d0, H0⟩, ⟨%d1, H1⟩, ⟨%d2, H2⟩⟩
    iapply (end_at m c t)
    isplitl [Hg]; · iexact Hg
    isplitl [Ho]; · iexact Ho
    isplitl [H0]; · iexact H0
    isplitl [H1]; · iexact H1
    isplitl [H2]; · iexact H2
    iexact HE

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c :=
  Idealize.SL.BI.Entails.refl _

/-! ## The run -/

set_option backward.isDefEq.respectTransparency.types false in
set_option maxHeartbeats 800000 in
/-- The launch: the arrays end as the data says, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_quiescent m ρ)

end Cert.KTwoIdeal.Gen
-- ==== Proof.Twin2.lean ====
module
public import proofs.«01_k».proof.Proof.Launch2
public import proofs.«01_k».proof.Proof.Gen.KTwo.Frame
@[expose] public section
noncomputable section
open Idealize.ShloMosaic Idealize.SL.Sem
variable {F : FTy → Type} [FloatOps F]
attribute [local instance] Cert.KTwo.Gen.facts Cert.KTwoIdeal.Gen.facts
namespace Cert.Twin2

/-- The printed kernel and its idealization are one text. -/
theorem cc_eq : @Cert.KTwo.cc0__k2 F _ _ = @Cert.KTwoIdeal.cc0__k2 F _ _ := rfl

/-- So are their tables of bodies. -/
theorem defs₀_eq : Cert.KTwo.defs₀ (F := F) = Cert.KTwoIdeal.defs₀ (F := F) := by
  unfold Cert.KTwo.defs₀ Cert.KTwoIdeal.defs₀
  refine congrArg _ ?_
  funext l x
  match l, x with
  | 0, (t, s) =>
    dsimp only
    rw [cc_eq]
    have h0 : Cert.KTwo.stage0_0 (s 0) = Cert.KTwoIdeal.stage0_0 (s 0) := by
      generalize s 0 = k; match k with | 0 => rfl | 1 => rfl
    have h1 : Cert.KTwo.stage0_1 (s 1) = Cert.KTwoIdeal.stage0_1 (s 1) := by
      generalize s 1 = k; match k with | 0 => rfl
    have h2 : Cert.KTwo.stage0_2 (s 2) = Cert.KTwoIdeal.stage0_2 (s 2) := by
      generalize s 2 = k; match k with | 0 => rfl
    congr 1

theorem defs_eq : Cert.KTwo.defs (F := F) = Cert.KTwoIdeal.defs (F := F) := by
  unfold Cert.KTwo.defs Cert.KTwoIdeal.defs
  rw [defs₀_eq]
  rfl

/-- The printed kernel runs as its idealization does. -/
theorem frame (m : (ℓ : Loc Cert.KTwo.nD Cert.KTwo.τ Cert.KTwo.sig) → Buf (Elt F) ℓ) (ρ : Dev Cert.KTwo.nD → PrngReg) :
    θ_run (Cert.KTwo.defs (F := F)) (onTc (τ := Cert.KTwo.τ) (Cert.KTwo.main (F := F))) ⟨m, fun _ => 0, ρ⟩ (fun r => (∀ c : Dev Cert.KTwo.nD,
      r.2.mem ((c.tc : Thread Cert.KTwo.nD Cert.KTwo.τ).loc Cert.KTwo.main_arg0) = m ((c.tc : Thread Cert.KTwo.nD Cert.KTwo.τ).loc Cert.KTwo.main_arg0)
      ∧ r.2.mem ((c.tc : Thread Cert.KTwo.nD Cert.KTwo.τ).loc Cert.KTwo.main_arg1) = m ((c.tc : Thread Cert.KTwo.nD Cert.KTwo.τ).loc Cert.KTwo.main_arg1))
      ∧ r.2.sem = fun _ => 0) := by
  rw [defs_eq]
  exact Cert.KTwoIdeal.Gen.frame m ρ

end Cert.Twin2
-- ==== Proof.KernelAt2.lean ====
module

public import proofs.«01_k».proof.Proof.BodyRun2
public import proofs.«01_k».proof.Proof.KernelAt

@[expose] public section

set_option maxRecDepth 16384

noncomputable section

namespace Cert.KTwoIdeal.Gen

open Idealize.ShloMosaic Cert.Cell Cert.Pixel Cert.Run
open Cert.KThreeIdeal.Gen (invE eAt featB sumUp_apply)
open scoped BigOperators

/-! ## The pieces of the sums at an index -/

theorem iota_col2 (h : S256x32.Iotas .tc 32 [1]) (j : S256x32.Idx) : iota .tc S256x32 32 [1] h j = BitVec.ofNat 32 (j 1).val := by
  simp [iota]
theorem iota_row2 (h : S256x32.Iotas .tc 32 [0]) (j : S256x32.Idx) : iota .tc S256x32 32 [0] h j = BitVec.ofNat 32 (j 0).val := by
  simp [iota]

theorem redMat_apply (j : S256x32.Idx) :
    redMat (F := Ideal) j = FloatOps.sitofp .f32 (Scalar.extui (IntOp.cmpi .eq (floorDiv (BitVec.ofNat 32 (j 0).val) 8#32) (BitVec.ofNat 32 (j 1).val))) := by
  rw [← iota_col2 iota_S256x32_d1_w32 j, ← iota_row2 iota_S256x32_d0_w32 j]; rfl

/-- The matrix that sums each eight columns at an index. -/
theorem redMat_col (k : Fin 32) (w : Fin 256) : redMat (F := Ideal) (ix2 w k) = if k.val = w.val / 8 then 1 else 0 := by
  refine Eq.trans ?_ (Cert.KThreeIdeal.Gen.expMat_col k w)
  rw [redMat_apply, Cert.KThreeIdeal.Gen.expMat_apply]; rfl

theorem fiV_low (f : FVec Ideal S6x16x256 .f32) (inv : FVec Ideal S16x256 .f32) (c : Fin 6) (p : Fin 16) (w : Fin 256) :
    fiV f inv (ix3 (⟨c.val, by omega⟩ : Fin 7) p w) = f (ix3 c p w) * inv (ix2 p w) := by
  unfold fiV
  pointwise

theorem fiV_last (f : FVec Ideal S6x16x256 .f32) (inv : FVec Ideal S16x256 .f32) (p : Fin 16) (w : Fin 256) :
    fiV f inv (ix3 (6 : Fin 7) p w) = inv (ix2 p w) := by
  unfold fiV
  pointwise

/-- The data over the sum of the exponentials. -/
theorem fiV_apply (f : FVec Ideal S6x16x256 .f32) (inv : FVec Ideal S16x256 .f32) (c : Fin 7) (p : Fin 16) (w : Fin 256) :
    fiV f inv (ix3 c p w) = datum (fun k => f (ix3 k p w)) c * inv (ix2 p w) := by
  unfold datum
  by_cases h : c.val < 6
  · rw [dif_pos h]; exact fiV_low f inv ⟨c.val, h⟩ p w
  · have e : c = 6 := Fin.ext (by show c.val = 6; omega)
    rw [dif_neg h, e, one_mul]; exact fiV_last f inv p w

theorem invE_apply (g : Fin 27 → FVec Ideal S16x256 .f32) (j : S16x256.Idx) : invE g j = Ideal.div 1 (∑ k, g k j) := by
  unfold invE
  show Ideal.div (Ideal.ofBits .f32 0x3F800000#32) (Cert.KThreeIdeal.Gen.sumUp 27 _ g j) = _
  rw [Ideal.ofBits_one_f32, sumUp_apply]
  have z : (broadcast S16x256 (Scalar.ofBits .f32 0x00000000#32) : FVec Ideal S16x256 .f32) j = 0 := by
    show Ideal.ofBits .f32 0x00000000#32 = 0
    simp [Ideal.ofBits, Ideal.ieee]
  rw [z, zero_add]

theorem unslot_cast (g : FVec Ideal S16x256 .f32) : unslot (F := Ideal) (shapeCast S1x16x256 g shapeCasts_S16x256_S1x16x256) = g := by
  funext j
  obtain ⟨p, w, rfl⟩ : ∃ (p : Fin 16) (w : Fin 256), j = ix2 p w := ⟨j 0, j 1, (ix2_eta j).symm⟩
  unfold unslot
  pointwise

theorem partV_apply (e : FVec Ideal S16x256 .f32) (fi : FVec Ideal S7x16x256 .f32) (c : Fin 7) (w : Fin 256) :
    partV e fi (ix2 c w) = ∑ s : Fin 16, e (ix2 s w) * fi (ix3 c s w) := by
  unfold partV
  pointwise

/-- Three blocks of rows, one under the other, at an index. -/
theorem stack_apply (p : Fin 3 → FVec Ideal S7x256 .f32) (d : Fin 3) (c : Fin 7) (w : Fin 256) :
    concatenate S21x256 0 [⟨S7x256, p 0⟩, ⟨S7x256, p 1⟩, ⟨S7x256, p 2⟩] concatenates_S7x256_S7x256_S7x256_S21x256_d0 (ix2 (⟨7 * d.val + c.val, by omega⟩ : Fin 21) w) = p d (ix2 c w) := by
  have hc := c.isLt
  fin_cases d
  · pointwise
  · pointwise
    rw [dif_neg (by omega), dif_pos (by omega)]
    exact congrArg (fun z => p 1 (ix2 z w)) (Fin.ext (by show 7 + c.val - 7 = c.val; omega))
  · pointwise
    rw [dif_neg (by omega), dif_neg (by omega)]
    exact congrArg (fun z => p 2 (ix2 z w)) (Fin.ext (by show 14 + c.val - 7 - 7 = c.val; omega))

theorem cellsU_apply (p : Fin 3 → FVec Ideal S7x256 .f32) (d : Fin 3) (c : Fin 7) (j : Fin 32) :
    cellsU p (ix2 (⟨7 * d.val + c.val, by omega⟩ : Fin 21) j) = ∑ w : Fin 256, p d (ix2 c w) * (if j.val = w.val / 8 then 1 else 0) := by
  have h : cellsU p (ix2 (⟨7 * d.val + c.val, by omega⟩ : Fin 21) j)
      = ∑ w : Fin 256, concatenate S21x256 0 [⟨S7x256, p 0⟩, ⟨S7x256, p 1⟩, ⟨S7x256, p 2⟩] concatenates_S7x256_S7x256_S7x256_S21x256_d0 (ix2 (⟨7 * d.val + c.val, by omega⟩ : Fin 21) w) * redMat (ix2 w j) := by
    unfold cellsU
    generalize concatenate S21x256 0 [⟨S7x256, p 0⟩, ⟨S7x256, p 1⟩, ⟨S7x256, p 2⟩] concatenates_S7x256_S7x256_S7x256_S21x256_d0 = y
    pointwise [dot_S21x256_S256x32_S21x32_1_0_0_1_n_n]
  rw [h]
  exact Finset.sum_congr rfl fun w _ => by rw [stack_apply, redMat_col]

/-! ## Sums moved to a neighbour's column -/

theorem foldL_apply (u : FVec Ideal S7x32 .f32) (c : Fin 7) (q : Fin 32) :
    foldL u (ix2 c q) = if q.val = 0 then u (ix2 c 0) + u (ix2 c 1) else if h : q.val < 31 then u (ix2 c ⟨q.val + 1, by omega⟩) else 0 := by
  unfold foldL
  pointwise
  by_cases h0 : q.val = 0
  · obtain rfl : q = 0 := Fin.ext h0
    rfl
  · rw [dif_neg (by omega), if_neg h0]
    by_cases h : q.val < 31
    · rw [dif_pos (by omega), dif_pos h]
      exact congrArg (fun z => u (ix2 c z)) (Fin.ext (by show 2 + (q.val - 1) = q.val + 1; omega))
    · rw [dif_neg (by omega), dif_neg h]

theorem foldR_apply (u : FVec Ideal S7x32 .f32) (c : Fin 7) (q : Fin 32) :
    foldR u (ix2 c q) = if q.val = 31 then u (ix2 c 30) + u (ix2 c 31) else if h : 0 < q.val then u (ix2 c ⟨q.val - 1, by omega⟩) else 0 := by
  unfold foldR
  pointwise
  by_cases h0 : q.val = 31
  · obtain rfl : q = 31 := Fin.ext h0
    rfl
  · rw [if_neg h0]
    by_cases h : 0 < q.val
    · rw [dif_neg (by omega), dif_pos (by omega), dif_pos h]
    · rw [dif_pos (by omega), dif_neg h]

/-- Numbers moved one cell left. -/
theorem sum_left (v : Fin 32 → EReal) (q : Fin 32) :
    (∑ j : Fin 32, if clampN 32 j.val 0 = q.val then v j else 0) = if q.val = 0 then v 0 + v 1 else if h : q.val < 31 then v ⟨q.val + 1, by omega⟩ else 0 := by
  by_cases h0 : q.val = 0
  · rw [if_pos h0, Fin.sum_univ_succ, Fin.sum_univ_succ, Finset.sum_eq_zero, add_zero]
    · rw [if_pos (by rw [h0]; rfl), if_pos (by rw [h0]; rfl)]; rfl
    · intro j _
      refine if_neg ?_
      show ¬ clampN 32 (j.val + 1 + 1) 0 = q.val
      unfold clampN; omega
  · rw [if_neg h0]
    by_cases h : q.val < 31
    · rw [dif_pos h, Finset.sum_eq_single (⟨q.val + 1, by omega⟩ : Fin 32)]
      · exact if_pos (by show clampN 32 (q.val + 1) 0 = q.val; unfold clampN; omega)
      · intro j _ hj
        refine if_neg fun e => hj (Fin.ext ?_)
        show j.val = q.val + 1
        unfold clampN at e; omega
      · intro e; exact absurd (Finset.mem_univ _) e
    · rw [dif_neg h]
      refine Finset.sum_eq_zero fun j _ => if_neg fun e => ?_
      have := j.isLt
      unfold clampN at e; omega

/-- Numbers moved one cell right. -/
theorem sum_right (v : Fin 32 → EReal) (q : Fin 32) :
    (∑ j : Fin 32, if clampN 32 j.val 2 = q.val then v j else 0) = if q.val = 31 then v 30 + v 31 else if h : 0 < q.val then v ⟨q.val - 1, by omega⟩ else 0 := by
  by_cases h0 : q.val = 31
  · rw [if_pos h0, Fin.sum_univ_castSucc, Fin.sum_univ_castSucc, Finset.sum_eq_zero, zero_add]
    · rw [if_pos (by rw [h0]; rfl), if_pos (by rw [h0]; rfl)]; rfl
    · intro j _
      refine if_neg ?_
      show ¬ clampN 32 j.val 2 = q.val
      unfold clampN; omega
  · rw [if_neg h0]
    by_cases h : 0 < q.val
    · rw [dif_pos h, Finset.sum_eq_single (⟨q.val - 1, by omega⟩ : Fin 32)]
      · exact if_pos (by show clampN 32 (q.val - 1) 2 = q.val; unfold clampN; omega)
      · intro j _ hj
        refine if_neg fun e => hj (Fin.ext ?_)
        show j.val = q.val - 1
        unfold clampN at e; omega
      · intro e; exact absurd (Finset.mem_univ _) e
    · rw [dif_neg h]
      refine Finset.sum_eq_zero fun j _ => if_neg fun e => ?_
      unfold clampN at e; omega

/-- Numbers kept where they are. -/
theorem sum_mid (v : Fin 32 → EReal) (q : Fin 32) : (∑ j : Fin 32, if clampN 32 j.val 1 = q.val then v j else 0) = v q := by
  rw [Finset.sum_eq_single q]
  · exact if_pos (by unfold clampN; omega)
  · intro j _ hj
    refine if_neg fun e => hj (Fin.ext ?_)
    have := j.isLt
    unfold clampN at e; omega
  · intro e; exact absurd (Finset.mem_univ _) e

/-- Columns summed by cells, then moved, are columns summed at their neighbour's cell. -/
theorem sum_cells (v : Fin 256 → EReal) (d : ℕ) (q : Fin 32) :
    (∑ j : Fin 32, if clampN 32 j.val d = q.val then ∑ w : Fin 256, v w * (if j.val = w.val / 8 then 1 else 0) else 0)
      = ∑ w : Fin 256, if clampN 32 (w.val / 8) d = q.val then v w else 0 := by
  have e : ∀ j : Fin 32, (if clampN 32 j.val d = q.val then ∑ w : Fin 256, v w * (if j.val = w.val / 8 then 1 else 0) else 0)
      = ∑ w : Fin 256, if clampN 32 j.val d = q.val then v w * (if j.val = w.val / 8 then 1 else 0) else 0 := fun j => by
    by_cases h : clampN 32 j.val d = q.val
    · simp only [h, if_true]
    · simp only [h, if_false, Finset.sum_const_zero]
  rw [Finset.sum_congr rfl fun j _ => e j, Finset.sum_comm]
  refine Finset.sum_congr rfl fun w _ => ?_
  rw [Finset.sum_eq_single (⟨w.val / 8, by omega⟩ : Fin 32)]
  · dsimp only; rw [if_pos rfl, mul_one]
  · intro j _ hj
    rw [if_neg (show ¬ j.val = w.val / 8 from fun h => hj (Fin.ext h)), mul_zero, ite_self]
  · intro h; exact absurd (Finset.mem_univ _) h

theorem addV_low (u : FVec Ideal S21x32 .f32) (c : Fin 7) (q : Fin 32) :
    addV u (ix2 (⟨c.val, by omega⟩ : Fin 8) q) = ∑ d : Fin 3, ∑ j : Fin 32, if clampN 32 j.val d.val = q.val then u (ix2 (⟨7 * d.val + c.val, by omega⟩ : Fin 21) j) else 0 := by
  have e0 : ∀ j : Fin 32, extractStridedSlice S7x32 ![0, 0] u slices_S21x32_o0_0_S7x32 (ix2 c j) = u (ix2 (⟨7 * 0 + c.val, by omega⟩ : Fin 21) j) := fun j => by
    pointwise
  have e1 : ∀ j : Fin 32, extractStridedSlice S7x32 ![7, 0] u slices_S21x32_o7_0_S7x32 (ix2 c j) = u (ix2 (⟨7 * 1 + c.val, by omega⟩ : Fin 21) j) := fun j => by
    pointwise
  have e2 : ∀ j : Fin 32, extractStridedSlice S7x32 ![14, 0] u slices_S21x32_o14_0_S7x32 (ix2 c j) = u (ix2 (⟨7 * 2 + c.val, by omega⟩ : Fin 21) j) := fun j => by
    pointwise
  have h : addV u (ix2 (⟨c.val, by omega⟩ : Fin 8) q) = (foldL (extractStridedSlice S7x32 ![0, 0] u slices_S21x32_o0_0_S7x32) (ix2 c q) + extractStridedSlice S7x32 ![7, 0] u slices_S21x32_o7_0_S7x32 (ix2 c q))
      + foldR (extractStridedSlice S7x32 ![14, 0] u slices_S21x32_o14_0_S7x32) (ix2 c q) := by
    unfold addV
    generalize foldL (extractStridedSlice S7x32 ![0, 0] u slices_S21x32_o0_0_S7x32) = y0
    generalize extractStridedSlice S7x32 ![7, 0] u slices_S21x32_o7_0_S7x32 = y1
    generalize foldR (extractStridedSlice S7x32 ![14, 0] u slices_S21x32_o14_0_S7x32) = y2
    pointwise
  rw [h, foldL_apply, foldR_apply, Fin.sum_univ_three]
  refine congrArg₂ (· + ·) (congrArg₂ (· + ·) ?_ ?_) ?_
  · refine Eq.trans ?_ (sum_left (fun j => u (ix2 (⟨7 * 0 + c.val, by omega⟩ : Fin 21) j)) q).symm
    simp only [e0]
  · exact (e1 q).trans (sum_mid (fun j => u (ix2 (⟨7 * 1 + c.val, by omega⟩ : Fin 21) j)) q).symm
  · refine Eq.trans ?_ (sum_right (fun j => u (ix2 (⟨7 * 2 + c.val, by omega⟩ : Fin 21) j)) q).symm
    simp only [e2]

theorem addV_last (u : FVec Ideal S21x32 .f32) (q : Fin 32) : addV u (ix2 (7 : Fin 8) q) = 0 := by
  unfold addV
  pointwise

/-- What a point adds to a cell. -/
theorem tot_apply (g : Fin 27 → FVec Ideal S16x256 .f32) (fi : FVec Ideal S7x16x256 .f32) (k : Fin 9) (c : Fin 7) (q : Fin 32) :
    tot g fi k (ix2 (⟨c.val, by omega⟩ : Fin 8) q)
      = ∑ d : Fin 3, ∑ w : Fin 256, if clampN 32 (w.val / 8) d.val = q.val then ∑ s : Fin 16, g ⟨3 * k.val + d.val, by omega⟩ (ix2 s w) * fi (ix3 c s w) else 0 := by
  unfold tot
  rw [addV_low]
  refine Finset.sum_congr rfl fun d _ => ?_
  simp only [cellsU_apply]
  rw [sum_cells]
  refine Finset.sum_congr rfl fun w _ => ?_
  rw [unslot_cast, partV_apply]

theorem tot_last (g : Fin 27 → FVec Ideal S16x256 .f32) (fi : FVec Ideal S7x16x256 .f32) (k : Fin 9) (q : Fin 32) : tot g fi k (ix2 (7 : Fin 8) q) = 0 :=
  addV_last _ q

theorem rowAdd_apply (a : Vec Ideal S1x8x32 .f32) (v : FVec Ideal S8x32 .f32) (c : Fin 8) (q : Fin 32) : rowAdd a v (ix3 0 c q) = a (ix3 0 c q) + v (ix2 c q) := by
  unfold rowAdd
  pointwise

/-- A row written over, at an index. -/
theorem put_row (a : Vec Ideal S128x8x32 .f32) (v : FVec Ideal S8x32 .f32) (n : ℕ) (b : Fin 128) (c : Fin 8) (q : Fin 32) (off : Fin 3 → ℕ) (hn : off = ![n, 0, 0])
    (hi : ∀ e : Fin 3, off e + S1x8x32.size e ≤ S128x8x32.size e) :
    VecWindow.put (s := S128x8x32) a off S1x8x32.size (rowAdd (VecWindow.window (s := S128x8x32) a off S1x8x32.size hi) v) (ix3 b c q)
      = a (ix3 b c q) + if n = b.val then v (ix2 c q) else 0 := by
  subst hn
  unfold VecWindow.put
  by_cases h : n = b.val
  · rw [if_pos h, dif_pos]
    swap
    · intro e
      fin_cases e
      · show n ≤ b.val ∧ b.val < n + 1
        omega
      · show 0 ≤ c.val ∧ c.val < 0 + 8
        omega
      · show 0 ≤ q.val ∧ q.val < 0 + 32
        omega
    refine Eq.trans ?_ ((rowAdd_apply (VecWindow.window (s := S128x8x32) a ![n, 0, 0] S1x8x32.size hi) v c q).trans ?_)
    · refine congrArg (rowAdd _ v) (funext fun e => Fin.ext ?_)
      fin_cases e
      · show b.val - n = 0
        omega
      · show c.val - 0 = c.val
        omega
      · show q.val - 0 = q.val
        omega
    · refine congrArg (· + v (ix2 c q)) (congrArg a (funext fun e => Fin.ext ?_))
      fin_cases e
      · show n + 1 * 0 = b.val
        omega
      · show 0 + 1 * c.val = c.val
        omega
      · show 0 + 1 * q.val = q.val
        omega
  · rw [if_neg h, dif_neg, add_zero]
    intro e
    have := e 0
    exact h (by
      have h1 : n ≤ b.val := this.1
      have h2 : b.val < n + 1 := this.2
      omega)

/-- A row added to at an index. -/
theorem accStep_apply (i : grid0.Coords) (g : Fin 27 → FVec Ideal S16x256 .f32) (fi : FVec Ideal S7x16x256 .f32) (k : Fin 9) (a : Vec Ideal S128x8x32 .f32) (n : ℕ)
    (hn : k0_off2 i (k0_off2_at k).1 (k0_off2_at k).2 = ![n, 0, 0]) (b : Fin 128) (c : Fin 8) (q : Fin 32) :
    accStep i g fi k a (ix3 b c q) = a (ix3 b c q) + if n = b.val then tot g fi k (ix2 c q) else 0 :=
  put_row a (tot g fi k) n b c q _ hn (k0_off2_inb i k)

/-- The nine rows added to at an index. -/
theorem accN_apply (i : grid0.Coords) (g : Fin 27 → FVec Ideal S16x256 .f32) (fi : FVec Ideal S7x16x256 .f32) (a : Vec Ideal S128x8x32 .f32) (n : Fin 9 → ℕ)
    (hn : ∀ k, k0_off2 i (k0_off2_at k).1 (k0_off2_at k).2 = ![n k, 0, 0]) (b : Fin 128) (c : Fin 8) (q : Fin 32) :
    accN i g fi a 9 (ix3 b c q) = a (ix3 b c q) + ∑ k : Fin 9, if n k = b.val then tot g fi k (ix2 c q) else 0 := by
  have h : ∀ N, (hN : N ≤ 9) → accN i g fi a N (ix3 b c q) = a (ix3 b c q) + ∑ k : Fin N, if n ⟨k.val, by omega⟩ = b.val then tot g fi ⟨k.val, by omega⟩ (ix2 c q) else 0 := by
    intro N
    induction N with
    | zero => intro _; show a _ = _; simp
    | succ N ih =>
      intro hN
      rw [Fin.sum_univ_castSucc, ← add_assoc]
      refine Eq.trans ?_ (congrArg (· + _) (ih (by omega)))
      have e := accN_succ i g fi a ⟨N, by omega⟩
      dsimp only at e
      rw [e, accStep_apply i g fi ⟨N, by omega⟩ _ _ (hn _)]
      rfl
  exact h 9 le_rfl

end Cert.KTwoIdeal.Gen
-- ==== Proof.Sums.lean ====
module

public import proofs.«01_k».proof.Proof.Words
public import proofs.«01_k».proof.Proof.Pixel

@[expose] public section

noncomputable section

namespace Cert.Sums

open Cert.Cell
open scoped BigOperators

/-! The pixels and their neighbours taken block by block. Block `t` holds two layers and eight rows, sixteen lines in all. -/

/-- The layer of line `s` of block `t`. -/
def lineL (t : Fin 128) (s : Fin 16) : Fin 8 := ⟨t.val / 32 * 2 + s.val / 8, by omega⟩
/-- The row of line `s` of block `t`. -/
def lineH (t : Fin 128) (s : Fin 16) : Fin 256 := ⟨t.val % 32 * 8 + s.val % 8, by omega⟩

/-- The lines of all blocks are the lines of the array. -/
def lines : Fin 128 × Fin 16 ≃ Fin 8 × Fin 256 where
  toFun p := (lineL p.1 p.2, lineH p.1 p.2)
  invFun p := (⟨p.1.val / 2 * 32 + p.2.val / 8, by omega⟩, ⟨p.1.val % 2 * 8 + p.2.val % 8, by omega⟩)
  left_inv p := by
    obtain ⟨t, s⟩ := p
    refine Prod.ext (Fin.ext ?_) (Fin.ext ?_)
    · show (t.val / 32 * 2 + s.val / 8) / 2 * 32 + (t.val % 32 * 8 + s.val % 8) / 8 = t.val
      omega
    · show (t.val / 32 * 2 + s.val / 8) % 2 * 8 + (t.val % 32 * 8 + s.val % 8) % 8 = s.val
      omega
  right_inv p := by
    obtain ⟨l, h⟩ := p
    refine Prod.ext (Fin.ext ?_) (Fin.ext ?_)
    · show (l.val / 2 * 32 + h.val / 8) / 32 * 2 + (l.val % 2 * 8 + h.val % 8) / 8 = l.val
      omega
    · show (l.val / 2 * 32 + h.val / 8) % 32 * 8 + (l.val % 2 * 8 + h.val % 8) % 8 = h.val
      omega

theorem sum_lines (f : Fin 8 → Fin 256 → EReal) : (∑ t : Fin 128, ∑ s : Fin 16, f (lineL t s) (lineH t s)) = ∑ l : Fin 8, ∑ h : Fin 256, f l h := by
  rw [← Fintype.sum_prod_type' f, ← Fintype.sum_prod_type' fun t s => f (lineL t s) (lineH t s)]
  exact Equiv.sum_comp lines fun p : Fin 8 × Fin 256 => f p.1 p.2

/-- The 27 neighbours three by three. -/
theorem sum_nine (f : Fin 27 → EReal) : (∑ k : Fin 9, ∑ d : Fin 3, f ⟨3 * k.val + d.val, by omega⟩) = ∑ r : Fin 27, f r := by
  rw [← Fintype.sum_prod_type' fun (k : Fin 9) (d : Fin 3) => f ⟨3 * k.val + d.val, by omega⟩]
  refine Fintype.sum_equiv (finProdFinEquiv (m := 9) (n := 3)) _ f fun p => congrArg f (Fin.ext ?_)
  show 3 * p.1.val + p.2.val = p.2.val + 3 * p.1.val
  omega

/-- The row of cells of line `s`'s neighbours is the block's. -/
theorem rowOf_line (t : Fin 128) (s : Fin 16) (k : Fin 9) (d : Fin 3) :
    rowOf (lineL t s).val (lineH t s).val (3 * k.val + d.val) = clampN 4 (t.val / 32) (k.val / 3) * 32 + clampN 32 (t.val % 32) (k.val % 3) := by
  have e1 : (lineL t s).val / 2 = t.val / 32 := by unfold lineL; dsimp only; omega
  have e2 : (lineH t s).val / 8 = t.val % 32 := by unfold lineH; dsimp only; omega
  have e3 : (3 * k.val + d.val) / 9 = k.val / 3 := by omega
  have e4 : (3 * k.val + d.val) / 3 % 3 = k.val % 3 := by omega
  unfold rowOf
  rw [e1, e2, e3, e4]

/-- A line's neighbour is a cell iff its row and its column are the cell's. -/
theorem numOf_line (t : Fin 128) (s : Fin 16) (w : Fin 256) (k : Fin 9) (d : Fin 3) (b : Fin 128) (q : Fin 32) :
    numOf (lineL t s).val (lineH t s).val w.val (3 * k.val + d.val) = b.val * 32 + q.val
      ↔ clampN 4 (t.val / 32) (k.val / 3) * 32 + clampN 32 (t.val % 32) (k.val % 3) = b.val ∧ clampN 32 (w.val / 8) d.val = q.val := by
  have e : (3 * k.val + d.val) % 3 = d.val := by omega
  have hc : clampN 32 (w.val / 8) d.val < 32 := clampN_lt (by decide) _ _
  unfold numOf colOf
  rw [rowOf_line, e]
  have hq := q.isLt
  omega

/-- The sums block by block are the sums over all pixels and neighbours. -/
theorem regroup (T : Fin 27 → Fin 8 → Fin 256 → Fin 256 → EReal) (b : Fin 128) (q : Fin 32) :
    (∑ t : Fin 128, ∑ k : Fin 9, if clampN 4 (t.val / 32) (k.val / 3) * 32 + clampN 32 (t.val % 32) (k.val % 3) = b.val then
        ∑ d : Fin 3, ∑ w : Fin 256, if clampN 32 (w.val / 8) d.val = q.val then ∑ s : Fin 16, T ⟨3 * k.val + d.val, by omega⟩ (lineL t s) (lineH t s) w else 0 else 0)
      = ∑ r : Fin 27, ∑ l : Fin 8, ∑ h : Fin 256, ∑ w : Fin 256, if numOf l.val h.val w.val r.val = b.val * 32 + q.val then T r l h w else 0 := by
  let U : Fin 27 → Fin 8 → Fin 256 → EReal := fun r l h => ∑ w : Fin 256, if numOf l.val h.val w.val r.val = b.val * 32 + q.val then T r l h w else 0
  have h1 : ∀ (t : Fin 128) (k : Fin 9), (if clampN 4 (t.val / 32) (k.val / 3) * 32 + clampN 32 (t.val % 32) (k.val % 3) = b.val then
        ∑ d : Fin 3, ∑ w : Fin 256, if clampN 32 (w.val / 8) d.val = q.val then ∑ s : Fin 16, T ⟨3 * k.val + d.val, by omega⟩ (lineL t s) (lineH t s) w else 0 else 0)
      = ∑ d : Fin 3, ∑ s : Fin 16, U ⟨3 * k.val + d.val, by omega⟩ (lineL t s) (lineH t s) := fun t k => by
    have h2 : ∀ d : Fin 3, (∑ s : Fin 16, U ⟨3 * k.val + d.val, by omega⟩ (lineL t s) (lineH t s))
        = ∑ w : Fin 256, ∑ s : Fin 16, if clampN 4 (t.val / 32) (k.val / 3) * 32 + clampN 32 (t.val % 32) (k.val % 3) = b.val ∧ clampN 32 (w.val / 8) d.val = q.val then
            T ⟨3 * k.val + d.val, by omega⟩ (lineL t s) (lineH t s) w else 0 := fun d => by
      rw [Finset.sum_comm]
      refine Finset.sum_congr rfl fun w _ => Finset.sum_congr rfl fun s _ => ?_
      exact if_congr (numOf_line t s w k d b q) rfl rfl
    rw [Finset.sum_congr rfl fun d _ => h2 d]
    by_cases hb : clampN 4 (t.val / 32) (k.val / 3) * 32 + clampN 32 (t.val % 32) (k.val % 3) = b.val
    · rw [if_pos hb]
      refine Finset.sum_congr rfl fun d _ => Finset.sum_congr rfl fun w _ => ?_
      by_cases hq : clampN 32 (w.val / 8) d.val = q.val
      · rw [if_pos hq]
        exact Finset.sum_congr rfl fun s _ => (if_pos ⟨hb, hq⟩).symm
      · rw [if_neg hq]
        exact (Finset.sum_eq_zero fun s _ => if_neg fun e => hq e.2).symm
    · rw [if_neg hb]
      exact (Finset.sum_eq_zero fun d _ => Finset.sum_eq_zero fun w _ => Finset.sum_eq_zero fun s _ => if_neg fun e => hb e.1).symm
  rw [Finset.sum_congr rfl fun t _ => Finset.sum_congr rfl fun k _ => h1 t k]
  rw [Finset.sum_congr rfl fun (t : Fin 128) _ => sum_nine fun r => ∑ s : Fin 16, U r (lineL t s) (lineH t s)]
  rw [Finset.sum_comm]
  exact Finset.sum_congr rfl fun r _ => sum_lines (U r)

end Cert.Sums
-- ==== Proof.Arrays2.lean ====
module

public import proofs.«01_k».proof.Proof.Launch2
public import proofs.«01_k».proof.Proof.KernelAt2
public import proofs.«01_k».proof.Proof.Sums
public import Idealize.ShloMosaic.Lib.Pipeline.ValueKit

@[expose] public section

set_option maxRecDepth 16384

noncomputable section

namespace Cert.KTwoIdeal.Gen

open Idealize.ShloMosaic Idealize.ShloMosaic.TcCoe Cert.Cell Cert.Pixel Cert.Sums
open Idealize.ShloMosaic.Pipeline (Dat Cfg Window)
open Cert.KThreeIdeal.Gen (eAt rowsAt invE featB eAt_apply featB_apply)
open scoped BigOperators

/-! ## The blocks of the second call -/

/-- A point's number. -/
def pt (t : Fin 128) : Fin cfg0.N := t.cast N_0.symm

theorem coords_0 : ∀ t : Fin 128, (grid0.coords (pt t) 0).val = t.val / 32 :=
  (by decide +kernel : ∀ t : Fin 128, (grid0.coords (t.cast N_0.symm) 0).val = t.val / 32)
theorem coords_1 : ∀ t : Fin 128, (grid0.coords (pt t) 1).val = t.val % 32 :=
  (by decide +kernel : ∀ t : Fin 128, (grid0.coords (t.cast N_0.symm) 1).val = t.val % 32)

theorem at_0 : ∀ t : Fin 128, win0_0.index (pt t) = ![0, 0, t.val / 32, t.val % 32, 0] :=
  (by decide +kernel : ∀ t : Fin 128, win0_0.index (t.cast N_0.symm) = ![0, 0, t.val / 32, t.val % 32, 0])
theorem at_1 : ∀ t : Fin 128, win0_1.index (pt t) = ![0, 0, 0] :=
  (by decide +kernel : ∀ t : Fin 128, win0_1.index (t.cast N_0.symm) = ![0, 0, 0])

/-- The row of cells the `k`th sums of point `t` go to. -/
def rowNo (t : Fin 128) (k : Fin 9) : ℕ := clampN 4 (t.val / 32) (k.val / 3) * 32 + clampN 32 (t.val % 32) (k.val % 3)

theorem off1_eq : ∀ (t : Fin 128) (k : Fin 9), Cert.KThreeIdeal.k0_off1 (grid0.coords (pt t)) (Cert.KThreeIdeal.k0_off1_at k).1 (Cert.KThreeIdeal.k0_off1_at k).2 = ![rowNo t k, 0, 0] :=
  (by decide +kernel : ∀ (t : Fin 128) (k : Fin 9), Cert.KThreeIdeal.k0_off1 (grid0.coords (t.cast N_0.symm)) (Cert.KThreeIdeal.k0_off1_at k).1 (Cert.KThreeIdeal.k0_off1_at k).2
    = ![clampN 4 (t.val / 32) (k.val / 3) * 32 + clampN 32 (t.val % 32) (k.val % 3), 0, 0])
theorem off2_eq : ∀ (t : Fin 128) (k : Fin 9), k0_off2 (grid0.coords (pt t)) (k0_off2_at k).1 (k0_off2_at k).2 = ![rowNo t k, 0, 0] :=
  (by decide +kernel : ∀ (t : Fin 128) (k : Fin 9), k0_off2 (grid0.coords (t.cast N_0.symm)) (k0_off2_at k).1 (k0_off2_at k).2
    = ![clampN 4 (t.val / 32) (k.val / 3) * 32 + clampN 32 (t.val % 32) (k.val % 3), 0, 0])

variable (m : (ℓ : Loc nD τ sig) → Buf (Elt Ideal) ℓ) (c : Dev nD)

theorem xB_apply (t : Fin 128) (k : Fin 6) (s : Fin 16) (w : Fin 256) :
    xB m c (pt t) (ix5 0 k ⟨s.val / 8, by omega⟩ ⟨s.val % 8, by omega⟩ w) = m ((c.tc : Thread nD τ).loc main_arg0) (ix5 0 k (lineL t s) (lineH t s) w) := by
  unfold xB
  blk_simp [iblk, at_0]
  refine congrArg (m ((c.tc : Thread nD τ).loc main_arg0)) ?_
  blk_ext [at_0, lineL, lineH, ix5]

theorem spB_apply (t : Fin 128) (j : S128x6x32.Idx) :
    spB m c (pt t) j = m ((c.tc : Thread nD τ).loc main_arg1) j := by
  unfold spB
  blk_simp [iblk, at_1]
  refine congrArg (m ((c.tc : Thread nD τ).loc main_arg1)) ?_
  blk_ext [at_1]

theorem arr_sums : (dats m 0 c).arrAt 2 cfg0.N = accAt m c 128 := by
  refine (dats m 0 c).arrAt_eq_of_after_last 2 ⟨127, by have : cfg0.N = 128 := N_0; omega⟩ (by decide +kernel) _ fun j => ?_
  rw [after_2]
  rfl

/-! ## The sums at an index -/

/-- The exponentials of point `t`. -/
def gP (t : Fin 128) : Fin 27 → FVec Ideal S16x256 .f32 := eAt (xB m c (pt t)) (rowsAt (grid0.coords (pt t)) (spB m c (pt t)))

/-- The features of point `t` times the reciprocals. -/
def fP (t : Fin 128) : FVec Ideal S7x16x256 .f32 := fiV (featB (xB m c (pt t))) (invE (gP m c t))

theorem acc_at (b : Fin 128) (d : Fin 8) (q : Fin 32) :
    accAt m c 128 (ix3 b d q) = ∑ t : Fin 128, ∑ k : Fin 9, if rowNo t k = b.val then tot (gP m c t) (fP m c t) k (ix2 d q) else 0 := by
  have h : ∀ N, (hN : N ≤ 128) → accAt m c N (ix3 b d q)
      = ∑ t : Fin N, ∑ k : Fin 9, if rowNo ⟨t.val, by omega⟩ k = b.val then tot (gP m c ⟨t.val, by omega⟩) (fP m c ⟨t.val, by omega⟩) k (ix2 d q) else 0 := by
    intro N
    induction N with
    | zero =>
      intro _
      show Ideal.ofBits .f32 0x00000000#32 = _
      simp
    | succ N ih =>
      intro hN
      rw [Fin.sum_univ_castSucc]
      have e := accAt_succ m c (pt ⟨N, by omega⟩)
      refine (congrFun e (ix3 b d q)).trans ?_
      refine (accN_apply (grid0.coords (pt ⟨N, by omega⟩)) (gP m c ⟨N, by omega⟩) (fP m c ⟨N, by omega⟩) (accAt m c N) (rowNo ⟨N, by omega⟩) (off2_eq ⟨N, by omega⟩) b d q).trans ?_
      rw [ih (by omega)]
      rfl
  exact h 128 le_rfl

/-- The features of a pixel. -/
def fX (l : Fin 8) (h w : Fin 256) (k : Fin 6) : EReal := m ((c.tc : Thread nD τ).loc main_arg0) (ix5 0 k l h w)
/-- The centre of a pixel's neighbour. -/
def gX (l : Fin 8) (h w : Fin 256) (r : Fin 27) (k : Fin 6) : EReal :=
  m ((c.tc : Thread nD τ).loc main_arg1) (ix3 ⟨rowOf l.val h.val r.val, rowOf_lt _ _ _⟩ k ⟨colOf w.val r.val, colOf_lt _ _⟩)

theorem rowsAt_line (t : Fin 128) (S : Vec Ideal S128x6x32 .f32) (s : Fin 16) (r : Fin 27) (k : Fin 6) (q : Fin 32) :
    rowsAt (grid0.coords (pt t)) S ⟨r.val / 3, by omega⟩ (ix3 0 k q) = S (ix3 ⟨rowOf (lineL t s).val (lineH t s).val r.val, rowOf_lt _ _ _⟩ k q) := by
  unfold rowsAt
  refine congrArg S (funext fun a => Fin.ext ?_)
  have e := congrFun (off1_eq t ⟨r.val / 3, by omega⟩) a
  show Cert.KThreeIdeal.k0_off1 (grid0.coords (pt t)) (Cert.KThreeIdeal.k0_off1_at _).1 (Cert.KThreeIdeal.k0_off1_at _).2 a + 1 * (ix3 (n0 := 1) 0 k q a).val = _
  rw [e]
  have er : r.val = 3 * (r.val / 3) + r.val % 3 := by omega
  have hr := rowOf_line t s ⟨r.val / 3, by omega⟩ ⟨r.val % 3, by omega⟩
  dsimp only at hr
  rw [← er] at hr
  fin_cases a
  · show rowNo t _ + 1 * 0 = rowOf _ _ _
    rw [hr]; unfold rowNo; dsimp only; omega
  · show 0 + 1 * k.val = k.val
    omega
  · show 0 + 1 * q.val = q.val
    omega

/-- The exponentials of a line. -/
theorem gP_apply (t : Fin 128) (r : Fin 27) (s : Fin 16) (w : Fin 256) :
    gP m c t r (ix2 s w) = Ideal.exp (scoreK (fX m c (lineL t s) (lineH t s) w) (gX m c (lineL t s) (lineH t s) w r)) := by
  unfold gP
  rw [eAt_apply]
  exact congrArg Ideal.exp (congrArg₂ scoreK (funext fun k => xB_apply m c t k s w)
    (funext fun k => (rowsAt_line t _ s r k _).trans (spB_apply m c t _)))

/-- The features of a line times its reciprocals. -/
theorem fP_apply (t : Fin 128) (d : Fin 7) (s : Fin 16) (w : Fin 256) :
    fP m c t (ix3 d s w) = datum (fX m c (lineL t s) (lineH t s) w) d * Ideal.div 1 (∑ k, gP m c t k (ix2 s w)) := by
  unfold fP
  rw [fiV_apply, invE_apply]
  exact congrArg (· * _) (congrArg (datum · d) (funext fun k => (featB_apply _ k s w).trans (xB_apply m c t k s w)))

end Cert.KTwoIdeal.Gen
-- ==== Proof.RefAt2.lean ====
module

public import proofs.«01_k».proof.Proof.Gen.RTwoIdeal.Read
public import proofs.«01_k».proof.Proof.Words
public import proofs.«01_k».proof.Proof.Pixel
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select
public import Idealize.ShloMosaic.Lib.Pipeline.Value
public import Idealize.ShloMosaic.Lib.Routing.OpsPair

@[expose] public section

set_option maxRecDepth 16384

noncomputable section

namespace Cert.RTwoIdeal.Read

open Cert.RTwoIdeal Cert.RTwoIdeal.Gen Idealize.ShloMosaic Idealize.ShloMosaic.TcCoe Cert.Cell Cert.Pixel
open scoped BigOperators

variable (x0 : S1x6x8x256x256.Idx → EReal) (x1 : S128x6x32.Idx → EReal)

/-! ## The sums' reference at an index -/

/-- The number of a neighbour's cell. -/
theorem v41_at (r : Fin 27) (l : Fin 8) (h w : Fin 256) :
    val_main_v41 (F := Ideal) (ix4 r l h w) = BitVec.ofNat 32 (numOf l.val h.val w.val r.val) := by
  rw [← refCell_eq]; rfl

/-- The table's columns are the cells. -/
theorem v43_at (k : Fin 6) (n : Fin 4096) : val_main_v43 (F := Ideal) x1 (ix2 k n)
    = x1 (ix3 ⟨n.val / 32, by omega⟩ k ⟨n.val % 32, by omega⟩) := by
  rw [val_main_v43_apply, val_main_v42_apply]
  refine congrArg x1 (funext fun a => Fin.ext ?_)
  fin_cases a
  · show (k.val * 4096 + n.val) / 32 % 128 = n.val / 32
    omega
  · show (k.val * 4096 + n.val) / 4096 = k.val
    omega
  · show (k.val * 4096 + n.val) % 32 = n.val % 32
    omega

theorem numOf_lt (l h w r : ℕ) : numOf l h w r < 4096 := by
  have hr := rowOf_lt l h r
  have hc := colOf_lt w r
  unfold numOf; omega

theorem word_toInt (l h w r : ℕ) : (BitVec.ofNat 32 (numOf l h w r)).toInt = numOf l h w r := by
  have hn := numOf_lt l h w r
  rw [BitVec.toInt_eq_toNat_of_lt (by rw [BitVec.toNat_ofNat]; omega), BitVec.toNat_ofNat]
  omega

/-- The gathered centre of a neighbour. -/
theorem v45_at (k : Fin 6) (r : Fin 27) (l : Fin 8) (h w : Fin 256) : val_main_v45 (F := Ideal) x1 (ix5 k r l h w)
    = x1 (ix3 ⟨rowOf l.val h.val r.val, rowOf_lt _ _ _⟩ k ⟨colOf w.val r.val, colOf_lt _ _⟩) := by
  have hr := rowOf_lt l.val h.val r.val
  have hc := colOf_lt w.val r.val
  have hn := numOf_lt l.val h.val w.val r.val
  have e : gather_S6x4096_S27x8x256x256x1_S6x27x8x256x256_0_1_n_n_1_4_61.operandIdx (ix5 k r l h w) (val_main_v44 (F := Ideal))
      = ix2 k ⟨numOf l.val h.val w.val r.val, hn⟩ := by
    funext a
    refine Fin.ext ?_
    fin_cases a
    · show 0 + 0 + k.val = k.val
      omega
    · show min (val_main_v44 (F := Ideal) (gather_S6x4096_S27x8x256x256x1_S6x27x8x256x256_0_1_n_n_1_4_61.siIdx (ix5 k r l h w) ⟨0, by decide⟩)).toInt.toNat 4095 + 0 + 0 = numOf l.val h.val w.val r.val
      have q : val_main_v44 (F := Ideal) (gather_S6x4096_S27x8x256x256x1_S6x27x8x256x256_0_1_n_n_1_4_61.siIdx (ix5 k r l h w) ⟨0, by decide⟩)
          = BitVec.ofNat 32 (numOf l.val h.val w.val r.val) := by
        rw [val_main_v44_apply, ← v41_at]
        refine congrArg (val_main_v41 (F := Ideal)) (funext fun b => ?_)
        fin_cases b <;> rfl
      rw [q, word_toInt]
      omega
  show val_main_v43 (F := Ideal) x1 (gather_S6x4096_S27x8x256x256x1_S6x27x8x256x256_0_1_n_n_1_4_61.operandIdx (ix5 k r l h w) (val_main_v44 (F := Ideal))) = _
  rw [e, v43_at]
  refine congrArg x1 (funext fun a => Fin.ext ?_)
  fin_cases a
  · show numOf l.val h.val w.val r.val / 32 = rowOf l.val h.val r.val
    unfold numOf; omega
  · rfl
  · show numOf l.val h.val w.val r.val % 32 = colOf w.val r.val
    unfold numOf; omega

theorem v48_at (k : Fin 6) (r : Fin 27) (l : Fin 8) (h w : Fin 256) : val_main_v48 (F := Ideal) x0 (ix5 k r l h w) = x0 (ix5 0 k l h w) := by
  unfold val_main_v48 val_main_v47 val_main_v46
  pointwise

/-- Minus the squared distance to a neighbour's centre. -/
theorem v52_at (r : Fin 27) (l : Fin 8) (h w : Fin 256) : val_main_v52 (F := Ideal) x0 x1 (ix4 r l h w)
    = scoreR (fun k => x0 (ix5 0 k l h w)) (fun k => x1 (ix3 ⟨rowOf l.val h.val r.val, rowOf_lt _ _ _⟩ k ⟨colOf w.val r.val, colOf_lt _ _⟩)) := by
  rw [val_main_v52_apply, Ideal.hostNegf_def]
  unfold val_main_v51 val_main_cst
  pointwise
  refine congrArg Neg.neg (Finset.sum_congr rfl fun k _ => ?_)
  rw [val_main_v50_apply, val_main_v49_apply, v48_at, v45_at]
  rfl

theorem bot_eq : Ideal.ofBits .f32 0xFF800000#32 = ⊥ := by simp [Ideal.ofBits, Ideal.ieee]

/-- The largest of a pixel's 27 numbers. -/
theorem fold_at (v : FVec Ideal S27x8x256x256 .f32) (l : Fin 8) (h w : Fin 256) :
    Host.reduce (FloatOps.maximumf (F := Ideal) (φ := .f32)) v (val_main_cst_17 (F := Ideal)) reducesTo_S27x8x256x256_S8x256x256_d0 h_S_ (ix3 l h w)
      = Finset.univ.fold max ⊥ fun r : Fin 27 => v (ix4 r l h w) := by
  rw [← bot_eq]
  unfold val_main_cst_17
  pointwise

theorem v55_at (l : Fin 8) (h w : Fin 256) : val_main_v55 (F := Ideal) x0 x1 (ix3 l h w)
    = Finset.univ.fold max ⊥ fun r : Fin 27 => val_main_v52 (F := Ideal) x0 x1 (ix4 r l h w) := by
  have e : val_main_v53 (F := Ideal) x0 x1 (ix3 l h w) = _ := fold_at (val_main_v52 (F := Ideal) x0 x1) l h w
  have e0 : val_main_v54 (F := Ideal) (ix3 l h w) = ⊥ := by rw [val_main_v54_apply]; exact bot_eq
  rw [val_main_v55_apply, e, e0, Ideal.maximumf_def]
  exact max_eq_right bot_le

theorem v63_at (r : Fin 27) (l : Fin 8) (h w : Fin 256) : val_main_v63 (F := Ideal) x0 x1 (ix4 r l h w)
    = Ideal.div (Ideal.exp (val_main_v52 (F := Ideal) x0 x1 (ix4 r l h w) - val_main_v55 (F := Ideal) x0 x1 (ix3 l h w)))
      (∑ k : Fin 27, Ideal.exp (val_main_v52 (F := Ideal) x0 x1 (ix4 k l h w) - val_main_v55 (F := Ideal) x0 x1 (ix3 l h w))) := by
  unfold val_main_v63 val_main_v62 val_main_v61 val_main_v60 val_main_cst_19 val_main_v59 val_main_v58 val_main_v57 val_main_v56
  pointwise

/-- The data of a pixel. -/
theorem v66_at (c : Fin 7) (l : Fin 8) (h w : Fin 256) : val_main_v66 (F := Ideal) x0 (ix4 c l h w) = datum (fun k => x0 (ix5 0 k l h w)) c := by
  unfold val_main_v66 val_main_v64 val_main_v65 val_main_cst_20 datum
  pointwise

/-- A neighbour's weighted data. -/
theorem v72_at (c : Fin 7) (r : Fin 27) (l : Fin 8) (h w : Fin 256) : val_main_v72 (F := Ideal) x0 x1 (ix5 c r l h w)
    = val_main_v63 (F := Ideal) x0 x1 (ix4 r l h w) * datum (fun k => x0 (ix5 0 k l h w)) c := by
  rw [← v66_at]
  unfold val_main_v72 val_main_v70 val_main_v68 val_main_v71 val_main_v69
  pointwise

/-- An update goes to its own row, at its neighbour's cell. -/
theorem lands (c d : Fin 7) (r : Fin 27) (l : Fin 8) (h w : Fin 256) (n : Fin 4096) :
    scatter_S7x4096_S27x8x256x256x1_S7x27x8x256x256_0_1_1_4.resultIdx? (ix5 c r l h w) (val_main_v73 (F := Ideal)) = some (ix2 d n)
      ↔ c = d ∧ numOf l.val h.val w.val r.val = n.val := by
  rw [Routing.resultIdx?_eq_some]
  refine Fin.forall_fin_two.trans ?_
  have q : val_main_v73 (F := Ideal) (scatter_S7x4096_S27x8x256x256x1_S7x27x8x256x256_0_1_1_4.siIdx (ix5 c r l h w) ⟨0, Nat.zero_lt_one⟩)
      = BitVec.ofNat 32 (numOf l.val h.val w.val r.val) := by
    rw [val_main_v73_apply, ← v41_at]
    refine congrArg (val_main_v41 (F := Ideal)) (funext fun b => ?_)
    fin_cases b <;> rfl
  have s0 : scatter_S7x4096_S27x8x256x256x1_S7x27x8x256x256_0_1_1_4.start (ix5 c r l h w) (val_main_v73 (F := Ideal)) 0 = 0 := by
    unfold ScatterDims.start
    exact dif_neg (by decide)
  have s1 : ∀ v : IVec S27x8x256x256x1 32, scatter_S7x4096_S27x8x256x256x1_S7x27x8x256x256_0_1_1_4.start (ix5 c r l h w) v 1
      = (v (scatter_S7x4096_S27x8x256x256x1_S7x27x8x256x256_0_1_1_4.siIdx (ix5 c r l h w) ⟨0, Nat.zero_lt_one⟩)).toInt := fun v => by
    unfold ScatterDims.start
    exact dif_pos (by decide)
  have w0 : scatter_S7x4096_S27x8x256x256x1_S7x27x8x256x256_0_1_1_4.window (ix5 c r l h w) 0 = c.val := rfl
  have w1 : scatter_S7x4096_S27x8x256x256x1_S7x27x8x256x256_0_1_1_4.window (ix5 c r l h w) 1 = 0 := rfl
  show _ + _ = ((d : ℕ) : Int) ∧ _ + _ = ((n : ℕ) : Int) ↔ _
  rw [s0, s1, w0, w1, q, word_toInt, Fin.ext_iff]
  omega

/-- The sums: over the updates that go to a cell. -/
theorem v74_at (c : Fin 7) (n : Fin 4096) : val_main_v74 (F := Ideal) x0 x1 (ix2 c n)
    = ∑ r : Fin 27, ∑ l : Fin 8, ∑ h : Fin 256, ∑ w : Fin 256,
        if numOf l.val h.val w.val r.val = n.val then val_main_v63 (F := Ideal) x0 x1 (ix4 r l h w) * datum (fun k => x0 (ix5 0 k l h w)) c else 0 := by
  have z : val_main_v67 (F := Ideal) (ix2 c n) = 0 := by
    rw [val_main_v67_apply, val_main_cst_21_apply]
    show Ideal.ofBits .f32 0x00000000#32 = 0
    simp [Ideal.ofBits, Ideal.ieee]
  unfold val_main_v74 Host.scatterAdd
  rw [Ideal.hostScatterAdd_def]
  unfold Ideal.hostScatterAdd
  rw [z, zero_add, Finset.sum_filter]
  refine (sum_idx5 _).trans ?_
  rw [Finset.sum_eq_single c]
  · refine Finset.sum_congr rfl fun r _ => Finset.sum_congr rfl fun l _ => Finset.sum_congr rfl fun h _ => Finset.sum_congr rfl fun w _ => ?_
    rw [v72_at]
    exact if_congr ((lands c c r l h w n).trans ⟨fun e => e.2, fun e => ⟨rfl, e⟩⟩) rfl rfl
  · intro d _ hd
    refine Finset.sum_eq_zero fun r _ => Finset.sum_eq_zero fun l _ => Finset.sum_eq_zero fun h _ => Finset.sum_eq_zero fun w _ => ?_
    exact if_neg fun e => hd ((lands d c r l h w n).1 e).1
  · intro e; exact absurd (Finset.mem_univ _) e

/-- The result's rows. -/
theorem v78_at (a : Fin 128) (c : Fin 7) (q : Fin 32) : val_main_v78 (F := Ideal) x0 x1 (ix3 a ⟨c.val, by omega⟩ q)
    = val_main_v74 (F := Ideal) x0 x1 (ix2 c ⟨a.val * 32 + q.val, by omega⟩) := by
  have e : val_main_v78 (F := Ideal) x0 x1 (ix3 a ⟨c.val, by omega⟩ q) = val_main_v76 (F := Ideal) x0 x1 (ix3 a c q) := by
    unfold val_main_v78
    pointwise
  rw [e, val_main_v76_apply, val_main_v75_apply]
  refine congrArg (val_main_v74 (F := Ideal) x0 x1) (funext fun b => Fin.ext ?_)
  fin_cases b
  · show ((c.val * 128 + a.val) * 32 + q.val) / 4096 = c.val
    omega
  · show ((c.val * 128 + a.val) * 32 + q.val) % 4096 = a.val * 32 + q.val
    omega

/-- The last row is zero. -/
theorem v78_last (a : Fin 128) (q : Fin 32) : val_main_v78 (F := Ideal) x0 x1 (ix3 a 7 q) = 0 := by
  unfold val_main_v78 val_main_v77 val_main_cst_22
  pointwise

end Cert.RTwoIdeal.Read
-- ==== Proof.Agree2.lean ====
module

public import proofs.«01_k».proof.Pre_finite2
public import proofs.«01_k».proof.Proof.Agree
public import proofs.«01_k».proof.Proof.Arrays2
public import proofs.«01_k».proof.Proof.RefAt2
public import Idealize.ShloMosaic.Lib.ReduceAll

@[expose] public section

set_option maxRecDepth 16384

noncomputable section

namespace Cert.Agree2

open Idealize.ShloMosaic Idealize.ShloMosaic.TcCoe Cert.Cell Cert.Pixel Cert.Sums Cert.KTwoIdeal Cert.KTwoIdeal.Gen Cert.RTwoIdeal.Read
open scoped BigOperators

/-! ## What the precondition says -/

theorem preFacts : Cert.Pre_finite2.Facts where
  bcast_S_S1x6x8x256x256 := by decide
  reducesTo_S1x6x8x256x256_S_d0_1_2_3_4 := by decide
  h_S_ := by decide
  bcast_S_S128x6x32 := by decide
  reducesTo_S128x6x32_S_d0_1_2 := by decide

variable (x0 : S1x6x8x256x256.Idx → EReal) (x1 : S128x6x32.Idx → EReal)

/-- Every feature and every centre is a real number. -/
def AllReal : Prop := (∀ i, ∃ a : ℝ, x0 i = a) ∧ ∀ i, ∃ a : ℝ, x1 i = a

theorem allReal (h : (@Cert.Pre_finite2.fn preFacts Ideal _ x0 x1 : IVec Cert.Pre_finite2.S_ 1) = fun _ => 1#1) : AllReal x0 x1 := by
  have e := IntOp.andi_eq_one.1 (congrFun h (fun a : Fin 0 => a.elim0))
  exact ⟨fun i => Cert.Agree.real_of_abs _ (Host.reduce_andi_all _ _ _ _ _ e.1 i), fun i => Cert.Agree.real_of_abs _ (Host.reduce_andi_all _ _ _ _ _ e.2 i)⟩

/-! ## The two programs at a pixel -/

variable {x0 x1}

/-- A pixel's 27 distances are real, and both programs' scores are these. -/
theorem pixel_real (hr : AllReal x0 x1) (l : Fin 8) (h w : Fin 256) : ∃ s : Fin 27 → ℝ,
    (∀ r : Fin 27, scoreK (fun k => x0 (ix5 0 k l h w)) (fun k => x1 (ix3 ⟨rowOf l.val h.val r.val, rowOf_lt _ _ _⟩ k ⟨colOf w.val r.val, colOf_lt _ _⟩)) = (s r : EReal))
      ∧ ∀ r, val_main_v52 (F := Ideal) x0 x1 (ix4 r l h w) = (s r : EReal) := by
  obtain ⟨h0, h1⟩ := hr
  choose f hf using h0
  choose g hg using h1
  refine ⟨fun r => Cert.Pixel.dist (fun k => f (ix5 0 k l h w)) (fun k => g (ix3 ⟨rowOf l.val h.val r.val, rowOf_lt _ _ _⟩ k ⟨colOf w.val r.val, colOf_lt _ _⟩)), fun r => ?_, fun r => ?_⟩
  · rw [← scoreK_real]
    exact congrArg₂ scoreK (funext fun k => hf _) (funext fun k => hg _)
  · rw [v52_at, ← scoreR_real]
    exact congrArg₂ scoreR (funext fun k => hf _) (funext fun k => hg _)

/-- The reference's shares of a pixel. -/
theorem v63_real (l : Fin 8) (h w : Fin 256) (s : Fin 27 → ℝ) (hs : ∀ r, val_main_v52 (F := Ideal) x0 x1 (ix4 r l h w) = (s r : EReal)) (r : Fin 27) :
    val_main_v63 (F := Ideal) x0 x1 (ix4 r l h w) = (soft s r : EReal) := by
  obtain ⟨i, hi, -⟩ := fold_max_mem (n := 26) fun r => val_main_v52 (F := Ideal) x0 x1 (ix4 r l h w)
  rw [v63_at, v55_at, hi]
  simp only [hs]
  exact share_shift s (s i) r

variable (m : (ℓ : Loc nD τ sig) → Buf (Elt Ideal) ℓ) (c : Dev nD)
variable (hr : AllReal (m ((c.tc : Thread nD τ).loc main_arg0)) (m ((c.tc : Thread nD τ).loc main_arg1)))
include hr

/-- What a pixel adds to a cell is its share times its datum. -/
theorem term_eq (t : Fin 128) (r : Fin 27) (d : Fin 7) (s : Fin 16) (w : Fin 256) :
    gP m c t r (ix2 s w) * fP m c t (ix3 d s w)
      = val_main_v63 (F := Ideal) (m ((c.tc : Thread nD τ).loc main_arg0)) (m ((c.tc : Thread nD τ).loc main_arg1)) (ix4 r (lineL t s) (lineH t s) w)
        * datum (fun k => m ((c.tc : Thread nD τ).loc main_arg0) (ix5 0 k (lineL t s) (lineH t s) w)) d := by
  obtain ⟨z, hk, h52⟩ := pixel_real hr (lineL t s) (lineH t s) w
  have hg : ∀ r, gP m c t r (ix2 s w) = Ideal.exp (z r : EReal) := fun r => by
    rw [gP_apply]; exact congrArg Ideal.exp (hk r)
  rw [fP_apply, v63_real _ _ _ z h52, mul_comm (datum _ _), ← mul_assoc]
  simp only [hg]
  rw [share_mul]
  rfl

/-- The kernel's sums are the reference's. -/
theorem sums_eq : (dats m 0 c).arrAt 2 cfg0.N
    = val_main_v78 (F := Ideal) (m ((c.tc : Thread nD τ).loc main_arg0)) (m ((c.tc : Thread nD τ).loc main_arg1)) := by
  rw [arr_sums]
  funext j
  obtain ⟨b, d, q, rfl⟩ : ∃ (b : Fin 128) (d : Fin 8) (q : Fin 32), j = ix3 b d q := ⟨j 0, j 1, j 2, (ix3_eta j).symm⟩
  rw [acc_at]
  by_cases hd : d.val < 7
  · obtain ⟨e, rfl⟩ : ∃ e : Fin 7, d = ⟨e.val, Nat.lt_succ_of_lt e.isLt⟩ := ⟨⟨d.val, hd⟩, rfl⟩
    rw [v78_at, v74_at, ← regroup (fun r l h w => val_main_v63 (F := Ideal) (m ((c.tc : Thread nD τ).loc main_arg0)) (m ((c.tc : Thread nD τ).loc main_arg1)) (ix4 r l h w)
        * datum (fun k => m ((c.tc : Thread nD τ).loc main_arg0) (ix5 0 k l h w)) e) b q]
    refine Finset.sum_congr rfl fun t _ => Finset.sum_congr rfl fun k _ => if_congr Iff.rfl ?_ rfl
    rw [tot_apply]
    refine Finset.sum_congr rfl fun d _ => Finset.sum_congr rfl fun w _ => if_congr Iff.rfl ?_ rfl
    exact Finset.sum_congr rfl fun s _ => term_eq m c hr t _ e s w
  · obtain rfl : d = 7 := Fin.ext (by have := d.isLt; show d.val = 7; omega)
    rw [v78_last]
    refine Finset.sum_eq_zero fun t _ => Finset.sum_eq_zero fun k _ => ?_
    rw [tot_last, ite_self]

end Cert.Agree2
-- ==== Proof.Body1.lean ====
module

public import proofs.«01_k».proof.Proof.Gen.KOneIdeal.Frame
public import proofs.«01_k».proof.Proof.BodyRun2

@[expose] public section

set_option maxRecDepth 16384

noncomputable section

namespace Cert.KOneIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Run
open Cert.KThreeIdeal.Gen (put_all window_all)
open Cert.KTwoIdeal.Gen (redMat)

variable {F : FTy → Type} [FloatOps F]

local notation "𝕄" => MT nD τ sig Unit (Elt F) ℕ (UR sig nD τ) ℕ

/-! ## The first call's body -/

variable (F) in
/-- Programs of the kernel's body. -/
abbrev PP (α : Type) := Prog (TpuEff nD τ sig (Elt F) Λ₀ .tc) α

/-- The scaled places along one axis, off the block's number `a` along it. -/
def placeV (s : BitVec 32) (n : BitVec 32) (a : ℕ) (v : IVec S2x8x256 32) : FVec F S2x8x256 .f32 :=
  mulf (broadcast S2x8x256 (Scalar.ofBits .f32 s)) (addf (broadcast S2x8x256 (Scalar.mulf (Scalar.ofBits .f32 n) (Scalar.sitofp .f32 (BitVec.ofNat 32 a)))) (sitofp .f32 v))

/-- The features of a block, off its colours. -/
def featV (i : grid0.Coords) (x : Vec F S1x3x2x8x256 .f32) : FVec F S6x2x8x256 .f32 :=
  concatenate S6x2x8x256 0
    [⟨S1x2x8x256, shapeCast S1x2x8x256 (placeV (F := F) 0x3FA00000#32 0x40000000#32 (i 0).val (iota .tc S2x8x256 32 [0] iota_S2x8x256_d0_w32)) shapeCasts_S2x8x256_S1x2x8x256⟩,
      ⟨S1x2x8x256, shapeCast S1x2x8x256 (placeV (F := F) 0x3EA00000#32 0x41000000#32 (i 1).val (iota .tc S2x8x256 32 [1] iota_S2x8x256_d1_w32)) shapeCasts_S2x8x256_S1x2x8x256⟩,
      ⟨S1x2x8x256, shapeCast S1x2x8x256 (mulf (broadcast S2x8x256 (Scalar.ofBits (F := F) .f32 0x3EA00000#32)) (sitofp .f32 (iota .tc S2x8x256 32 [2] iota_S2x8x256_d2_w32))) shapeCasts_S2x8x256_S1x2x8x256⟩,
      ⟨S3x2x8x256, mulf (broadcast S3x2x8x256 (Scalar.ofBits .f32 0x3E851EB8#32)) (shapeCast S3x2x8x256 x shapeCasts_S1x3x2x8x256_S3x2x8x256)⟩]
    concatenates_S1x2x8x256_S1x2x8x256_S1x2x8x256_S3x2x8x256_S6x2x8x256_d0

/-- The features as stored. -/
def featBlk (i : grid0.Coords) (x : Vec F S1x3x2x8x256 .f32) : Vec F S1x6x2x8x256 .f32 :=
  shapeCast S1x6x2x8x256 (featV i x) shapeCasts_S6x2x8x256_S1x6x2x8x256

/-- The means of features over each cell of the block. -/
def meanV (f : FVec F S6x2x8x256 .f32) : FVec F S6x32 .f32 :=
  mulf (matmul dot_S6x256_S256x32_S6x32_1_0_0_1_n_n (some .fp32)
      (multiReduction .add [1] S6x256 (shapeCast S6x16x256 f shapeCasts_S6x2x8x256_S6x16x256) 0x00000000#32 reduces_S6x16x256_S6x256 (.inl rfl) rfl) redMat (constant S6x32 .f32 0x00000000#32))
    (broadcast S6x32 (Scalar.ofBits .f32 0x3C000000#32))

/-- The means as stored. -/
def meanRow (f : FVec F S6x2x8x256 .f32) : Vec F S1x6x32 .f32 := shapeCast S1x6x32 (meanV f) shapeCasts_S6x32_S1x6x32

section
variable (c : Dev nD) (E : Set ℕ) (i : grid0.Coords)
variable (arg2 : Memref sig .tc .vmem S1x3x2x8x256 .f32) (harg2 : arg2.IsWhole) (arg3 : Memref sig .tc .vmem S1x6x2x8x256 .f32) (harg3 : arg3.IsWhole) (arg4 : Memref sig .tc .vmem S128x6x32 .f32) (harg4 : arg4.IsWhole)

/-- The body's loads and stores. -/
def body1 : PP F PUnit := do
  let x ← Prog.lift (.load arg2 (Rect.unit (s := S1x3x2x8x256) ![0, 0, 0, 0, 0] S1x3x2x8x256.size inb_S1x3x2x8x256_S1x3x2x8x256_0_0_0_0_0).toLoadRect (View.loadsAt_vmem h_S1x3x2x8x256))
  let _ ← Prog.lift (.load arg3 (Rect.unit (s := S1x6x2x8x256) ![0, 0, 0, 0, 0] S1x6x2x8x256.size inb_S1x6x2x8x256_S1x6x2x8x256_0_0_0_0_0).toLoadRect (View.loadsAt_vmem h_S1x6x2x8x256))
  Prog.lift (.store arg3 (Rect.unit (s := S1x6x2x8x256) ![0, 0, 0, 0, 0] S1x6x2x8x256.size inb_S1x6x2x8x256_S1x6x2x8x256_0_0_0_0_0) (featBlk i x) Finset.univ (View.stores_vmem_bits_univ h_S1x6x2x8x256 rfl) (.inl rfl))
  let _ ← Prog.lift (.load arg4 (Rect.unit (s := S128x6x32) (k0_off1 i) S1x6x32.size (k0_off1_inb i)).toLoadRect (View.loadsAt_vmem h_S1x6x32))
  Prog.lift (.store arg4 (Rect.unit (s := S128x6x32) (k0_off1 i) S1x6x32.size (k0_off1_inb i)) (meanRow (featV i x)) Finset.univ (View.stores_vmem_bits_univ h_S1x6x32 rfl) (.inl rfl))
  pure ⟨⟩

/-- The printed body is these. -/
theorem body1_eq : cc0__k1 (F := F) i arg2 harg2 arg3 harg3 arg4 harg4 = body1 i arg2 arg3 arg4 := by
  unfold cc0__k1 k0_part1 body1
  rfl

/-- What the body leaves. -/
theorem body1_run (x : Vec F S1x3x2x8x256 .f32) (y : Vec F S1x6x2x8x256 .f32) (z : Vec F S128x6x32 .f32) :
    iprop(owns (c : Thread nD τ) arg2 fullShare x ∗ owns (c : Thread nD τ) arg3 fullShare y ∗ owns (c : Thread nD τ) arg4 fullShare z)
      ⊢ wpB (defs₀ (F := F)) c E (body1 i arg2 arg3 arg4)
          (fun _ => iprop(owns (c : Thread nD τ) arg2 fullShare x ∗ owns (c : Thread nD τ) arg3 fullShare (featBlk i x)
            ∗ owns (c : Thread nD τ) arg4 fullShare (VecWindow.put (s := S128x6x32) z (k0_off1 i) S1x6x32.size (meanRow (featV i x))))) := by
  unfold body1
  iintro ⟨H2, H3, H4⟩
  rw [wpB_bind]
  iapply (own_load c E x) $$ H2
  iintro H2
  rw [window_all (s := S1x3x2x8x256) x ![0, 0, 0, 0, 0] inb_S1x3x2x8x256_S1x3x2x8x256_0_0_0_0_0]
  rw [wpB_bind]
  iapply (own_load c E y) $$ H3
  iintro H3
  rw [wpB_bind]
  iapply (own_store c E y) $$ H3
  iintro H3
  rw [put_all (s := S1x6x2x8x256) y ![0, 0, 0, 0, 0] inb_S1x6x2x8x256_S1x6x2x8x256_0_0_0_0_0]
  rw [wpB_bind]
  iapply (own_load c E z) $$ H4
  iintro H4
  rw [wpB_bind]
  iapply (own_store c E z) $$ H4
  iintro H4
  iapply (wpB_pure c E)
  isplitl [H2]; · iexact H2
  isplitl [H3]; · iexact H3
  iexact H4

end

end Cert.KOneIdeal.Gen
-- ==== Proof.Launch1.lean ====
module

public import proofs.«01_k».proof.Proof.Body1
public import Idealize.ShloMosaic.Lib.Pipeline.ArrRel

@[expose] public section

set_option maxRecDepth 16384

noncomputable section

namespace Cert.KOneIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Run
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the first call's pipeline -/

/-- The staging memrefs at point `t`. -/
abbrev ms2 (t : Fin cfg0.N) : Memref sig .tc .vmem S1x3x2x8x256 .f32 := win0_0.stage (cfg0.slots t 0)
abbrev ms3 (t : Fin cfg0.N) : Memref sig .tc .vmem S1x6x2x8x256 .f32 := win0_1.stage (cfg0.slots t 1)
abbrev ms4 (t : Fin cfg0.N) : Memref sig .tc .vmem S128x6x32 .f32 := win0_2.stage (cfg0.slots t 2)

/-- The block of colours at point `t`. -/
def xB (c : Dev nD) (t : Fin cfg0.N) : Vec F S1x3x2x8x256 .f32 := iblk m c 0 t

/-- What the buffer of means holds after point `t`, off what it held before. -/
def putMean (c : Dev nD) (t : Fin cfg0.N) (Y : Vec F S128x6x32 .f32) : Vec F S128x6x32 .f32 :=
  VecWindow.put (s := S128x6x32) Y (k0_off1 (grid0.coords t)) S1x6x32.size (meanRow (featV (grid0.coords t) (xB m c t)))

/-- The data: what each point leaves, off what it finds. The buffer of means starts at anything. -/
def rdat (c : Dev nD) : RDat τ (Elt F) Unit ℕ (UR sig nD τ) ℕ cfg0 c where
  A w := V m c (Pipeline.arrRef spec0 w)
  after w t := match w with
    | ⟨0, _⟩ => fun _ X => X = xB m c t
    | ⟨1, _⟩ => fun _ X => X = featBlk (grid0.coords t) (xB m c t)
    | ⟨2, _⟩ => fun Y X => X = putMean m c t Y
  Φ _ := Pipeline.ΦA spec0 c
  q _ := fullShare
  owed _ := 0

theorem A_eq (c : Dev nD) (w : Fin cfg0.W) : (rdat m c).A w = V m c (Pipeline.arrRef spec0 w) := by
  dsimp only [rdat]

theorem after_0 (c : Dev nD) (t : Fin cfg0.N) (Y X : Vec F S1x3x2x8x256 .f32) : (rdat m c).after 0 t Y X ↔ X = xB m c t := by dsimp only [rdat]; exact .rfl
theorem after_1 (c : Dev nD) (t : Fin cfg0.N) (Y X : Vec F S1x6x2x8x256 .f32) : (rdat m c).after 1 t Y X ↔ X = featBlk (grid0.coords t) (xB m c t) := by dsimp only [rdat]; exact .rfl
theorem after_2 (c : Dev nD) (t : Fin cfg0.N) (Y X : Vec F S128x6x32 .f32) : (rdat m c).after 2 t Y X ↔ X = putMean m c t Y := by dsimp only [rdat]; exact .rfl

/-- The body finds the block of colours. -/
theorem finds_0 (c : Dev nD) (t : Fin cfg0.N) (Y : Vec F S1x3x2x8x256 .f32) (h : (rdat m c).Finds 0 t Y) : Y = xB m c t := by
  obtain ⟨d, e⟩ := ((rdat m c).finds_of_fetch (fetch0_0 t) Y).mp h
  rw [e]
  unfold RDat.fetched RDat.blockOf xB iblk
  rw [A_eq]
  try rfl

theorem body_run_at (c : Dev nD) (t : Fin cfg0.N) (R : sProp 𝕄) (y : Vec F S1x6x2x8x256 .f32) (z : Vec F S128x6x32 .f32) :
    iprop(R ∗ owns (c : Thread nD τ) (ms2 t) fullShare (xB m c t) ∗ owns (c : Thread nD τ) (ms3 t) fullShare y ∗ owns (c : Thread nD τ) (ms4 t) fullShare z)
      ⊢ wp frame (wpE (defs₀ (F := F)) Variants.none c none) Set.univ (bodyAt0 t) (fun _ => iprop(R ∗ owns (c : Thread nD τ) (ms2 t) fullShare (xB m c t)
        ∗ owns (c : Thread nD τ) (ms3 t) fullShare (featBlk (grid0.coords t) (xB m c t)) ∗ owns (c : Thread nD τ) (ms4 t) fullShare (putMean m c t z))) := by
  rw [show (bodyAt0 (F := F) t) = body1 (grid0.coords t) (ms2 t) (ms3 t) (ms4 t) from body1_eq _ _ _ _ _ _ _]
  exact (sep_mono_right (body1_run c Set.univ (grid0.coords t) (ms2 t) (ms3 t) (ms4 t) (xB m c t) y z)).trans (wp_frame_l _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  have e := finds_0 m c t (Y 0) (hY 0)
  rw [e]
  rw [show (rdat m c).owesAt () t.succ = (rdat m c).owesAt () t.castSucc from rfl]
  rw [show (rdat m c).Φ t.succ = Pipeline.ΦA spec0 c from rfl, show (rdat m c).Φ t.castSucc = Pipeline.ΦA spec0 c from rfl]
  have hr := body_run_at m c t iprop(Pipeline.ΦA spec0 c ∗ (rdat m c).owesAt () t.castSucc) (Y 1) (Y 2)
  iintro ⟨Hg, Ho, H⟩
  iapply (hr.trans (wp_mono _ _ _ fun u => ?_))
  rotate_right 1
  · isplitl [Hg Ho]
    · isplitl [Hg]; · iexact Hg
      iexact Ho
    iexact H
  iintro ⟨⟨Hg, Ho⟩, H0, H1, H2⟩
  isplitl [Hg]; · iexact Hg
  isplitl [Ho]; · iexact Ho
  isplitl [H0]
  · iexists (xB m c t)
    isplitr
    · ipureintro; exact (after_0 m c t _ _).mpr rfl
    iexact H0
  isplitl [H1]
  · iexists (featBlk (grid0.coords t) (xB m c t))
    isplitr
    · ipureintro; exact (after_1 m c t _ _).mpr rfl
    iexact H1
  iexists (putMean m c t (Y 2))
  isplitr
  · ipureintro; exact (after_2 m c t _ _).mpr rfl
  iexact H2

/-! ## The run -/

set_option backward.isDefEq.respectTransparency.types false in
set_option maxHeartbeats 800000 in
/-- The launch: the arrays end as the data says, every counter at zero. -/
theorem run_quiescent : θ_run defs (onTc (τ := τ) (main (F := F))) (s₀ m ρ) (fun r => RDat.FramePost cfg0 (rdat m) (V m) r ∧ r.2.sem = fun _ => 0) :=
  RDat.θ_run_frame_track (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m)
    (hin := fun c => Idealize.SL.BI.Entails.refl _) (hout := fun c => Idealize.SL.BI.Entails.refl _)

theorem arg_kept (r : PUnit × MemSt nD τ sig (Elt F)) (h : RDat.FramePost cfg0 (rdat m) (V m) r) (c : Dev nD) :
    r.2.mem ((c.tc : Thread nD τ).loc main_arg0) = m ((c.tc : Thread nD τ).loc main_arg0) :=
  (RDat.FramePost.arr_in h c 0 rfl).trans ((A_eq m c 0).trans (V_main_arg0 m c))

/-- The argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => arg_kept m r h.1 c, h.2⟩) (run_quiescent m ρ)

end Cert.KOneIdeal.Gen
-- ==== Proof.Twin1.lean ====
module
public import proofs.«01_k».proof.Proof.Launch1
public import proofs.«01_k».proof.Proof.Gen.KOne.Frame
@[expose] public section
noncomputable section
open Idealize.ShloMosaic Idealize.SL.Sem
variable {F : FTy → Type} [FloatOps F]
attribute [local instance] Cert.KOne.Gen.facts Cert.KOneIdeal.Gen.facts
namespace Cert.Twin1

/-- The printed kernel and its idealization are one text. -/
theorem cc_eq : @Cert.KOne.cc0__k1 F _ _ = @Cert.KOneIdeal.cc0__k1 F _ _ := rfl

/-- So are their tables of bodies. -/
theorem defs₀_eq : Cert.KOne.defs₀ (F := F) = Cert.KOneIdeal.defs₀ (F := F) := by
  unfold Cert.KOne.defs₀ Cert.KOneIdeal.defs₀
  refine congrArg _ ?_
  funext l x
  match l, x with
  | 0, (t, s) =>
    dsimp only
    rw [cc_eq]
    have h0 : Cert.KOne.stage0_0 (s 0) = Cert.KOneIdeal.stage0_0 (s 0) := by
      generalize s 0 = k; match k with | 0 => rfl | 1 => rfl
    have h1 : Cert.KOne.stage0_1 (s 1) = Cert.KOneIdeal.stage0_1 (s 1) := by
      generalize s 1 = k; match k with | 0 => rfl | 1 => rfl
    have h2 : Cert.KOne.stage0_2 (s 2) = Cert.KOneIdeal.stage0_2 (s 2) := by
      generalize s 2 = k; match k with | 0 => rfl
    congr 1

theorem defs_eq : Cert.KOne.defs (F := F) = Cert.KOneIdeal.defs (F := F) := by
  unfold Cert.KOne.defs Cert.KOneIdeal.defs
  rw [defs₀_eq]
  rfl

/-- The printed kernel runs as its idealization does. -/
theorem frame (m : (ℓ : Loc Cert.KOne.nD Cert.KOne.τ Cert.KOne.sig) → Buf (Elt F) ℓ) (ρ : Dev Cert.KOne.nD → PrngReg) :
    θ_run (Cert.KOne.defs (F := F)) (onTc (τ := Cert.KOne.τ) (Cert.KOne.main (F := F))) ⟨m, fun _ => 0, ρ⟩ (fun r => (∀ c : Dev Cert.KOne.nD,
      r.2.mem ((c.tc : Thread Cert.KOne.nD Cert.KOne.τ).loc Cert.KOne.main_arg0) = m ((c.tc : Thread Cert.KOne.nD Cert.KOne.τ).loc Cert.KOne.main_arg0))
      ∧ r.2.sem = fun _ => 0) := by
  rw [defs_eq]
  exact Cert.KOneIdeal.Gen.frame m ρ

end Cert.Twin1
-- ==== Proof.Feat1.lean ====
module

public import proofs.«01_k».proof.Proof.Sums
public import Idealize.ShloMosaic.Lib.KernelVsHost

@[expose] public section

noncomputable section

namespace Cert.Feat

open Idealize.ShloMosaic Cert.Sums Cert.Cell
open scoped BigOperators

/-! ## Features and means -/

/-- The features of a pixel off its colours and its place. -/
def feat (x : Fin 3 → EReal) (l h w : ℕ) (k : Fin 6) : EReal :=
  if k.val = 0 then Ideal.ofBits .f32 0x3FA00000#32 * ((l : ℝ) : EReal)
  else if k.val = 1 then Ideal.ofBits .f32 0x3EA00000#32 * ((h : ℝ) : EReal)
  else if k.val = 2 then Ideal.ofBits .f32 0x3EA00000#32 * ((w : ℝ) : EReal)
  else Ideal.ofBits .f32 0x3E851EB8#32 * x ⟨k.val - 3, by omega⟩

/-- A small word as a number. -/
theorem word_num (n : ℕ) (hn : n < 1024) : (FloatOps.sitofp .f32 (BitVec.ofNat 32 n) : Ideal .f32) = ((n : ℝ) : EReal) := by
  show ((((BitVec.ofNat 32 n).toInt : ℤ) : ℝ) : EReal) = _
  have e : (BitVec.ofNat 32 n).toInt = n := by
    rw [BitVec.toInt_eq_toNat_of_lt (by rw [BitVec.toNat_ofNat]; omega), BitVec.toNat_ofNat]
    omega
  rw [e]; norm_cast

theorem two_eq : Ideal.ofBits .f32 0x40000000#32 = ((2 : ℝ) : EReal) := by
  simp [Ideal.ofBits, Ideal.ieee, -EReal.coe_mul] <;> norm_num
theorem eight_eq : Ideal.ofBits .f32 0x41000000#32 = ((8 : ℝ) : EReal) := by
  simp [Ideal.ofBits, Ideal.ieee, -EReal.coe_mul] <;> norm_num
theorem part_eq : Ideal.ofBits .f32 0x3C000000#32 = ((1 / 128 : ℝ) : EReal) := by
  simp [Ideal.ofBits, Ideal.ieee, -EReal.coe_mul] <;> norm_num

/-- A place off its block's number and its place in the block. -/
theorem place_two (a l : ℕ) (ha : a < 100) (hl : l < 100) :
    Ideal.ofBits .f32 0x40000000#32 * (FloatOps.sitofp .f32 (BitVec.ofNat 32 a) : Ideal .f32) + (FloatOps.sitofp .f32 (BitVec.ofNat 32 l) : Ideal .f32) = (((a * 2 + l : ℕ) : ℝ) : EReal) := by
  rw [word_num a (by omega), word_num l (by omega), two_eq, ← EReal.coe_mul, ← EReal.coe_add]
  congr 1; push_cast; ring
theorem place_eight (a l : ℕ) (ha : a < 100) (hl : l < 100) :
    Ideal.ofBits .f32 0x41000000#32 * (FloatOps.sitofp .f32 (BitVec.ofNat 32 a) : Ideal .f32) + (FloatOps.sitofp .f32 (BitVec.ofNat 32 l) : Ideal .f32) = (((a * 8 + l : ℕ) : ℝ) : EReal) := by
  rw [word_num a (by omega), word_num l (by omega), eight_eq, ← EReal.coe_mul, ← EReal.coe_add]
  congr 1; push_cast; ring

/-- The number of a pixel's own cell. -/
def ownNo (l h w : ℕ) : ℕ := (l / 2 * 32 + h / 8) * 32 + w / 8

/-- A sum over a cell's pixels is a sum over the lines of its block. -/
theorem sum_own (f : Fin 8 → Fin 256 → Fin 256 → EReal) (b : Fin 128) (q : Fin 32) :
    (∑ l : Fin 8, ∑ h : Fin 256, ∑ w : Fin 256, if ownNo l.val h.val w.val = b.val * 32 + q.val then f l h w else 0)
      = ∑ w : Fin 256, (∑ s : Fin 16, f (lineL b s) (lineH b s) w) * (if q.val = w.val / 8 then 1 else 0) := by
  rw [← sum_lines fun l h => ∑ w : Fin 256, if ownNo l.val h.val w.val = b.val * 32 + q.val then f l h w else 0]
  have e : ∀ (t : Fin 128) (s : Fin 16) (w : Fin 256), ownNo (lineL t s).val (lineH t s).val w.val = t.val * 32 + w.val / 8 := by
    intro t s w
    unfold ownNo lineL lineH
    dsimp only
    omega
  simp only [e]
  rw [Finset.sum_eq_single b]
  · rw [Finset.sum_comm]
    refine Finset.sum_congr rfl fun w _ => ?_
    by_cases h : q.val = w.val / 8
    · rw [if_pos h, mul_one]
      exact Finset.sum_congr rfl fun s _ => if_pos (by omega)
    · rw [if_neg h, mul_zero]
      exact Finset.sum_eq_zero fun s _ => if_neg (by omega)
  · intro t _ ht
    refine Finset.sum_eq_zero fun s _ => Finset.sum_eq_zero fun w _ => if_neg fun e => ht (Fin.ext ?_)
    have := w.isLt
    have := q.isLt
    omega
  · intro h; exact absurd (Finset.mem_univ _) h

/-- A cell has 128 pixels. -/
theorem count_own (q : Fin 32) : (∑ w : Fin 256, (∑ s : Fin 16, (1 : EReal)) * (if q.val = w.val / 8 then 1 else 0)) = ((128 : ℝ) : EReal) := by
  have e : ∀ w : Fin 256, (∑ s : Fin 16, (1 : EReal)) * (if q.val = w.val / 8 then 1 else 0) = (((if q.val = w.val / 8 then 16 else 0 : ℕ) : ℝ) : EReal) := by
    intro w
    split
    · rw [mul_one, Finset.sum_const, Finset.card_univ, Fintype.card_fin, nsmul_one]; norm_cast
    · simp
  simp only [e]
  rw [Cert.Pixel.coe_sum]
  congr 1
  have n : ∀ q : Fin 32, (∑ w : Fin 256, if q.val = w.val / 8 then 16 else 0 : ℕ) = 128 := by decide +kernel
  have := n q
  exact_mod_cast this

/-- A mean is a 128th of a sum. -/
theorem mean_eq (v : EReal) : Ideal.div v (max ((128 : ℝ) : EReal) 1) = v * ((1 / 128 : ℝ) : EReal) := by
  have h : max ((128 : ℝ) : EReal) 1 = ((128 : ℝ) : EReal) := max_eq_left (by rw [← EReal.coe_one]; exact EReal.coe_le_coe_iff.mpr (by norm_num))
  rw [h]
  unfold Ideal.div
  rw [if_neg (by rw [← EReal.coe_zero]; exact fun e => by have := EReal.coe_injective e; norm_num at this), ← EReal.coe_inv, one_div]

end Cert.Feat
-- ==== Proof.KernelAt1.lean ====
module

public import proofs.«01_k».proof.Proof.Body1
public import proofs.«01_k».proof.Proof.KernelAt2
public import proofs.«01_k».proof.Proof.Feat1

@[expose] public section

set_option maxRecDepth 16384

noncomputable section

namespace Cert.KOneIdeal.Gen

open Idealize.ShloMosaic Cert.Cell Cert.Pixel Cert.Run Cert.Feat
open Cert.KTwoIdeal.Gen (redMat redMat_col)
open scoped BigOperators

/-! ## The pieces of the first call at an index -/

theorem iota_0 (h : S2x8x256.Iotas .tc 32 [0]) (j : S2x8x256.Idx) : iota .tc S2x8x256 32 [0] h j = BitVec.ofNat 32 (j 0).val := by
  simp [iota]
theorem iota_1 (h : S2x8x256.Iotas .tc 32 [1]) (j : S2x8x256.Idx) : iota .tc S2x8x256 32 [1] h j = BitVec.ofNat 32 (j 1).val := by
  simp [iota]
theorem iota_2 (h : S2x8x256.Iotas .tc 32 [2]) (j : S2x8x256.Idx) : iota .tc S2x8x256 32 [2] h j = BitVec.ofNat 32 (j 2).val := by
  simp [iota]

/-- Four blocks of features, one after another. -/
theorem cat_at (y0 y1 y2 : FVec Ideal S1x2x8x256 .f32) (y3 : FVec Ideal S3x2x8x256 .f32) (k : Fin 6) (l : Fin 2) (h : Fin 8) (w : Fin 256) :
    concatenate S6x2x8x256 0 [⟨S1x2x8x256, y0⟩, ⟨S1x2x8x256, y1⟩, ⟨S1x2x8x256, y2⟩, ⟨S3x2x8x256, y3⟩] concatenates_S1x2x8x256_S1x2x8x256_S1x2x8x256_S3x2x8x256_S6x2x8x256_d0 (ix4 k l h w)
      = if k.val = 0 then y0 (ix4 0 l h w) else if k.val = 1 then y1 (ix4 0 l h w) else if k.val = 2 then y2 (ix4 0 l h w)
        else y3 (ix4 ⟨k.val - 3, by omega⟩ l h w) := by
  fin_cases k <;> pointwise

theorem cast_at (v : FVec Ideal S2x8x256 .f32) (l : Fin 2) (h : Fin 8) (w : Fin 256) :
    shapeCast S1x2x8x256 v shapeCasts_S2x8x256_S1x2x8x256 (ix4 0 l h w) = v (ix3 l h w) := by
  pointwise

theorem colour_at (x : Vec Ideal S1x3x2x8x256 .f32) (e : Fin 3) (l : Fin 2) (h : Fin 8) (w : Fin 256) :
    shapeCast S3x2x8x256 x shapeCasts_S1x3x2x8x256_S3x2x8x256 (ix4 e l h w) = x (ix5 0 e l h w) := by
  pointwise

/-- The features at an index. -/
theorem featV_at (i : grid0.Coords) (x : Vec Ideal S1x3x2x8x256 .f32) (k : Fin 6) (l : Fin 2) (h : Fin 8) (w : Fin 256) :
    featV i x (ix4 k l h w) = feat (fun e => x (ix5 0 e l h w)) ((i 0).val * 2 + l.val) ((i 1).val * 8 + h.val) w.val k := by
  have h0 : (i 0).val < 4 := (i 0).isLt
  have h1 : (i 1).val < 32 := (i 1).isLt
  unfold featV
  refine (cat_at _ _ _ _ k l h w).trans ?_
  unfold feat
  refine if_congr Iff.rfl ?_ (if_congr Iff.rfl ?_ (if_congr Iff.rfl ?_ ?_))
  · rw [cast_at, ← place_two (i 0).val l.val (by omega) (by omega)]
    exact congrArg (fun z => Ideal.ofBits .f32 0x3FA00000#32 * (_ + (FloatOps.sitofp .f32 z : Ideal .f32))) (iota_0 iota_S2x8x256_d0_w32 (ix3 l h w))
  · rw [cast_at, ← place_eight (i 1).val h.val (by omega) (by omega)]
    exact congrArg (fun z => Ideal.ofBits .f32 0x3EA00000#32 * (_ + (FloatOps.sitofp .f32 z : Ideal .f32))) (iota_1 iota_S2x8x256_d1_w32 (ix3 l h w))
  · rw [cast_at, ← word_num w.val (by omega)]
    exact congrArg (fun z => Ideal.ofBits .f32 0x3EA00000#32 * (FloatOps.sitofp .f32 z : Ideal .f32)) (iota_2 iota_S2x8x256_d2_w32 (ix3 l h w))
  · exact congrArg (fun z => Ideal.ofBits .f32 0x3E851EB8#32 * z) (colour_at x _ l h w)

theorem featBlk_at (i : grid0.Coords) (x : Vec Ideal S1x3x2x8x256 .f32) (k : Fin 6) (l : Fin 2) (h : Fin 8) (w : Fin 256) :
    featBlk i x (ix5 0 k l h w) = featV i x (ix4 k l h w) := by
  unfold featBlk
  generalize featV i x = y
  pointwise

theorem lines_at (f : FVec Ideal S6x2x8x256 .f32) (k : Fin 6) (s : Fin 16) (w : Fin 256) :
    shapeCast S6x16x256 f shapeCasts_S6x2x8x256_S6x16x256 (ix3 k s w) = f (ix4 k ⟨s.val / 8, by omega⟩ ⟨s.val % 8, by omega⟩ w) := by
  pointwise

/-- The means at an index. -/
theorem meanV_at (f : FVec Ideal S6x2x8x256 .f32) (k : Fin 6) (q : Fin 32) :
    meanV f (ix2 k q) = (∑ w : Fin 256, (∑ s : Fin 16, f (ix4 k ⟨s.val / 8, by omega⟩ ⟨s.val % 8, by omega⟩ w)) * (if q.val = w.val / 8 then 1 else 0)) * ((1 / 128 : ℝ) : EReal) := by
  rw [← part_eq]
  simp only [← lines_at, ← redMat_col]
  unfold meanV
  generalize shapeCast S6x16x256 f shapeCasts_S6x2x8x256_S6x16x256 = y
  generalize redMat (F := Ideal) = r
  pointwise [dot_S6x256_S256x32_S6x32_1_0_0_1_n_n]

theorem meanRow_at (f : FVec Ideal S6x2x8x256 .f32) (k : Fin 6) (q : Fin 32) : meanRow f (ix3 0 k q) = meanV f (ix2 k q) := by
  unfold meanRow
  generalize meanV f = y
  pointwise

/-- A row written at an index. -/
theorem put_row (a : Vec Ideal S128x6x32 .f32) (v : Vec Ideal S1x6x32 .f32) (n : ℕ) (b : Fin 128) (c : Fin 6) (q : Fin 32) (off : Fin 3 → ℕ) (hn : off = ![n, 0, 0]) :
    VecWindow.put (s := S128x6x32) a off S1x6x32.size v (ix3 b c q) = if n = b.val then v (ix3 0 c q) else a (ix3 b c q) := by
  subst hn
  unfold VecWindow.put
  by_cases h : n = b.val
  · rw [if_pos h, dif_pos]
    swap
    · intro e
      fin_cases e
      · show n ≤ b.val ∧ b.val < n + 1
        omega
      · show 0 ≤ c.val ∧ c.val < 0 + 6
        omega
      · show 0 ≤ q.val ∧ q.val < 0 + 32
        omega
    refine congrArg v (funext fun e => Fin.ext ?_)
    fin_cases e
    · show b.val - n = 0
      omega
    · show c.val - 0 = c.val
      omega
    · show q.val - 0 = q.val
      omega
  · rw [if_neg h]
    refine dif_neg fun e => h ?_
    have e0 : n ≤ b.val ∧ b.val < n + 1 := e 0
    omega

end Cert.KOneIdeal.Gen
-- ==== Proof.Arrays1.lean ====
module

public import proofs.«01_k».proof.Proof.Launch1
public import proofs.«01_k».proof.Proof.KernelAt1
public import proofs.«01_k».proof.Proof.Sums
public import Idealize.ShloMosaic.Lib.Pipeline.ValueKit

@[expose] public section

set_option maxRecDepth 16384

noncomputable section

namespace Cert.KOneIdeal.Gen

open Idealize.ShloMosaic Idealize.ShloMosaic.TcCoe Cert.Cell Cert.Pixel Cert.Sums Cert.Feat
open Idealize.ShloMosaic.Pipeline (Dat RDat Cfg Window)
open scoped BigOperators

/-! ## The blocks of the first call -/

/-- A point's number. -/
def pt (t : Fin 128) : Fin cfg0.N := t.cast N_0.symm

theorem coords_0 : ∀ t : Fin 128, (grid0.coords (pt t) 0).val = t.val / 32 :=
  (by decide +kernel : ∀ t : Fin 128, (grid0.coords (t.cast N_0.symm) 0).val = t.val / 32)
theorem coords_1 : ∀ t : Fin 128, (grid0.coords (pt t) 1).val = t.val % 32 :=
  (by decide +kernel : ∀ t : Fin 128, (grid0.coords (t.cast N_0.symm) 1).val = t.val % 32)

theorem at_0 : ∀ t : Fin 128, win0_0.index (pt t) = ![0, 0, t.val / 32, t.val % 32, 0] :=
  (by decide +kernel : ∀ t : Fin 128, win0_0.index (t.cast N_0.symm) = ![0, 0, t.val / 32, t.val % 32, 0])
theorem at_1 : ∀ t : Fin 128, win0_1.index (pt t) = ![0, 0, t.val / 32, t.val % 32, 0] :=
  (by decide +kernel : ∀ t : Fin 128, win0_1.index (t.cast N_0.symm) = ![0, 0, t.val / 32, t.val % 32, 0])

theorem off1_eq : ∀ t : Fin 128, k0_off1 (grid0.coords (pt t)) = ![t.val, 0, 0] :=
  (by decide +kernel : ∀ t : Fin 128, k0_off1 (grid0.coords (t.cast N_0.symm)) = ![t.val, 0, 0])

variable (m : (ℓ : Loc nD τ sig) → Buf (Elt Ideal) ℓ) (c : Dev nD)

theorem xB_apply (t : Fin 128) (e : Fin 3) (l : Fin 2) (h : Fin 8) (w : Fin 256) :
    xB m c (pt t) (ix5 0 e l h w) = m ((c.tc : Thread nD τ).loc main_arg0) (ix5 0 e ⟨t.val / 32 * 2 + l.val, by omega⟩ ⟨t.val % 32 * 8 + h.val, by omega⟩ w) := by
  unfold xB
  blk_simp [iblk, at_0]
  refine congrArg (m ((c.tc : Thread nD τ).loc main_arg0)) ?_
  blk_ext [at_0, ix5]

/-- The features of a pixel. -/
def featX (k : Fin 6) (l : Fin 8) (h w : Fin 256) : EReal :=
  feat (fun e => m ((c.tc : Thread nD τ).loc main_arg0) (ix5 0 e l h w)) l.val h.val w.val k

theorem featV_pt (t : Fin 128) (k : Fin 6) (l : Fin 2) (h : Fin 8) (w : Fin 256) :
    featV (grid0.coords (pt t)) (xB m c (pt t)) (ix4 k l h w) = featX m c k ⟨t.val / 32 * 2 + l.val, by omega⟩ ⟨t.val % 32 * 8 + h.val, by omega⟩ w := by
  rw [featV_at, coords_0, coords_1]
  unfold featX
  simp only [xB_apply]

/-- A mean over a cell. -/
def meanX (b : Fin 128) (k : Fin 6) (q : Fin 32) : EReal :=
  (∑ w : Fin 256, (∑ s : Fin 16, featX m c k (lineL b s) (lineH b s) w) * (if q.val = w.val / 8 then 1 else 0)) * ((1 / 128 : ℝ) : EReal)

theorem meanRow_pt (t : Fin 128) (k : Fin 6) (q : Fin 32) :
    meanRow (featV (grid0.coords (pt t)) (xB m c (pt t))) (ix3 0 k q) = meanX m c t k q := by
  rw [meanRow_at, meanV_at]
  simp only [featV_pt]
  rfl

/-- The array of features. -/
def featA : Vec Ideal S1x6x8x256x256 .f32 := fun j => featX m c (j 1) (j 2) (j 3) (j 4)
/-- The array of means. -/
def meanA : Vec Ideal S128x6x32 .f32 := fun j => meanX m c (j 0) (j 1) (j 2)

/-! ## The arrays at the end -/

theorem arr_feats (after : (w' : Fin cfg0.W) → Fin cfg0.N → (cfg0.win w').block.Idx → Elt Ideal (cfg0.win w').elt)
    (hL : ∀ u : Fin cfg0.N, after 1 u = featBlk (grid0.coords u) (xB m c u)) :
    ((rdat m c).withAfter after).arrAt 1 cfg0.N = featA m c := by
  refine ((rdat m c).withAfter after).arrAt_eq_of_covers 1 _ (by decide +kernel) fun t hf y => ?_
  blk_simp
  rw [RDat.withAfter_after, hL]
  obtain ⟨t, rfl⟩ : ∃ u : Fin 128, t = pt u := ⟨t.cast N_0, rfl⟩
  obtain ⟨a, k, l, h, w, rfl⟩ : ∃ (a : Fin 1) (k : Fin 6) (l : Fin 2) (h : Fin 8) (w : Fin 256), y = ix5 a k l h w := ⟨y 0, y 1, y 2, y 3, y 4, (ix5_eta y).symm⟩
  obtain rfl : a = 0 := Subsingleton.elim _ _
  refine (featBlk_at _ _ k l h w).trans ((featV_pt m c t k l h w).trans ?_)
  refine Eq.trans (b := featA m c (ix5 0 k ⟨t.val / 32 * 2 + l.val, by omega⟩ ⟨t.val % 32 * 8 + h.val, by omega⟩ w)) rfl (congrArg (featA m c) ?_)
  blk_ext [at_1, ix5]

/-- The rows of means written so far. -/
theorem leaves_means : ∀ (n : ℕ) (hn : n < 128) (X : Vec Ideal S128x6x32 .f32), (rdat m c).Leaves 2 (pt ⟨n, hn⟩) X →
    ∀ (b : Fin 128) (k : Fin 6) (q : Fin 32), b.val ≤ n → X (ix3 b k q) = meanX m c b k q := by
  intro n
  induction n with
  | zero =>
    intro hn X hX b k q hb
    obtain ⟨Y, -, hY⟩ := hX
    rw [(after_2 m c _ Y X).mp hY]
    unfold putMean
    refine (put_row Y _ 0 b k q _ (off1_eq ⟨0, hn⟩)).trans ?_
    rw [if_pos (by omega), meanRow_pt]
    exact congrArg (fun z => meanX m c z k q) (Fin.ext (by show 0 = b.val; omega))
  | succ n ih =>
    intro hn X hX b k q hb
    obtain ⟨Y, hF, hY⟩ := hX
    rw [(after_2 m c _ Y X).mp hY]
    unfold putMean
    refine (put_row Y _ (n + 1) b k q _ (off1_eq ⟨n + 1, hn⟩)).trans ?_
    by_cases h : n + 1 = b.val
    · rw [if_pos h, meanRow_pt]
      exact congrArg (fun z => meanX m c z k q) (Fin.ext h)
    · rw [if_neg h]
      refine ih (by omega) Y ?_ b k q (by omega)
      refine (((rdat m c).finds_of_pos ((cfg0.win 2).fetch_out rfl _) (Nat.succ_ne_zero n) Y).mp hF).resolve_left ?_
      rw [flush0_2]
      show ¬ n % 128 = 127
      omega

theorem arr_means (after : (w' : Fin cfg0.W) → Fin cfg0.N → (cfg0.win w').block.Idx → Elt Ideal (cfg0.win w').elt)
    (hL : (rdat m c).Leaves 2 (pt 127) (after 2 (pt 127))) :
    ((rdat m c).withAfter after).arrAt 2 cfg0.N = meanA m c := by
  refine ((rdat m c).withAfter after).arrAt_eq_of_after_last 2 (pt 127) (by decide +kernel) _ fun j => ?_
  rw [RDat.withAfter_after]
  obtain ⟨b, k, q, rfl⟩ : ∃ (b : Fin 128) (k : Fin 6) (q : Fin 32), j = ix3 b k q := ⟨j 0, j 1, j 2, (ix3_eta j).symm⟩
  refine (leaves_means m c 127 (by decide) _ hL b k q (by omega)).trans ?_
  rfl

/-- What the arrays hold after the run. -/
theorem arrays (r : PUnit × MemSt nD τ sig (Elt Ideal)) (h : RDat.FramePost cfg0 (rdat m) (V m) r) :
    r.2.mem ((c.tc : Thread nD τ).loc main_v0_0) = featA m c ∧ r.2.mem ((c.tc : Thread nD τ).loc main_v0_1) = meanA m c := by
  obtain ⟨after, hL, hA⟩ := h.exists_exact c
  refine ⟨(hA 1).trans (arr_feats m c after fun u => ?_), (hA 2).trans (arr_means m c after ?_)⟩
  · obtain ⟨Y, -, hY⟩ := hL 1 u (by rw [flush0_1]; try trivial)
    exact (after_1 m c u Y _).mp hY
  · exact hL 2 (pt 127) (by rw [flush0_2]; rfl)

end Cert.KOneIdeal.Gen
-- ==== Proof.RefAt1.lean ====
module

public import proofs.«01_k».proof.Proof.Gen.ROneIdeal.Read
public import proofs.«01_k».proof.Proof.Feat1
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select
public import Idealize.ShloMosaic.Lib.Pipeline.Value
public import Idealize.ShloMosaic.Lib.Routing.OpsPair

@[expose] public section

set_option maxRecDepth 16384

noncomputable section

namespace Cert.ROneIdeal.Read

open Cert.ROneIdeal Cert.ROneIdeal.Gen Idealize.ShloMosaic Idealize.ShloMosaic.TcCoe Cert.Cell Cert.Pixel Cert.Feat Cert.Sums
open scoped BigOperators

variable (x0 : S1x3x8x256x256.Idx → EReal)

/-! ## The first call's reference at an index -/

theorem v9_at (e : Fin 3) (l : Fin 8) (h w : Fin 256) : val_main_v9 (F := Ideal) x0 (ix4 e l h w) = x0 (ix5 0 e l h w) := by
  unfold val_main_v9
  pointwise

/-- The features of a pixel. -/
theorem v12_at (k : Fin 6) (l : Fin 8) (h w : Fin 256) :
    val_main_v12 (F := Ideal) x0 (ix4 k l h w) = feat (fun e => x0 (ix5 0 e l h w)) l.val h.val w.val k := by
  have hl := word_num l.val (by omega)
  have hh := word_num h.val (by omega)
  have hw := word_num w.val (by omega)
  have key : ∀ k : Fin 6, val_main_v12 (F := Ideal) x0 (ix4 k l h w) = if k.val = 0 then val_main_v4 (F := Ideal) (ix4 0 l h w)
      else if k.val = 1 then val_main_v6 (F := Ideal) (ix4 0 l h w) else if k.val = 2 then val_main_v8 (F := Ideal) (ix4 0 l h w)
      else val_main_v11 (F := Ideal) x0 (ix4 ⟨k.val - 3, by omega⟩ l h w) := by
    intro k
    unfold val_main_v12
    generalize val_main_v4 (F := Ideal) = y0
    generalize val_main_v6 (F := Ideal) = y1
    generalize val_main_v8 (F := Ideal) = y2
    generalize val_main_v11 (F := Ideal) x0 = y3
    fin_cases k <;> pointwise
  rw [key]
  unfold feat
  refine if_congr Iff.rfl ?_ (if_congr Iff.rfl ?_ (if_congr Iff.rfl ?_ ?_))
  · rw [← hl, val_main_v4_apply, val_main_v3_apply]; rfl
  · rw [← hh, val_main_v6_apply, val_main_v5_apply]; rfl
  · rw [← hw, val_main_v8_apply, val_main_v7_apply]; rfl
  · rw [val_main_v11_apply, val_main_v10_apply, v9_at]; rfl

theorem div_two : ∀ l : Fin 8, IntOp.divsi .host (BitVec.ofNat 32 l.val) 2#32 = BitVec.ofNat 32 (l.val / 2) := by decide +kernel
theorem div_eight : ∀ h : Fin 256, IntOp.divsi .host (BitVec.ofNat 32 h.val) 8#32 = BitVec.ofNat 32 (h.val / 8) := by decide +kernel

/-- The number of a pixel's cell. -/
theorem v27_at (l : Fin 8) (h w : Fin 256) : val_main_v27 (F := Ideal) (ix3 l h w) = BitVec.ofNat 32 (ownNo l.val h.val w.val) := by
  unfold ownNo
  rw [← cell_words, ← div_two, ← div_eight, ← div_eight]; rfl

theorem own_lt (l : Fin 8) (h w : Fin 256) : ownNo l.val h.val w.val < 4096 := by
  unfold ownNo; omega

theorem own_toInt (l : Fin 8) (h w : Fin 256) : (BitVec.ofNat 32 (ownNo l.val h.val w.val)).toInt = ownNo l.val h.val w.val := by
  have hn := own_lt l h w
  rw [BitVec.toInt_eq_toNat_of_lt (by rw [BitVec.toNat_ofNat]; omega), BitVec.toNat_ofNat]
  omega

/-- The data of a pixel. -/
theorem v29_at (c : Fin 7) (l : Fin 8) (h w : Fin 256) :
    val_main_v29 (F := Ideal) x0 (ix4 c l h w) = datum (feat (fun e => x0 (ix5 0 e l h w)) l.val h.val w.val) c := by
  have e : val_main_v29 (F := Ideal) x0 (ix4 c l h w) = datum (fun k => val_main_v12 (F := Ideal) x0 (ix4 k l h w)) c := by
    unfold val_main_v29 val_main_v28 val_main_cst_7 datum
    generalize val_main_v12 (F := Ideal) x0 = y
    pointwise
  rw [e]
  unfold datum
  simp only [v12_at]

/-- An update goes to its own row, at its pixel's cell. -/
theorem lands (c d : Fin 7) (l : Fin 8) (h w : Fin 256) (n : Fin 4096) :
    scatter_S7x4096_S8x256x256x1_S7x8x256x256_0_1_1_3.resultIdx? (ix4 c l h w) (val_main_v31 (F := Ideal)) = some (ix2 d n)
      ↔ c = d ∧ ownNo l.val h.val w.val = n.val := by
  rw [Routing.resultIdx?_eq_some]
  refine Fin.forall_fin_two.trans ?_
  have q : val_main_v31 (F := Ideal) (scatter_S7x4096_S8x256x256x1_S7x8x256x256_0_1_1_3.siIdx (ix4 c l h w) ⟨0, Nat.zero_lt_one⟩)
      = BitVec.ofNat 32 (ownNo l.val h.val w.val) := by
    rw [val_main_v31_apply, ← v27_at]
    refine congrArg (val_main_v27 (F := Ideal)) (funext fun b => ?_)
    fin_cases b <;> rfl
  have s0 : scatter_S7x4096_S8x256x256x1_S7x8x256x256_0_1_1_3.start (ix4 c l h w) (val_main_v31 (F := Ideal)) 0 = 0 := by
    unfold ScatterDims.start
    exact dif_neg (by decide)
  have s1 : ∀ v : IVec S8x256x256x1 32, scatter_S7x4096_S8x256x256x1_S7x8x256x256_0_1_1_3.start (ix4 c l h w) v 1
      = (v (scatter_S7x4096_S8x256x256x1_S7x8x256x256_0_1_1_3.siIdx (ix4 c l h w) ⟨0, Nat.zero_lt_one⟩)).toInt := fun v => by
    unfold ScatterDims.start
    exact dif_pos (by decide)
  have w0 : scatter_S7x4096_S8x256x256x1_S7x8x256x256_0_1_1_3.window (ix4 c l h w) 0 = c.val := rfl
  have w1 : scatter_S7x4096_S8x256x256x1_S7x8x256x256_0_1_1_3.window (ix4 c l h w) 1 = 0 := rfl
  show _ + _ = ((d : ℕ) : Int) ∧ _ + _ = ((n : ℕ) : Int) ↔ _
  rw [s0, s1, w0, w1, q, own_toInt, Fin.ext_iff]
  omega

/-- The sums: over the pixels of a cell. -/
theorem v32_at (c : Fin 7) (n : Fin 4096) : val_main_v32 (F := Ideal) x0 (ix2 c n)
    = ∑ l : Fin 8, ∑ h : Fin 256, ∑ w : Fin 256,
        if ownNo l.val h.val w.val = n.val then datum (feat (fun e => x0 (ix5 0 e l h w)) l.val h.val w.val) c else 0 := by
  have z : val_main_v30 (F := Ideal) (ix2 c n) = 0 := by
    rw [val_main_v30_apply, val_main_cst_8_apply]
    show Ideal.ofBits .f32 0x00000000#32 = 0
    simp [Ideal.ofBits, Ideal.ieee]
  unfold val_main_v32 Host.scatterAdd
  rw [Ideal.hostScatterAdd_def]
  unfold Ideal.hostScatterAdd
  rw [z, zero_add, Finset.sum_filter]
  refine (sum_idx4 _).trans ?_
  rw [Finset.sum_eq_single c]
  · refine Finset.sum_congr rfl fun l _ => Finset.sum_congr rfl fun h _ => Finset.sum_congr rfl fun w _ => ?_
    rw [v29_at]
    exact if_congr ((lands c c l h w n).trans ⟨fun e => e.2, fun e => ⟨rfl, e⟩⟩) rfl rfl
  · intro d _ hd
    refine Finset.sum_eq_zero fun l _ => Finset.sum_eq_zero fun h _ => Finset.sum_eq_zero fun w _ => ?_
    exact if_neg fun e => hd ((lands d c l h w n).1 e).1
  · intro e; exact absurd (Finset.mem_univ _) e

/-- A mean as the kernel forms it. -/
def meanAt (b : Fin 128) (k : Fin 6) (q : Fin 32) : EReal :=
  (∑ w : Fin 256, (∑ s : Fin 16, feat (fun e => x0 (ix5 0 e (lineL b s) (lineH b s) w)) (lineL b s).val (lineH b s).val w.val k) * (if q.val = w.val / 8 then 1 else 0))
    * ((1 / 128 : ℝ) : EReal)

/-- The sums of a cell, block by block. -/
theorem v32_own (c : Fin 7) (b : Fin 128) (q : Fin 32) : val_main_v32 (F := Ideal) x0 (ix2 c ⟨b.val * 32 + q.val, by omega⟩)
    = ∑ w : Fin 256, (∑ s : Fin 16, datum (feat (fun e => x0 (ix5 0 e (lineL b s) (lineH b s) w)) (lineL b s).val (lineH b s).val w.val) c) * (if q.val = w.val / 8 then 1 else 0) := by
  rw [v32_at]
  exact sum_own (fun l h w => datum (feat (fun e => x0 (ix5 0 e l h w)) l.val h.val w.val) c) b q

/-- The means. -/
theorem v38_at (b : Fin 128) (k : Fin 6) (q : Fin 32) : val_main_v38 (F := Ideal) x0 (ix2 k ⟨b.val * 32 + q.val, by omega⟩) = meanAt x0 b k q := by
  have e1 : val_main_v33 (F := Ideal) x0 (ix2 k ⟨b.val * 32 + q.val, by omega⟩) = val_main_v32 (F := Ideal) x0 (ix2 (⟨k.val, by omega⟩ : Fin 7) ⟨b.val * 32 + q.val, by omega⟩) := by
    rw [val_main_v33_apply]
    refine congrArg (val_main_v32 (F := Ideal) x0) (funext fun a => ?_)
    fin_cases a <;> rfl
  have e2 : val_main_v34 (F := Ideal) x0 (ix2 0 ⟨b.val * 32 + q.val, by omega⟩) = val_main_v32 (F := Ideal) x0 (ix2 (6 : Fin 7) ⟨b.val * 32 + q.val, by omega⟩) := by
    rw [val_main_v34_apply]
    refine congrArg (val_main_v32 (F := Ideal) x0) (funext fun a => ?_)
    fin_cases a <;> rfl
  have e3 : val_main_v37 (F := Ideal) x0 (ix2 k ⟨b.val * 32 + q.val, by omega⟩) = val_main_v36 (F := Ideal) x0 (ix2 0 ⟨b.val * 32 + q.val, by omega⟩) := by
    rw [val_main_v37_apply]
    refine congrArg (val_main_v36 (F := Ideal) x0) (funext fun a => ?_)
    fin_cases a <;> rfl
  have e4 : val_main_v35 (F := Ideal) (ix2 0 ⟨b.val * 32 + q.val, by omega⟩) = 1 := by
    rw [val_main_v35_apply]; exact Ideal.ofBits_one_f32
  have e5 : val_main_v32 (F := Ideal) x0 (ix2 (6 : Fin 7) ⟨b.val * 32 + q.val, by omega⟩) = ((128 : ℝ) : EReal) := by
    rw [v32_own, ← count_own q]; rfl
  rw [val_main_v38_apply, e1, e3, val_main_v36_apply, e2, e4, e5, v32_own, Ideal.maximumf_def]
  show Ideal.div _ _ = _
  rw [mean_eq]
  unfold meanAt
  refine congrArg (fun z : EReal => z * ((1 / 128 : ℝ) : EReal)) (Finset.sum_congr rfl fun w _ =>
    congrArg (fun z : EReal => z * (if q.val = w.val / 8 then 1 else 0)) (Finset.sum_congr rfl fun s _ => ?_))
  unfold datum
  exact dif_pos k.isLt

/-- The first call's features. -/
theorem v39_at (k : Fin 6) (l : Fin 8) (h w : Fin 256) :
    val_main_v39 (F := Ideal) x0 (ix5 0 k l h w) = feat (fun e => x0 (ix5 0 e l h w)) l.val h.val w.val k := by
  rw [val_main_v39_apply, ← v12_at]
  refine congrArg (val_main_v12 (F := Ideal) x0) (funext fun a => ?_)
  fin_cases a <;> rfl

/-- The first call's means. -/
theorem v41_at (b : Fin 128) (k : Fin 6) (q : Fin 32) : val_main_v41 (F := Ideal) x0 (ix3 b k q) = meanAt x0 b k q := by
  rw [val_main_v41_apply, val_main_v40_apply, ← v38_at]
  refine congrArg (val_main_v38 (F := Ideal) x0) (funext fun a => Fin.ext ?_)
  fin_cases a
  · show ((k.val * 128 + b.val) * 32 + q.val) / 4096 = k.val
    omega
  · show ((k.val * 128 + b.val) * 32 + q.val) % 4096 = b.val * 32 + q.val
    omega

end Cert.ROneIdeal.Read
-- ==== Proof.Agree1.lean ====
module

public import proofs.«01_k».proof.Proof.Arrays1
public import proofs.«01_k».proof.Proof.RefAt1

@[expose] public section

noncomputable section

namespace Cert.Agree1

open Idealize.ShloMosaic Idealize.ShloMosaic.TcCoe
open Cert.KOneIdeal.Gen (featA meanA featX meanX)

variable (m : (ℓ : Loc Cert.KOneIdeal.nD Cert.KOneIdeal.τ Cert.KOneIdeal.sig) → Buf (Elt Ideal) ℓ) (c : Dev Cert.KOneIdeal.nD)

/-- The kernel's features are the reference's. -/
theorem feats : featA m c = Cert.ROneIdeal.Read.val_main_v39 (F := Ideal) (m ((c.tc : Thread Cert.KOneIdeal.nD Cert.KOneIdeal.τ).loc Cert.KOneIdeal.main_arg0)) := by
  funext j
  obtain ⟨a, k, l, h, w, rfl⟩ : ∃ (a : Fin 1) (k : Fin 6) (l : Fin 8) (h w : Fin 256), j = ix5 a k l h w := ⟨j 0, j 1, j 2, j 3, j 4, (ix5_eta j).symm⟩
  obtain rfl : a = 0 := Subsingleton.elim _ _
  exact (Cert.ROneIdeal.Read.v39_at _ k l h w).symm

/-- The kernel's means are the reference's. -/
theorem means : meanA m c = Cert.ROneIdeal.Read.val_main_v41 (F := Ideal) (m ((c.tc : Thread Cert.KOneIdeal.nD Cert.KOneIdeal.τ).loc Cert.KOneIdeal.main_arg0)) := by
  funext j
  obtain ⟨b, k, q, rfl⟩ : ∃ (b : Fin 128) (k : Fin 6) (q : Fin 32), j = ix3 b k q := ⟨j 0, j 1, j 2, (ix3_eta j).symm⟩
  exact (Cert.ROneIdeal.Read.v41_at _ b k q).symm

end Cert.Agree1
-- ==== Proof.lean ====
module

public import proofs.«01_k».proof.Defs
public import proofs.«01_k».proof.Proof.Gen.KOne
public import proofs.«01_k».proof.Proof.Gen.KOne.Frame
public import proofs.«01_k».proof.Proof.Gen.KOneIdeal
public import proofs.«01_k».proof.Proof.Gen.KOneIdeal.Frame
public import proofs.«01_k».proof.Proof.Gen.ROneIdeal
public import proofs.«01_k».proof.Proof.Gen.ROneIdeal.Run
public import proofs.«01_k».proof.Proof.Gen.ROneIdeal.Read
public import proofs.«01_k».proof.Proof.Gen.KTwo
public import proofs.«01_k».proof.Proof.Gen.KTwo.Frame
public import proofs.«01_k».proof.Proof.Gen.KTwoIdeal
public import proofs.«01_k».proof.Proof.Gen.KTwoIdeal.Frame
public import proofs.«01_k».proof.Proof.Gen.RTwoIdeal.Read
public import proofs.«01_k».proof.Proof.Gen.KThree
public import proofs.«01_k».proof.Proof.Gen.KThree.Skeleton
public import proofs.«01_k».proof.Proof.Gen.KThree.Launch
public import proofs.«01_k».proof.Proof.Gen.KThree.Points
public import proofs.«01_k».proof.Proof.Gen.KThree.Frame
public import proofs.«01_k».proof.Proof.Gen.KThreeIdeal
public import proofs.«01_k».proof.Proof.Gen.KThreeIdeal.Skeleton
public import proofs.«01_k».proof.Proof.Gen.KThreeIdeal.Launch
public import proofs.«01_k».proof.Proof.Gen.KThreeIdeal.Points
public import proofs.«01_k».proof.Proof.Gen.KThreeIdeal.Frame
public import proofs.«01_k».proof.Proof.Gen.RThreeIdeal
public import proofs.«01_k».proof.Proof.Gen.RThreeIdeal.Run
public import proofs.«01_k».proof.Proof.Gen.RThreeIdeal.Read
public import proofs.«01_k».proof.Proof.Launch
public import proofs.«01_k».proof.Proof.Twin
public import proofs.«01_k».proof.Proof.Agree
public import proofs.«01_k».proof.Proof.Launch2
public import proofs.«01_k».proof.Proof.Twin2
public import proofs.«01_k».proof.Proof.Agree2
public import proofs.«01_k».proof.Proof.Launch1
public import proofs.«01_k».proof.Proof.Twin1
public import proofs.«01_k».proof.Proof.Agree1
public import Idealize.ShloMosaic.Adequacy
public import Idealize.ShloMosaic.Init

@[expose] public section

noncomputable section

namespace Cert.Proof

open Idealize.ShloMosaic Idealize.SL.Sem Cert.KThree

/-- The printed kernel and its idealization are one text: the launch of either runs as the other. -/
theorem frame_k : Cert.quiescent_KThree (hKThree := Cert.KThree.Gen.facts) := fun m ρ _ => Cert.Twin.frame (F := Bits) m ρ

theorem frame_ki : Cert.quiescent_KThreeIdeal (hKThreeIdeal := Cert.KThreeIdeal.Gen.facts) := fun m ρ _ => Cert.KThreeIdeal.Gen.frame (F := Ideal) m ρ

theorem frame_ki_finite : Cert.quiescent_KThreeIdeal_pre_finite (hKThreeIdeal := Cert.KThreeIdeal.Gen.facts) (hPre_finite := Cert.Agree.preFacts) :=
  fun m ρ _ => Cert.KThreeIdeal.Gen.frame (F := Ideal) m ρ

/-- The reference declares no semaphore. -/
theorem frame_r_all (m : (ℓ : Loc Cert.RThreeIdeal.nD Cert.RThreeIdeal.τ Cert.RThreeIdeal.sig) → Buf (Elt Ideal) ℓ) (ρ : Dev Cert.RThreeIdeal.nD → PrngReg) :
    θ_run (Cert.RThreeIdeal.defs (F := Ideal)) (onTc (τ := Cert.RThreeIdeal.τ) (Cert.RThreeIdeal.main (F := Ideal))) ⟨m, fun _ => 0, ρ⟩ (fun r => (∀ c : Dev Cert.RThreeIdeal.nD,
      r.2.mem ((c.tc : Thread Cert.RThreeIdeal.nD Cert.RThreeIdeal.τ).loc Cert.RThreeIdeal.main_arg0) = m ((c.tc : Thread Cert.RThreeIdeal.nD Cert.RThreeIdeal.τ).loc Cert.RThreeIdeal.main_arg0)
      ∧ r.2.mem ((c.tc : Thread Cert.RThreeIdeal.nD Cert.RThreeIdeal.τ).loc Cert.RThreeIdeal.main_arg1) = m ((c.tc : Thread Cert.RThreeIdeal.nD Cert.RThreeIdeal.τ).loc Cert.RThreeIdeal.main_arg1))
      ∧ r.2.sem = fun _ => 0) :=
  (θ_run Cert.RThreeIdeal.defs _ _).mono (fun r h => ⟨fun c => (h c).2.2.2, sem_eq_zero_of_no_sems (by decide) r.2⟩)
    (Cert.RThreeIdeal.Value.run (F := Ideal) m ρ)

theorem frame_r : Cert.quiescent_RThreeIdeal (hRThreeIdeal := Cert.RThreeIdeal.Gen.facts) := fun m ρ _ => frame_r_all m ρ

theorem frame_r_finite : Cert.quiescent_RThreeIdeal_pre_finite (hRThreeIdeal := Cert.RThreeIdeal.Gen.facts) (hPre_finite := Cert.Agree.preFacts) := fun m ρ _ => frame_r_all m ρ

/-- The shares, the numbers and the centres of the two programs are equal. -/
theorem algebraic : Cert.algebraic_KThreeIdeal_RThreeIdeal_pre_finite (hKThreeIdeal := Cert.KThreeIdeal.Gen.facts) (hRThreeIdeal := Cert.RThreeIdeal.Gen.facts) (hPre_finite := Cert.Agree.preFacts) := by
  intro m g m' g' hp hm
  have hr := fun c => Cert.Agree.allReal _ _ (hp c)
  refine ⟨fun c => Cert.RThreeIdeal.Read.val_main_v118 (F := Ideal) (m ((c.tc : Thread Cert.KThreeIdeal.nD Cert.KThreeIdeal.τ).loc Cert.KThreeIdeal.main_arg0)) (m ((c.tc : Thread Cert.KThreeIdeal.nD Cert.KThreeIdeal.τ).loc Cert.KThreeIdeal.main_arg1)),
    fun c => Cert.RThreeIdeal.Read.val_main_v119 (F := Ideal) (m ((c.tc : Thread Cert.KThreeIdeal.nD Cert.KThreeIdeal.τ).loc Cert.KThreeIdeal.main_arg0)) (m ((c.tc : Thread Cert.KThreeIdeal.nD Cert.KThreeIdeal.τ).loc Cert.KThreeIdeal.main_arg1)),
    fun c => Cert.RThreeIdeal.Read.val_main_v5 (F := Ideal) (m ((c.tc : Thread Cert.KThreeIdeal.nD Cert.KThreeIdeal.τ).loc Cert.KThreeIdeal.main_arg1)), ?_, ?_⟩
  · refine (θ_run Cert.KThreeIdeal.defs _ _).mono (fun r h c => ?_) (Cert.KThreeIdeal.Gen.run_quiescent (F := Ideal) m g)
    exact ⟨((h.1 c).1 2).trans (Cert.Agree.shares_eq m c (hr c)), ((h.1 c).1 3).trans (Cert.Agree.numbers_eq m c (hr c)),
      ((h.1 c).1 4).trans ((Cert.KThreeIdeal.Gen.arr_centres m c).trans (Cert.Agree.ctr_eq m c)),
      ((h.1 c).1 0).trans (((Cert.KThreeIdeal.Gen.dats m 0 c).arrAt_in 0 rfl _).trans ((Cert.KThreeIdeal.Gen.A_eq m c 0).trans (Cert.KThreeIdeal.Gen.V_main_arg0 m c))),
      ((h.1 c).1 1).trans (((Cert.KThreeIdeal.Gen.dats m 0 c).arrAt_in 1 rfl _).trans ((Cert.KThreeIdeal.Gen.A_eq m c 1).trans (Cert.KThreeIdeal.Gen.V_main_arg1 m c)))⟩
  · refine (θ_run Cert.RThreeIdeal.defs _ _).mono (fun r h c => ?_) (Cert.RThreeIdeal.Value.run (F := Ideal) m' g')
    refine ⟨(h c).1.trans ((Cert.RThreeIdeal.Read.val_main_v118_eq _).trans ?_), (h c).2.1.trans ((Cert.RThreeIdeal.Read.val_main_v119_eq _).trans ?_),
      (h c).2.2.1.trans ((Cert.RThreeIdeal.Read.val_main_v5_eq _).trans ?_), (h c).2.2.2⟩
    · exact congrArg₂ (Cert.RThreeIdeal.Read.val_main_v118 (F := Ideal)) (hm c).1 (hm c).2
    · exact congrArg₂ (Cert.RThreeIdeal.Read.val_main_v119 (F := Ideal)) (hm c).1 (hm c).2
    · exact congrArg (Cert.RThreeIdeal.Read.val_main_v5 (F := Ideal)) (hm c).2

/-! ## The second call -/

theorem frame_k2 : Cert.quiescent_KTwo (hKTwo := Cert.KTwo.Gen.facts) := fun m ρ _ => Cert.Twin2.frame (F := Bits) m ρ

theorem frame_ki2 : Cert.quiescent_KTwoIdeal (hKTwoIdeal := Cert.KTwoIdeal.Gen.facts) := fun m ρ _ => Cert.KTwoIdeal.Gen.frame (F := Ideal) m ρ

theorem frame_ki2_finite2 : Cert.quiescent_KTwoIdeal_pre_finite2 (hKTwoIdeal := Cert.KTwoIdeal.Gen.facts) (hPre_finite2 := Cert.Agree2.preFacts) :=
  fun m ρ _ => Cert.KTwoIdeal.Gen.frame (F := Ideal) m ρ

/-- The reference declares no semaphore. -/
theorem frame_r2_all (m : (ℓ : Loc Cert.RTwoIdeal.nD Cert.RTwoIdeal.τ Cert.RTwoIdeal.sig) → Buf (Elt Ideal) ℓ) (ρ : Dev Cert.RTwoIdeal.nD → PrngReg) :
    θ_run (Cert.RTwoIdeal.defs (F := Ideal)) (onTc (τ := Cert.RTwoIdeal.τ) (Cert.RTwoIdeal.main (F := Ideal))) ⟨m, fun _ => 0, ρ⟩ (fun r => (∀ c : Dev Cert.RTwoIdeal.nD,
      r.2.mem ((c.tc : Thread Cert.RTwoIdeal.nD Cert.RTwoIdeal.τ).loc Cert.RTwoIdeal.main_arg0) = m ((c.tc : Thread Cert.RTwoIdeal.nD Cert.RTwoIdeal.τ).loc Cert.RTwoIdeal.main_arg0)
      ∧ r.2.mem ((c.tc : Thread Cert.RTwoIdeal.nD Cert.RTwoIdeal.τ).loc Cert.RTwoIdeal.main_arg1) = m ((c.tc : Thread Cert.RTwoIdeal.nD Cert.RTwoIdeal.τ).loc Cert.RTwoIdeal.main_arg1))
      ∧ r.2.sem = fun _ => 0) :=
  (θ_run Cert.RTwoIdeal.defs _ _).mono (fun r h => ⟨fun c => (h c).2, sem_eq_zero_of_no_sems (by decide) r.2⟩)
    (Cert.RTwoIdeal.Value.run (F := Ideal) m ρ)

theorem frame_r2 : Cert.quiescent_RTwoIdeal (hRTwoIdeal := Cert.RTwoIdeal.Gen.facts) := fun m ρ _ => frame_r2_all m ρ

theorem frame_r2_finite2 : Cert.quiescent_RTwoIdeal_pre_finite2 (hRTwoIdeal := Cert.RTwoIdeal.Gen.facts) (hPre_finite2 := Cert.Agree2.preFacts) := fun m ρ _ => frame_r2_all m ρ

/-- The sums of the two programs are equal. -/
theorem algebraic2 : Cert.algebraic_KTwoIdeal_RTwoIdeal_pre_finite2 (hKTwoIdeal := Cert.KTwoIdeal.Gen.facts) (hRTwoIdeal := Cert.RTwoIdeal.Gen.facts) (hPre_finite2 := Cert.Agree2.preFacts) := by
  intro m g m' g' hp hm
  have hr := fun c => Cert.Agree2.allReal _ _ (hp c)
  refine ⟨fun c => Cert.RTwoIdeal.Read.val_main_v78 (F := Ideal) (m ((c.tc : Thread Cert.KTwoIdeal.nD Cert.KTwoIdeal.τ).loc Cert.KTwoIdeal.main_arg0)) (m ((c.tc : Thread Cert.KTwoIdeal.nD Cert.KTwoIdeal.τ).loc Cert.KTwoIdeal.main_arg1)), ?_, ?_⟩
  · refine (θ_run Cert.KTwoIdeal.defs _ _).mono (fun r h c => ?_) (Cert.KTwoIdeal.Gen.run_quiescent (F := Ideal) m g)
    exact ⟨((h.1 c).1 2).trans (Cert.Agree2.sums_eq m c (hr c)),
      ((h.1 c).1 0).trans (((Cert.KTwoIdeal.Gen.dats m 0 c).arrAt_in 0 rfl _).trans ((Cert.KTwoIdeal.Gen.A_eq m c 0).trans (Cert.KTwoIdeal.Gen.V_main_arg0 m c))),
      ((h.1 c).1 1).trans (((Cert.KTwoIdeal.Gen.dats m 0 c).arrAt_in 1 rfl _).trans ((Cert.KTwoIdeal.Gen.A_eq m c 1).trans (Cert.KTwoIdeal.Gen.V_main_arg1 m c)))⟩
  · refine (θ_run Cert.RTwoIdeal.defs _ _).mono (fun r h c => ?_) (Cert.RTwoIdeal.Value.run (F := Ideal) m' g')
    refine ⟨(h c).1.trans ((Cert.RTwoIdeal.Read.val_main_v78_eq _ _).trans ?_), (h c).2⟩
    exact congrArg₂ (Cert.RTwoIdeal.Read.val_main_v78 (F := Ideal)) (hm c).1 (hm c).2

/-! ## The first call -/

theorem frame_k1 : Cert.quiescent_KOne (hKOne := Cert.KOne.Gen.facts) := fun m ρ _ => Cert.Twin1.frame (F := Bits) m ρ

theorem frame_ki1 : Cert.quiescent_KOneIdeal (hKOneIdeal := Cert.KOneIdeal.Gen.facts) := fun m ρ _ => Cert.KOneIdeal.Gen.frame (F := Ideal) m ρ

/-- The reference declares no semaphore. -/
theorem frame_r1 : Cert.quiescent_ROneIdeal (hROneIdeal := Cert.ROneIdeal.Gen.facts) := fun m ρ _ =>
  (θ_run Cert.ROneIdeal.defs _ _).mono (fun r h => ⟨fun c => (h c).2.2, sem_eq_zero_of_no_sems (by decide) r.2⟩)
    (Cert.ROneIdeal.Value.run (F := Ideal) m ρ)

/-- The features and the means of the two programs are equal. -/
theorem algebraic1 : Cert.algebraic_KOneIdeal_ROneIdeal (hKOneIdeal := Cert.KOneIdeal.Gen.facts) (hROneIdeal := Cert.ROneIdeal.Gen.facts) := by
  intro m g m' g' hp hm
  refine ⟨fun c => Cert.ROneIdeal.Read.val_main_v39 (F := Ideal) (m ((c.tc : Thread Cert.KOneIdeal.nD Cert.KOneIdeal.τ).loc Cert.KOneIdeal.main_arg0)),
    fun c => Cert.ROneIdeal.Read.val_main_v41 (F := Ideal) (m ((c.tc : Thread Cert.KOneIdeal.nD Cert.KOneIdeal.τ).loc Cert.KOneIdeal.main_arg0)), ?_, ?_⟩
  · refine (θ_run Cert.KOneIdeal.defs _ _).mono (fun r h c => ?_) (Cert.KOneIdeal.Gen.run_quiescent (F := Ideal) m g)
    have ha := Cert.KOneIdeal.Gen.arrays m c r h.1
    exact ⟨ha.1.trans (Cert.Agree1.feats m c), ha.2.trans (Cert.Agree1.means m c), Cert.KOneIdeal.Gen.arg_kept m r h.1 c⟩
  · refine (θ_run Cert.ROneIdeal.defs _ _).mono (fun r h c => ?_) (Cert.ROneIdeal.Value.run (F := Ideal) m' g')
    refine ⟨(h c).1.trans ((Cert.ROneIdeal.Read.val_main_v39_eq _).trans ?_), (h c).2.1.trans ((Cert.ROneIdeal.Read.val_main_v41_eq m' c).trans ?_), (h c).2.2⟩
    · exact congrArg (Cert.ROneIdeal.Read.val_main_v39 (F := Ideal)) (hm c)
    · exact congrArg (Cert.ROneIdeal.Read.val_main_v41 (F := Ideal)) (hm c)

theorem claim : Cert.Claim := ⟨Cert.KThree.Gen.facts, Cert.KThreeIdeal.Gen.facts, Cert.RThreeIdeal.Gen.facts, Cert.KTwo.Gen.facts, Cert.KTwoIdeal.Gen.facts, Cert.RTwoIdeal.Gen.facts,
  Cert.KOne.Gen.facts, Cert.KOneIdeal.Gen.facts, Cert.ROneIdeal.Gen.facts,
  Cert.Agree.preFacts, Cert.Agree2.preFacts, frame_k, frame_ki, frame_ki_finite, frame_r, frame_r_finite, frame_k2, frame_ki2, frame_ki2_finite2, frame_r2, frame_r2_finite2,
  frame_k1, frame_ki1, frame_r1, trivial, algebraic, trivial, algebraic2, trivial, algebraic1⟩

end Cert.Proof

end
